-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_finite_gates [hPre_finite_gates : Cert.Pre_finite_gates.Facts] (m : (ℓ : Loc Cert.GateIdeal.nD Cert.GateIdeal.τ Cert.GateIdeal.sig) → Buf (Elt Ideal) ℓ) : Prop :=
  ∀ c : Dev Cert.GateIdeal.nD,
    (Cert.Pre_finite_gates.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).1 = (fun _ => 1#1)
    ∧ (Cert.Pre_finite_gates.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).2 = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_finite_gates [hPre_finite_gates : Cert.Pre_finite_gates.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_finite_gates.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).1 = (fun _ => 1#1)
    ∧ (Cert.Pre_finite_gates.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).2 = (fun _ => 1#1)

def Pre_Chunk (m : (ℓ : Loc Cert.Chunk.nD Cert.Chunk.τ Cert.Chunk.sig) → Buf (Elt Bits) ℓ) : Prop :=
  True

def Pre_ChunkIdeal (m : (ℓ : Loc Cert.ChunkIdeal.nD Cert.ChunkIdeal.τ Cert.ChunkIdeal.sig) → Buf (Elt Ideal) ℓ) : Prop :=
  True

def Pre_ChunkIdeal_finite_chunk [hPre_finite_chunk : Cert.Pre_finite_chunk.Facts] (m : (ℓ : Loc Cert.ChunkIdeal.nD Cert.ChunkIdeal.τ Cert.ChunkIdeal.sig) → Buf (Elt Ideal) ℓ) : Prop :=
  ∀ c : Dev Cert.ChunkIdeal.nD,
    (Cert.Pre_finite_chunk.fn (F := Ideal) (m ((c.tc : Thread Cert.ChunkIdeal.nD Cert.ChunkIdeal.τ).loc Cert.ChunkIdeal.main_arg0)) (m ((c.tc : Thread Cert.ChunkIdeal.nD Cert.ChunkIdeal.τ).loc Cert.ChunkIdeal.main_arg1))).1 = (fun _ => 1#1)
    ∧ (Cert.Pre_finite_chunk.fn (F := Ideal) (m ((c.tc : Thread Cert.ChunkIdeal.nD Cert.ChunkIdeal.τ).loc Cert.ChunkIdeal.main_arg0)) (m ((c.tc : Thread Cert.ChunkIdeal.nD Cert.ChunkIdeal.τ).loc Cert.ChunkIdeal.main_arg1))).2 = (fun _ => 1#1)

def Pre_ChunkRefIdeal (m : (ℓ : Loc Cert.ChunkRefIdeal.nD Cert.ChunkRefIdeal.τ Cert.ChunkRefIdeal.sig) → Buf (Elt Ideal) ℓ) : Prop :=
  True

def Pre_ChunkRefIdeal_finite_chunk [hPre_finite_chunk : Cert.Pre_finite_chunk.Facts] (m : (ℓ : Loc Cert.ChunkRefIdeal.nD Cert.ChunkRefIdeal.τ Cert.ChunkRefIdeal.sig) → Buf (Elt Ideal) ℓ) : Prop :=
  ∀ c : Dev Cert.ChunkRefIdeal.nD,
    (Cert.Pre_finite_chunk.fn (F := Ideal) (m ((c.tc : Thread Cert.ChunkRefIdeal.nD Cert.ChunkRefIdeal.τ).loc Cert.ChunkRefIdeal.main_arg0)) (m ((c.tc : Thread Cert.ChunkRefIdeal.nD Cert.ChunkRefIdeal.τ).loc Cert.ChunkRefIdeal.main_arg1))).1 = (fun _ => 1#1)
    ∧ (Cert.Pre_finite_chunk.fn (F := Ideal) (m ((c.tc : Thread Cert.ChunkRefIdeal.nD Cert.ChunkRefIdeal.τ).loc Cert.ChunkRefIdeal.main_arg0)) (m ((c.tc : Thread Cert.ChunkRefIdeal.nD Cert.ChunkRefIdeal.τ).loc Cert.ChunkRefIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateIdeal_pre_finite_gates [hGateIdeal : Cert.GateIdeal.Facts] [hPre_finite_gates : Cert.Pre_finite_gates.Facts] : Prop :=
  ∀ (m : (ℓ : Loc Cert.GateIdeal.nD Cert.GateIdeal.τ Cert.GateIdeal.sig) → Buf (Elt Ideal) ℓ) (g : Dev Cert.GateIdeal.nD → PrngReg), Pre_GateIdeal_finite_gates m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_GateRefIdeal_pre_finite_gates [hGateRefIdeal : Cert.GateRefIdeal.Facts] [hPre_finite_gates : Cert.Pre_finite_gates.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_finite_gates m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_Chunk [hChunk : Cert.Chunk.Facts] : Prop :=
  ∀ (m : (ℓ : Loc Cert.Chunk.nD Cert.Chunk.τ Cert.Chunk.sig) → Buf (Elt Bits) ℓ) (g : Dev Cert.Chunk.nD → PrngReg), Pre_Chunk m →
    θ_run (Cert.Chunk.defs (F := Bits)) (onTc (τ := Cert.Chunk.τ) (Cert.Chunk.main (F := Bits))) ⟨m, fun _ => 0, g⟩ (fun r => (∀ c : Dev Cert.Chunk.nD,
      r.2.mem ((c.tc : Thread Cert.Chunk.nD Cert.Chunk.τ).loc Cert.Chunk.main_arg0) = m ((c.tc : Thread Cert.Chunk.nD Cert.Chunk.τ).loc Cert.Chunk.main_arg0)
      ∧ r.2.mem ((c.tc : Thread Cert.Chunk.nD Cert.Chunk.τ).loc Cert.Chunk.main_arg1) = m ((c.tc : Thread Cert.Chunk.nD Cert.Chunk.τ).loc Cert.Chunk.main_arg1))
      ∧ r.2.sem = fun _ => 0)

def quiescent_ChunkIdeal [hChunkIdeal : Cert.ChunkIdeal.Facts] : Prop :=
  ∀ (m : (ℓ : Loc Cert.ChunkIdeal.nD Cert.ChunkIdeal.τ Cert.ChunkIdeal.sig) → Buf (Elt Ideal) ℓ) (g : Dev Cert.ChunkIdeal.nD → PrngReg), Pre_ChunkIdeal m →
    θ_run (Cert.ChunkIdeal.defs (F := Ideal)) (onTc (τ := Cert.ChunkIdeal.τ) (Cert.ChunkIdeal.main (F := Ideal))) ⟨m, fun _ => 0, g⟩ (fun r => (∀ c : Dev Cert.ChunkIdeal.nD,
      r.2.mem ((c.tc : Thread Cert.ChunkIdeal.nD Cert.ChunkIdeal.τ).loc Cert.ChunkIdeal.main_arg0) = m ((c.tc : Thread Cert.ChunkIdeal.nD Cert.ChunkIdeal.τ).loc Cert.ChunkIdeal.main_arg0)
      ∧ r.2.mem ((c.tc : Thread Cert.ChunkIdeal.nD Cert.ChunkIdeal.τ).loc Cert.ChunkIdeal.main_arg1) = m ((c.tc : Thread Cert.ChunkIdeal.nD Cert.ChunkIdeal.τ).loc Cert.ChunkIdeal.main_arg1))
      ∧ r.2.sem = fun _ => 0)

def quiescent_ChunkIdeal_pre_finite_chunk [hChunkIdeal : Cert.ChunkIdeal.Facts] [hPre_finite_chunk : Cert.Pre_finite_chunk.Facts] : Prop :=
  ∀ (m : (ℓ : Loc Cert.ChunkIdeal.nD Cert.ChunkIdeal.τ Cert.ChunkIdeal.sig) → Buf (Elt Ideal) ℓ) (g : Dev Cert.ChunkIdeal.nD → PrngReg), Pre_ChunkIdeal_finite_chunk m →
    θ_run (Cert.ChunkIdeal.defs (F := Ideal)) (onTc (τ := Cert.ChunkIdeal.τ) (Cert.ChunkIdeal.main (F := Ideal))) ⟨m, fun _ => 0, g⟩ (fun r => (∀ c : Dev Cert.ChunkIdeal.nD,
      r.2.mem ((c.tc : Thread Cert.ChunkIdeal.nD Cert.ChunkIdeal.τ).loc Cert.ChunkIdeal.main_arg0) = m ((c.tc : Thread Cert.ChunkIdeal.nD Cert.ChunkIdeal.τ).loc Cert.ChunkIdeal.main_arg0)
      ∧ r.2.mem ((c.tc : Thread Cert.ChunkIdeal.nD Cert.ChunkIdeal.τ).loc Cert.ChunkIdeal.main_arg1) = m ((c.tc : Thread Cert.ChunkIdeal.nD Cert.ChunkIdeal.τ).loc Cert.ChunkIdeal.main_arg1))
      ∧ r.2.sem = fun _ => 0)

def quiescent_ChunkRefIdeal [hChunkRefIdeal : Cert.ChunkRefIdeal.Facts] : Prop :=
  ∀ (m : (ℓ : Loc Cert.ChunkRefIdeal.nD Cert.ChunkRefIdeal.τ Cert.ChunkRefIdeal.sig) → Buf (Elt Ideal) ℓ) (g : Dev Cert.ChunkRefIdeal.nD → PrngReg), Pre_ChunkRefIdeal m →
    θ_run (Cert.ChunkRefIdeal.defs (F := Ideal)) (onTc (τ := Cert.ChunkRefIdeal.τ) (Cert.ChunkRefIdeal.main (F := Ideal))) ⟨m, fun _ => 0, g⟩ (fun r => (∀ c : Dev Cert.ChunkRefIdeal.nD,
      r.2.mem ((c.tc : Thread Cert.ChunkRefIdeal.nD Cert.ChunkRefIdeal.τ).loc Cert.ChunkRefIdeal.main_arg0) = m ((c.tc : Thread Cert.ChunkRefIdeal.nD Cert.ChunkRefIdeal.τ).loc Cert.ChunkRefIdeal.main_arg0)
      ∧ r.2.mem ((c.tc : Thread Cert.ChunkRefIdeal.nD Cert.ChunkRefIdeal.τ).loc Cert.ChunkRefIdeal.main_arg1) = m ((c.tc : Thread Cert.ChunkRefIdeal.nD Cert.ChunkRefIdeal.τ).loc Cert.ChunkRefIdeal.main_arg1))
      ∧ r.2.sem = fun _ => 0)

def quiescent_ChunkRefIdeal_pre_finite_chunk [hChunkRefIdeal : Cert.ChunkRefIdeal.Facts] [hPre_finite_chunk : Cert.Pre_finite_chunk.Facts] : Prop :=
  ∀ (m : (ℓ : Loc Cert.ChunkRefIdeal.nD Cert.ChunkRefIdeal.τ Cert.ChunkRefIdeal.sig) → Buf (Elt Ideal) ℓ) (g : Dev Cert.ChunkRefIdeal.nD → PrngReg), Pre_ChunkRefIdeal_finite_chunk m →
    θ_run (Cert.ChunkRefIdeal.defs (F := Ideal)) (onTc (τ := Cert.ChunkRefIdeal.τ) (Cert.ChunkRefIdeal.main (F := Ideal))) ⟨m, fun _ => 0, g⟩ (fun r => (∀ c : Dev Cert.ChunkRefIdeal.nD,
      r.2.mem ((c.tc : Thread Cert.ChunkRefIdeal.nD Cert.ChunkRefIdeal.τ).loc Cert.ChunkRefIdeal.main_arg0) = m ((c.tc : Thread Cert.ChunkRefIdeal.nD Cert.ChunkRefIdeal.τ).loc Cert.ChunkRefIdeal.main_arg0)
      ∧ r.2.mem ((c.tc : Thread Cert.ChunkRefIdeal.nD Cert.ChunkRefIdeal.τ).loc Cert.ChunkRefIdeal.main_arg1) = m ((c.tc : Thread Cert.ChunkRefIdeal.nD Cert.ChunkRefIdeal.τ).loc Cert.ChunkRefIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)
      ∧ m' ((c.tc : Thread Cert.NormRefIdeal.nD Cert.NormRefIdeal.τ).loc Cert.NormRefIdeal.main_arg5) = m ((c.tc : Thread Cert.NormIdeal.nD Cert.NormIdeal.τ).loc Cert.NormIdeal.main_arg5)) →
    ∃ (v0 : (c : Dev Cert.NormIdeal.nD) → Buf (Elt Ideal) ((c.tc : Thread Cert.NormIdeal.nD Cert.NormIdeal.τ).loc Cert.NormIdeal.main_v3)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v3) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v35) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4)
          ∧ r.2.mem ((c.tc : Thread Cert.NormRefIdeal.nD Cert.NormRefIdeal.τ).loc Cert.NormRefIdeal.main_arg5) = m' ((c.tc : Thread Cert.NormRefIdeal.nD Cert.NormRefIdeal.τ).loc Cert.NormRefIdeal.main_arg5))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v7)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v7) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v8) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Gate_GateIdeal : Prop :=
  True

def algebraic_GateIdeal_GateRefIdeal_pre_finite_gates [hGateIdeal : Cert.GateIdeal.Facts] [hGateRefIdeal : Cert.GateRefIdeal.Facts] [hPre_finite_gates : Cert.Pre_finite_gates.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_finite_gates m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v21_0)) (v1 : (c : Dev Cert.GateIdeal.nD) → Buf (Elt Ideal) ((c.tc : Thread Cert.GateIdeal.nD Cert.GateIdeal.τ).loc Cert.GateIdeal.main_v21_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v21_0) = v0 c
          ∧ r.2.mem ((c.tc : Thread Cert.GateIdeal.nD Cert.GateIdeal.τ).loc Cert.GateIdeal.main_v21_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v15) = v0 c
          ∧ r.2.mem ((c.tc : Thread Cert.GateRefIdeal.nD Cert.GateRefIdeal.τ).loc Cert.GateRefIdeal.main_v16) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_Chunk_ChunkIdeal : Prop :=
  True

def algebraic_ChunkIdeal_ChunkRefIdeal_pre_finite_chunk [hChunkIdeal : Cert.ChunkIdeal.Facts] [hChunkRefIdeal : Cert.ChunkRefIdeal.Facts] [hPre_finite_chunk : Cert.Pre_finite_chunk.Facts] : Prop :=
  ∀ (m : (ℓ : Loc Cert.ChunkIdeal.nD Cert.ChunkIdeal.τ Cert.ChunkIdeal.sig) → Buf (Elt Ideal) ℓ) (g : Dev Cert.ChunkIdeal.nD → PrngReg)
    (m' : (ℓ : Loc Cert.ChunkRefIdeal.nD Cert.ChunkRefIdeal.τ Cert.ChunkRefIdeal.sig) → Buf (Elt Ideal) ℓ) (g' : Dev Cert.ChunkRefIdeal.nD → PrngReg), Pre_ChunkIdeal_finite_chunk m →
    (∀ c : Dev Cert.ChunkIdeal.nD,
      m' ((c.tc : Thread Cert.ChunkRefIdeal.nD Cert.ChunkRefIdeal.τ).loc Cert.ChunkRefIdeal.main_arg0) = m ((c.tc : Thread Cert.ChunkIdeal.nD Cert.ChunkIdeal.τ).loc Cert.ChunkIdeal.main_arg0)
      ∧ m' ((c.tc : Thread Cert.ChunkRefIdeal.nD Cert.ChunkRefIdeal.τ).loc Cert.ChunkRefIdeal.main_arg1) = m ((c.tc : Thread Cert.ChunkIdeal.nD Cert.ChunkIdeal.τ).loc Cert.ChunkIdeal.main_arg1)) →
    ∃ (v0 : (c : Dev Cert.ChunkIdeal.nD) → Buf (Elt Ideal) ((c.tc : Thread Cert.ChunkIdeal.nD Cert.ChunkIdeal.τ).loc Cert.ChunkIdeal.main_v36)),
      θ_run (Cert.ChunkIdeal.defs (F := Ideal)) (onTc (τ := Cert.ChunkIdeal.τ) (Cert.ChunkIdeal.main (F := Ideal))) ⟨m, fun _ => 0, g⟩ (fun r => ∀ c : Dev Cert.ChunkIdeal.nD,
          r.2.mem ((c.tc : Thread Cert.ChunkIdeal.nD Cert.ChunkIdeal.τ).loc Cert.ChunkIdeal.main_v36) = v0 c
          ∧ r.2.mem ((c.tc : Thread Cert.ChunkIdeal.nD Cert.ChunkIdeal.τ).loc Cert.ChunkIdeal.main_arg0) = m ((c.tc : Thread Cert.ChunkIdeal.nD Cert.ChunkIdeal.τ).loc Cert.ChunkIdeal.main_arg0)
          ∧ r.2.mem ((c.tc : Thread Cert.ChunkIdeal.nD Cert.ChunkIdeal.τ).loc Cert.ChunkIdeal.main_arg1) = m ((c.tc : Thread Cert.ChunkIdeal.nD Cert.ChunkIdeal.τ).loc Cert.ChunkIdeal.main_arg1))
      ∧ θ_run (Cert.ChunkRefIdeal.defs (F := Ideal)) (onTc (τ := Cert.ChunkRefIdeal.τ) (Cert.ChunkRefIdeal.main (F := Ideal))) ⟨m', fun _ => 0, g'⟩ (fun r => ∀ c : Dev Cert.ChunkRefIdeal.nD,
          r.2.mem ((c.tc : Thread Cert.ChunkRefIdeal.nD Cert.ChunkRefIdeal.τ).loc Cert.ChunkRefIdeal.main_v59) = v0 c
          ∧ r.2.mem ((c.tc : Thread Cert.ChunkRefIdeal.nD Cert.ChunkRefIdeal.τ).loc Cert.ChunkRefIdeal.main_arg0) = m' ((c.tc : Thread Cert.ChunkRefIdeal.nD Cert.ChunkRefIdeal.τ).loc Cert.ChunkRefIdeal.main_arg0)
          ∧ r.2.mem ((c.tc : Thread Cert.ChunkRefIdeal.nD Cert.ChunkRefIdeal.τ).loc Cert.ChunkRefIdeal.main_arg1) = m' ((c.tc : Thread Cert.ChunkRefIdeal.nD Cert.ChunkRefIdeal.τ).loc Cert.ChunkRefIdeal.main_arg1))

def Claim : Prop :=
  ∃ (hKernel : Cert.Kernel.Facts) (hKernelIdeal : Cert.KernelIdeal.Facts) (hReferenceIdeal : Cert.ReferenceIdeal.Facts) (hNorm : Cert.Norm.Facts) (hNormIdeal : Cert.NormIdeal.Facts) (hNormRefIdeal : Cert.NormRefIdeal.Facts) (hProj : Cert.Proj.Facts) (hProjIdeal : Cert.ProjIdeal.Facts) (hProjRefIdeal : Cert.ProjRefIdeal.Facts) (hGate : Cert.Gate.Facts) (hGateIdeal : Cert.GateIdeal.Facts) (hGateRefIdeal : Cert.GateRefIdeal.Facts) (hChunk : Cert.Chunk.Facts) (hChunkIdeal : Cert.ChunkIdeal.Facts) (hChunkRefIdeal : Cert.ChunkRefIdeal.Facts) (hPre_finite : Cert.Pre_finite.Facts) (hPre_finite_gates : Cert.Pre_finite_gates.Facts) (hPre_finite_chunk : Cert.Pre_finite_chunk.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Norm (hNorm := hNorm)
    ∧ quiescent_NormIdeal (hNormIdeal := hNormIdeal)
    ∧ quiescent_NormRefIdeal (hNormRefIdeal := hNormRefIdeal)
    ∧ quiescent_Proj (hProj := hProj)
    ∧ quiescent_ProjIdeal (hProjIdeal := hProjIdeal)
    ∧ quiescent_ProjRefIdeal (hProjRefIdeal := hProjRefIdeal)
    ∧ quiescent_Gate (hGate := hGate)
    ∧ quiescent_GateIdeal (hGateIdeal := hGateIdeal)
    ∧ quiescent_GateIdeal_pre_finite_gates (hGateIdeal := hGateIdeal) (hPre_finite_gates := hPre_finite_gates)
    ∧ quiescent_GateRefIdeal (hGateRefIdeal := hGateRefIdeal)
    ∧ quiescent_GateRefIdeal_pre_finite_gates (hGateRefIdeal := hGateRefIdeal) (hPre_finite_gates := hPre_finite_gates)
    ∧ quiescent_Chunk (hChunk := hChunk)
    ∧ quiescent_ChunkIdeal (hChunkIdeal := hChunkIdeal)
    ∧ quiescent_ChunkIdeal_pre_finite_chunk (hChunkIdeal := hChunkIdeal) (hPre_finite_chunk := hPre_finite_chunk)
    ∧ quiescent_ChunkRefIdeal (hChunkRefIdeal := hChunkRefIdeal)
    ∧ quiescent_ChunkRefIdeal_pre_finite_chunk (hChunkRefIdeal := hChunkRefIdeal) (hPre_finite_chunk := hPre_finite_chunk)
    ∧ preserves_Kernel_KernelIdeal
    ∧ algebraic_KernelIdeal_ReferenceIdeal_pre_finite (hKernelIdeal := hKernelIdeal) (hReferenceIdeal := hReferenceIdeal) (hPre_finite := hPre_finite)
    ∧ preserves_Norm_NormIdeal
    ∧ algebraic_NormIdeal_NormRefIdeal (hNormIdeal := hNormIdeal) (hNormRefIdeal := hNormRefIdeal)
    ∧ preserves_Proj_ProjIdeal
    ∧ algebraic_ProjIdeal_ProjRefIdeal (hProjIdeal := hProjIdeal) (hProjRefIdeal := hProjRefIdeal)
    ∧ preserves_Gate_GateIdeal
    ∧ algebraic_GateIdeal_GateRefIdeal_pre_finite_gates (hGateIdeal := hGateIdeal) (hGateRefIdeal := hGateRefIdeal) (hPre_finite_gates := hPre_finite_gates)
    ∧ preserves_Chunk_ChunkIdeal
    ∧ algebraic_ChunkIdeal_ChunkRefIdeal_pre_finite_chunk (hChunkIdeal := hChunkIdeal) (hChunkRefIdeal := hChunkRefIdeal) (hPre_finite_chunk := hPre_finite_chunk)
-- ==== Pre_finite.lean ====
abbrev S65536x4096 : Shape := ⟨2, ![65536, 4096]⟩
abbrev S65536x16 : Shape := ⟨2, ![65536, 16]⟩
abbrev S65536x3072 : Shape := ⟨2, ![65536, 3072]⟩
abbrev S_ : Shape := ⟨0, ![]⟩

class Facts : Prop where
  slices_S65536x4096_S65536x3072_0_0 : S65536x4096.Slices ![0, 0] S65536x3072
  bcast_S_S65536x3072 : S_.BroadcastsInDim S65536x3072 (![] : Fin 0 → Fin S65536x3072.rank)
  bcast_S_S65536x16 : S_.BroadcastsInDim S65536x16 (![] : Fin 0 → Fin S65536x16.rank)

variable [Facts]

def fn {F : FTy → Type} [FloatOps F] (main_arg0 : FVec F S65536x4096 .bf16) (main_arg1 : FVec F S65536x16 .f32) : IVec S65536x3072 1 × IVec S65536x16 1 :=
  let main_v0 : FVec F S65536x3072 .bf16 := (extractStridedSlice S65536x3072 ![0, 0] · slices_S65536x4096_S65536x3072_0_0) main_arg0
  let main_v1 : FVec F S65536x3072 .bf16 := Host.absf main_v0
  let main_cst : FVec F S_ .bf16 := constant S_ .bf16 0x7F80#16
  let main_v2 : FVec F S65536x3072 .bf16 := broadcastInDim S65536x3072 ![] bcast_S_S65536x3072 main_cst
  let main_v3 : IVec S65536x3072 1 := cmpf .olt main_v1 main_v2
  let main_v4 : FVec F S65536x16 .f32 := Host.absf main_arg1
  let main_cst_0 : FVec F S_ .f32 := constant S_ .f32 0x7F800000#32
  let main_v5 : FVec F S65536x16 .f32 := broadcastInDim S65536x16 ![] bcast_S_S65536x16 main_cst_0
  let main_v6 : IVec S65536x16 1 := cmpf .olt main_v4 main_v5
  (main_v3, main_v6)
-- ==== Pre_finite_chunk.lean ====
abbrev S65536x4096 : Shape := ⟨2, ![65536, 4096]⟩
abbrev S16x257 : Shape := ⟨2, ![16, 257]⟩
abbrev S65536x3072 : Shape := ⟨2, ![65536, 3072]⟩
abbrev S_ : Shape := ⟨0, ![]⟩

class Facts : Prop where
  slices_S65536x4096_S65536x3072_0_0 : S65536x4096.Slices ![0, 0] S65536x3072
  bcast_S_S65536x3072 : S_.BroadcastsInDim S65536x3072 (![] : Fin 0 → Fin S65536x3072.rank)
  bcast_S_S16x257 : S_.BroadcastsInDim S16x257 (![] : Fin 0 → Fin S16x257.rank)

variable [Facts]

def fn {F : FTy → Type} [FloatOps F] (main_arg0 : FVec F S65536x4096 .bf16) (main_arg1 : FVec F S16x257 .f32) : IVec S65536x3072 1 × IVec S16x257 1 :=
  let main_v0 : FVec F S65536x3072 .bf16 := (extractStridedSlice S65536x3072 ![0, 0] · slices_S65536x4096_S65536x3072_0_0) main_arg0
  let main_v1 : FVec F S65536x3072 .bf16 := Host.absf main_v0
  let main_cst : FVec F S_ .bf16 := constant S_ .bf16 0x7F80#16
  let main_v2 : FVec F S65536x3072 .bf16 := broadcastInDim S65536x3072 ![] bcast_S_S65536x3072 main_cst
  let main_v3 : IVec S65536x3072 1 := cmpf .olt main_v1 main_v2
  let main_v4 : FVec F S16x257 .f32 := Host.absf main_arg1
  let main_cst_0 : FVec F S_ .f32 := constant S_ .f32 0x7F800000#32
  let main_v5 : FVec F S16x257 .f32 := broadcastInDim S16x257 ![] bcast_S_S16x257 main_cst_0
  let main_v6 : IVec S16x257 1 := cmpf .olt main_v4 main_v5
  (main_v3, main_v6)
-- ==== Pre_finite_gates.lean ====
abbrev S65536x1024 : Shape := ⟨2, ![65536, 1024]⟩
abbrev S1024x4096 : Shape := ⟨2, ![1024, 4096]⟩
abbrev S1024x16 : Shape := ⟨2, ![1024, 16]⟩
abbrev S16 : Shape := ⟨1, ![16]⟩
abbrev S_ : Shape := ⟨0, ![]⟩

class Facts : Prop where
  bcast_S_S65536x1024 : S_.BroadcastsInDim S65536x1024 (![] : Fin 0 → Fin S65536x1024.rank)
  bcast_S_S1024x16 : S_.BroadcastsInDim S1024x16 (![] : Fin 0 → Fin S1024x16.rank)

variable [Facts]

def fn {F : FTy → Type} [FloatOps F] (main_arg0 : FVec F S65536x1024 .f32) (main_arg1 : FVec F S1024x4096 .f32) (main_arg2 : FVec F S1024x16 .f32) (main_arg3 : FVec F S16 .f32) : IVec S65536x1024 1 × IVec S1024x16 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_v3 : FVec F S1024x16 .f32 := Host.absf main_arg2
  let main_cst_0 : FVec F S_ .f32 := constant S_ .f32 0x7F800000#32
  let main_v4 : FVec F S1024x16 .f32 := broadcastInDim S1024x16 ![] bcast_S_S1024x16 main_cst_0
  let main_v5 : IVec S1024x16 1 := cmpf .olt main_v3 main_v4
  (main_v2, main_v5)
-- ==== Kernel.lean ====
abbrev S65536x4096 : Shape := ⟨2, ![65536, 4096]⟩
abbrev S65536x16 : Shape := ⟨2, ![65536, 16]⟩
abbrev S8x8192x16 : Shape := ⟨3, ![8, 8192, 16]⟩
abbrev S8x16x8192 : Shape := ⟨3, ![8, 16, 8192]⟩
abbrev S65536x1024 : Shape := ⟨2, ![65536, 1024]⟩
abbrev S512x128 : Shape := ⟨2, ![512, 128]⟩
abbrev S8192x128 : Shape := ⟨2, ![8192, 128]⟩
abbrev S512x16 : Shape := ⟨2, ![512, 16]⟩
abbrev S1x16x8192 : Shape := ⟨3, ![1, 16, 8192]⟩
abbrev S2x512x128 : Shape := ⟨3, ![2, 512, 128]⟩
abbrev S2x512x1 : Shape := ⟨3, ![2, 512, 1]⟩
abbrev S1x128 : Shape := ⟨2, ![1, 128]⟩
abbrev S1x16 : Shape := ⟨2, ![1, 16]⟩
abbrev S1x512x128 : Shape := ⟨3, ![1, 512, 128]⟩
abbrev S512 : Shape := ⟨1, ![512]⟩
abbrev S512x1 : Shape := ⟨2, ![512, 1]⟩
abbrev S1x512x1 : Shape := ⟨3, ![1, 512, 1]⟩
abbrev S1x1x512 : Shape := ⟨3, ![1, 1, 512]⟩
abbrev S1x512 : Shape := ⟨2, ![1, 512]⟩
abbrev S512x512 : Shape := ⟨2, ![512, 512]⟩

abbrev nBuf : Space → Nat
  | .hbm => 5
  | .vmem => 17
  | .smem => 0
  | _ => 0

abbrev bufTy : (tb : Table) → Fin (tcTables nBuf tb) → BufTy
  | .hbm, ⟨0, _⟩ => ⟨S65536x4096, .bf16⟩
  | .hbm, ⟨1, _⟩ => ⟨S65536x16, .f32⟩
  | .hbm, ⟨2, _⟩ => ⟨S8x8192x16, .f32⟩
  | .hbm, ⟨3, _⟩ => ⟨S8x16x8192, .f32⟩
  | .hbm, ⟨4, _⟩ => ⟨S65536x1024, .bf16⟩
  | .local _ .vmem, ⟨0, _⟩ => ⟨S512x128, .bf16⟩
  | .local _ .vmem, ⟨1, _⟩ => ⟨S512x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S512x16, .f32⟩
  | .local _ .vmem, ⟨7, _⟩ => ⟨S512x16, .f32⟩
  | .local _ .vmem, ⟨8, _⟩ => ⟨S1x16x8192, .f32⟩
  | .local _ .vmem, ⟨9, _⟩ => ⟨S1x16x8192, .f32⟩
  | .local _ .vmem, ⟨10, _⟩ => ⟨S512x128, .bf16⟩
  | .local _ .vmem, ⟨11, _⟩ => ⟨S512x128, .bf16⟩
  | .local _ .vmem, ⟨12, _⟩ => ⟨S2x512x128, .bf16⟩
  | .local _ .vmem, ⟨13, _⟩ => ⟨S2x512x1, .f32⟩
  | .local _ .vmem, ⟨14, _⟩ => ⟨S2x512x1, .f32⟩
  | .local _ .vmem, ⟨15, _⟩ => ⟨S2x512x1, .f32⟩
  | .local _ .vmem, ⟨16, _⟩ => ⟨S2x512x128, .f32⟩
  | _, _ => ⟨S65536x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 8, 16], ![false, false, false]⟩

@[reducible] def k0_t1_loop (i : grid0.Coords) : Scf.Loop 32 :=
  let c0_i32_47 : BitVec 32 := 0#32
  let arg2 : BitVec 32 := BitVec.ofNat 32 (i 2).val
  let v78 : BitVec 32 := Scalar.subi arg2 c0_i32_47
  let c1_i32_48 : BitVec 32 := 1#32
  let v80 : BitVec 32 := Scalar.divsi v78 c1_i32_48
  let v81 : BitVec 32 := Scalar.muli v80 c1_i32_48
  let v82 : BitVec 32 := Scalar.addi c0_i32_47 v81
  let c1_i32_49 : BitVec 32 := 1#32
  ⟨c0_i32_47, v82, c1_i32_49⟩
def k0_mult1 (i : grid0.Coords) (k0_t1 : Fin (k0_t1_loop i).trips) : BitVec 32 :=
  let c0_i32_47 : BitVec 32 := 0#32
  let c1_i32_49 : BitVec 32 := 1#32
  let arg14 : BitVec 32 := Scf.iv c0_i32_47 c1_i32_49 k0_t1
  let c512_i32_131 : BitVec 32 := 512#32
  let v210 : BitVec 32 := Scalar.muli arg14 c512_i32_131
  v210
def k0_off1 (i : grid0.Coords) (k0_t1 : Fin (k0_t1_loop i).trips) : Fin 2 → Nat :=
  let c0_i32_47 : BitVec 32 := 0#32
  let c1_i32_49 : BitVec 32 := 1#32
  let arg14 : BitVec 32 := Scf.iv c0_i32_47 c1_i32_49 k0_t1
  let c512_i32_131 : BitVec 32 := 512#32
  let v210 : BitVec 32 := Scalar.muli arg14 c512_i32_131
  let v211 : BitVec 32 := v210
  let v212 : Index := Scalar.indexCast v211
  let c0_132 : Index := 0#32
  ![v212.toNat, 0]
def k0_off2 (i : grid0.Coords) (k0_t1 : Fin (k0_t1_loop i).trips) (c0_i32_135 : BitVec 32) : Fin 3 → Nat :=
  let c0_136 : Index := 0#32
  let arg1 : BitVec 32 := BitVec.ofNat 32 (i 1).val
  let c2_i32_134 : BitVec 32 := 2#32
  let v216 : BitVec 32 := Scalar.muli arg1 c2_i32_134
  let v217 : BitVec 32 := Scalar.addi v216 c0_i32_135
  let v218 : Index := Scalar.indexCast v217
  let c0_i32_47 : BitVec 32 := 0#32
  let c1_i32_49 : BitVec 32 := 1#32
  let arg14 : BitVec 32 := Scf.iv c0_i32_47 c1_i32_49 k0_t1
  let c512_i32_131 : BitVec 32 := 512#32
  let v210 : BitVec 32 := Scalar.muli arg14 c512_i32_131
  let v211 : BitVec 32 := v210
  let v219 : Index := Scalar.indexCast v211
  ![0, v218.toNat, v219.toNat]
@[reducible] def k0_t2_loop (i : grid0.Coords) : Scf.Loop 32 :=
  let c0_i32_47 : BitVec 32 := 0#32
  let arg2 : BitVec 32 := BitVec.ofNat 32 (i 2).val
  let v78 : BitVec 32 := Scalar.subi arg2 c0_i32_47
  let c1_i32_48 : BitVec 32 := 1#32
  let v80 : BitVec 32 := Scalar.divsi v78 c1_i32_48
  let v81 : BitVec 32 := Scalar.muli v80 c1_i32_48
  let v82 : BitVec 32 := Scalar.addi c0_i32_47 v81
  let v79 : BitVec 32 := Scalar.addi c0_i32_47 v78
  let c1_i32_50 : BitVec 32 := 1#32
  ⟨v82, v79, c1_i32_50⟩
def k0_mult2 (i : grid0.Coords) (k0_t2 : Fin (k0_t2_loop i).trips) : BitVec 32 :=
  let c0_i32_47 : BitVec 32 := 0#32
  let arg2 : BitVec 32 := BitVec.ofNat 32 (i 2).val
  let v78 : BitVec 32 := Scalar.subi arg2 c0_i32_47
  let c1_i32_48 : BitVec 32 := 1#32
  let v80 : BitVec 32 := Scalar.divsi v78 c1_i32_48
  let v81 : BitVec 32 := Scalar.muli v80 c1_i32_48
  let v82 : BitVec 32 := Scalar.addi c0_i32_47 v81
  let c1_i32_50 : BitVec 32 := 1#32
  let arg14 : BitVec 32 := Scf.iv v82 c1_i32_50 k0_t2
  let c512_i32_131 : BitVec 32 := 512#32
  let v210 : BitVec 32 := Scalar.muli arg14 c512_i32_131
  v210
def k0_off3 (i : grid0.Coords) (k0_t2 : Fin (k0_t2_loop i).trips) : Fin 2 → Nat :=
  let c0_i32_47 : BitVec 32 := 0#32
  let arg2 : BitVec 32 := BitVec.ofNat 32 (i 2).val
  let v78 : BitVec 32 := Scalar.subi arg2 c0_i32_47
  let c1_i32_48 : BitVec 32 := 1#32
  let v80 : BitVec 32 := Scalar.divsi v78 c1_i32_48
  let v81 : BitVec 32 := Scalar.muli v80 c1_i32_48
  let v82 : BitVec 32 := Scalar.addi c0_i32_47 v81
  let c1_i32_50 : BitVec 32 := 1#32
  let arg14 : BitVec 32 := Scf.iv v82 c1_i32_50 k0_t2
  let c512_i32_131 : BitVec 32 := 512#32
  let v210 : BitVec 32 := Scalar.muli arg14 c512_i32_131
  let v211 : BitVec 32 := v210
  let v212 : Index := Scalar.indexCast v211
  let c0_132 : Index := 0#32
  ![v212.toNat, 0]
def k0_off4 (i : grid0.Coords) (k0_t2 : Fin (k0_t2_loop i).trips) (c0_i32_135 : BitVec 32) : Fin 3 → Nat :=
  let c0_136 : Index := 0#32
  let arg1 : BitVec 32 := BitVec.ofNat 32 (i 1).val
  let c2_i32_134 : BitVec 32 := 2#32
  let v216 : BitVec 32 := Scalar.muli arg1 c2_i32_134
  let v217 : BitVec 32 := Scalar.addi v216 c0_i32_135
  let v218 : Index := Scalar.indexCast v217
  let c0_i32_47 : BitVec 32 := 0#32
  let arg2 : BitVec 32 := BitVec.ofNat 32 (i 2).val
  let v78 : BitVec 32 := Scalar.subi arg2 c0_i32_47
  let c1_i32_48 : BitVec 32 := 1#32
  let v80 : BitVec 32 := Scalar.divsi v78 c1_i32_48
  let v81 : BitVec 32 := Scalar.muli v80 c1_i32_48
  let v82 : BitVec 32 := Scalar.addi c0_i32_47 v81
  let c1_i32_50 : BitVec 32 := 1#32
  let arg14 : BitVec 32 := Scf.iv v82 c1_i32_50 k0_t2
  let c512_i32_131 : BitVec 32 := 512#32
  let v210 : BitVec 32 := Scalar.muli arg14 c512_i32_131
  let v211 : BitVec 32 := v210
  let v219 : Index := Scalar.indexCast v211
  ![0, v218.toNat, v219.toNat]
def k0_mult3 (i : grid0.Coords) : BitVec 32 :=
  let arg2 : BitVec 32 := BitVec.ofNat 32 (i 2).val
  let c512_i32 : BitVec 32 := 512#32
  let v83 : BitVec 32 := Scalar.muli arg2 c512_i32
  v83
def k0_off5 (i : grid0.Coords) : Fin 2 → Nat :=
  let arg2 : BitVec 32 := BitVec.ofNat 32 (i 2).val
  let c512_i32 : BitVec 32 := 512#32
  let v83 : BitVec 32 := Scalar.muli arg2 c512_i32
  let v84 : BitVec 32 := v83
  let v85 : Index := Scalar.indexCast v84
  let c0_51 : Index := 0#32
  ![v85.toNat, 0]
def k0_off6 (i : grid0.Coords) (c0_i32_54 : BitVec 32) : Fin 3 → Nat :=
  let c0_55 : Index := 0#32
  let arg1 : BitVec 32 := BitVec.ofNat 32 (i 1).val
  let c2_i32_53 : BitVec 32 := 2#32
  let v89 : BitVec 32 := Scalar.muli arg1 c2_i32_53
  let v90 : BitVec 32 := Scalar.addi v89 c0_i32_54
  let v91 : Index := Scalar.indexCast v90
  let arg2 : BitVec 32 := BitVec.ofNat 32 (i 2).val
  let c512_i32 : BitVec 32 := 512#32
  let v83 : BitVec 32 := Scalar.muli arg2 c512_i32
  let v84 : BitVec 32 := v83
  let v92 : Index := Scalar.indexCast v84
  ![0, v91.toNat, v92.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x16x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S65536x4096 : Shape := ⟨2, ![65536, 4096]⟩
abbrev S65536x16 : Shape := ⟨2, ![65536, 16]⟩
abbrev S8x8192x4096 : Shape := ⟨3, ![8, 8192, 4096]⟩
abbrev S8x8192x1024 : Shape := ⟨3, ![8, 8192, 1024]⟩
abbrev S8x8192x16x64 : Shape := ⟨4, ![8, 8192, 16, 64]⟩
abbrev S8x16x8192x64 : Shape := ⟨4, ![8, 16, 8192, 64]⟩
abbrev S8x8192x16 : Shape := ⟨3, ![8, 8192, 16]⟩
abbrev S8x16x8192 : Shape := ⟨3, ![8, 16, 8192]⟩
abbrev S8x16x8192x8192 : Shape := ⟨4, ![8, 16, 8192, 8192]⟩
abbrev S8x16x8192x1 : Shape := ⟨4, ![8, 16, 8192, 1]⟩
abbrev S8x16x1x8192 : Shape := ⟨4, ![8, 16, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S_ : Shape := ⟨0, ![]⟩
abbrev S65536x1024 : Shape := ⟨2, ![65536, 1024]⟩

abbrev nBuf : Space → Nat
  | .hbm => 54
  | .vmem => 0
  | .smem => 0
  | _ => 0

abbrev bufTy : (tb : Table) → Fin (tcTables nBuf tb) → BufTy
  | .hbm, ⟨0, _⟩ => ⟨S65536x4096, .bf16⟩
  | .hbm, ⟨1, _⟩ => ⟨S65536x16, .f32⟩
  | .hbm, ⟨2, _⟩ => ⟨S65536x4096, .f32⟩
  | .hbm, ⟨3, _⟩ => ⟨S8x8192x4096, .f32⟩
  | .hbm, ⟨4, _⟩ => ⟨S8x8192x1024, .f32⟩
  | .hbm, ⟨5, _⟩ => ⟨S8x8192x1024, .f32⟩
  | .hbm, ⟨6, _⟩ => ⟨S8x8192x1024, .f32⟩
  | .hbm, ⟨7, _⟩ => ⟨S8x8192x1024, .f32⟩
  | .hbm, ⟨8, _⟩ => ⟨S8x8192x16x64, .f32⟩
  | .hbm, ⟨9, _⟩ => ⟨S8x16x8192x64, .f32⟩
  | .hbm, ⟨10, _⟩ => ⟨S8x8192x16x64, .f32⟩
  | .hbm, ⟨11, _⟩ => ⟨S8x16x8192x64, .f32⟩
  | .hbm, ⟨12, _⟩ => ⟨S8x8192x16x64, .f32⟩
  | .hbm, ⟨13, _⟩ => ⟨S8x16x8192x64, .f32⟩
  | .hbm, ⟨14, _⟩ => ⟨S8x8192x16, .f32⟩
  | .hbm, ⟨15, _⟩ => ⟨S8x16x8192, .f32⟩
  | .hbm, ⟨16, _⟩ => ⟨S8x16x8192x8192, .f32⟩
  | .hbm, ⟨17, _⟩ => ⟨S8x16x8192x1, .f32⟩
  | .hbm, ⟨18, _⟩ => ⟨S8x16x8192x8192, .f32⟩
  | .hbm, ⟨19, _⟩ => ⟨S8x16x8192x8192, .f32⟩
  | .hbm, ⟨20, _⟩ => ⟨S8x16x1x8192, .f32⟩
  | .hbm, ⟨21, _⟩ => ⟨S8x16x8192x8192, .f32⟩
  | .hbm, ⟨22, _⟩ => ⟨S8x16x8192x8192, .f32⟩
  | .hbm, ⟨23, _⟩ => ⟨S8192, .i32⟩
  | .hbm, ⟨24, _⟩ => ⟨S1x8192, .i32⟩
  | .hbm, ⟨25, _⟩ => ⟨S8192x1, .i32⟩
  | .hbm, ⟨26, _⟩ => ⟨S8192x8192, .i32⟩
  | .hbm, ⟨27, _⟩ => ⟨S8192x8192, .i32⟩
  | .hbm, ⟨28, _⟩ => ⟨S8192x8192, .i1⟩
  | .hbm, ⟨29, _⟩ => ⟨S1x1x8192x8192, .i1⟩
  | .hbm, ⟨30, _⟩ => ⟨S_, .f32⟩
  | .hbm, ⟨31, _⟩ => ⟨S_, .f32⟩
  | .hbm, ⟨32, _⟩ => ⟨S8x16x8192x8192, .i1⟩
  | .hbm, ⟨33, _⟩ => ⟨S8x16x8192x8192, .f32⟩
  | .hbm, ⟨34, _⟩ => ⟨S8x16x8192x8192, .f32⟩
  | .hbm, ⟨35, _⟩ => ⟨S_, .f32⟩
  | .hbm, ⟨36, _⟩ => ⟨S8x16x8192, .f32⟩
  | .hbm, ⟨37, _⟩ => ⟨S_, .f32⟩
  | .hbm, ⟨38, _⟩ => ⟨S8x16x8192, .f32⟩
  | .hbm, ⟨39, _⟩ => ⟨S8x16x8192, .f32⟩
  | .hbm, ⟨40, _⟩ => ⟨S8x16x8192x1, .f32⟩
  | .hbm, ⟨41, _⟩ => ⟨S8x16x8192x8192, .f32⟩
  | .hbm, ⟨42, _⟩ => ⟨S8x16x8192x8192, .f32⟩
  | .hbm, ⟨43, _⟩ => ⟨S8x16x8192x8192, .f32⟩
  | .hbm, ⟨44, _⟩ => ⟨S_, .f32⟩
  | .hbm, ⟨45, _⟩ => ⟨S8x16x8192, .f32⟩
  | .hbm, ⟨46, _⟩ => ⟨S8x16x8192x1, .f32⟩
  | .hbm, ⟨47, _⟩ => ⟨S8x16x8192x8192, .f32⟩
  | .hbm, ⟨48, _⟩ => ⟨S8x16x8192x8192, .f32⟩
  | .hbm, ⟨49, _⟩ => ⟨S8x16x8192x64, .f32⟩
  | .hbm, ⟨50, _⟩ => ⟨S8x8192x16x64, .f32⟩
  | .hbm, ⟨51, _⟩ => ⟨S8x8192x1024, .f32⟩
  | .hbm, ⟨52, _⟩ => ⟨S65536x1024, .f32⟩
  | .hbm, ⟨53, _⟩ => ⟨S65536x1024, .bf16⟩
  | _, _ => ⟨S65536x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_cst : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v28 : Ref sig .tc := ⟨.hbm, 34, rfl⟩
abbrev main_cst_0 : Ref sig .tc := ⟨.hbm, 35, rfl⟩
abbrev main_v29 : Ref sig .tc := ⟨.hbm, 36, rfl⟩
abbrev main_cst_1 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_2 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩

abbrev nD : Nat := 1
abbrev τ : Topo := Topo.v7x

variable {F : FTy → Type} [FloatOps F]
-- ==== Norm.lean ====
abbrev S65536x1024 : Shape := ⟨2, ![65536, 1024]⟩
abbrev S65536x4096 : Shape := ⟨2, ![65536, 4096]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S65536x1024, .bf16⟩
  | .hbm, ⟨1, _⟩ => ⟨S65536x4096, .bf16⟩
  | .hbm, ⟨2, _⟩ => ⟨S65536x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S65536x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== NormRefIdeal.lean ====
abbrev S65536x1024 : Shape := ⟨2, ![65536, 1024]⟩
abbrev S65536x4096 : Shape := ⟨2, ![65536, 4096]⟩
abbrev S1024x1024 : Shape := ⟨2, ![1024, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S65536x4096, .bf16⟩
  | .hbm, ⟨2, _⟩ => ⟨S65536x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S65536x4096, .f32⟩
  | .hbm, ⟨7, _⟩ => ⟨S65536x1024, .f32⟩
  | .hbm, ⟨8, _⟩ => ⟨S65536x1024, .f32⟩
  | .hbm, ⟨9, _⟩ => ⟨S65536x1024, .f32⟩
  | .hbm, ⟨10, _⟩ => ⟨S65536x1024, .f32⟩
  | .hbm, ⟨11, _⟩ => ⟨S65536x1024, .f32⟩
  | .hbm, ⟨12, _⟩ => ⟨S65536x1024, .f32⟩
  | .hbm, ⟨13, _⟩ => ⟨S65536x1024, .f32⟩
  | .hbm, ⟨14, _⟩ => ⟨S_, .f32⟩
  | .hbm, ⟨15, _⟩ => ⟨S65536x1024, .f32⟩
  | .hbm, ⟨16, _⟩ => ⟨S65536x1024, .f32⟩
  | .hbm, ⟨17, _⟩ => ⟨S_, .f32⟩
  | .hbm, ⟨18, _⟩ => ⟨S65536x1024, .f32⟩
  | .hbm, ⟨19, _⟩ => ⟨S65536x1024, .f32⟩
  | .hbm, ⟨20, _⟩ => ⟨S65536x1024, .f32⟩
  | .hbm, ⟨21, _⟩ => ⟨S65536x1024, .f32⟩
  | .hbm, ⟨22, _⟩ => ⟨S65536x1024, .f32⟩
  | .hbm, ⟨23, _⟩ => ⟨S_, .f32⟩
  | .hbm, ⟨24, _⟩ => ⟨S65536x1024, .f32⟩
  | .hbm, ⟨25, _⟩ => ⟨S65536x1024, .f32⟩
  | .hbm, ⟨26, _⟩ => ⟨S65536x1024, .f32⟩
  | .hbm, ⟨27, _⟩ => ⟨S_, .f32⟩
  | .hbm, ⟨28, _⟩ => ⟨S65536, .f32⟩
  | .hbm, ⟨29, _⟩ => ⟨S65536x1, .f32⟩
  | .hbm, ⟨30, _⟩ => ⟨S_, .f32⟩
  | .hbm, ⟨31, _⟩ => ⟨S65536x1, .f32⟩
  | .hbm, ⟨32, _⟩ => ⟨S65536x1, .f32⟩
  | .hbm, ⟨33, _⟩ => ⟨S65536x1024, .f32⟩
  | .hbm, ⟨34, _⟩ => ⟨S65536x1024, .f32⟩
  | .hbm, ⟨35, _⟩ => ⟨S65536x1024, .f32⟩
  | .hbm, ⟨36, _⟩ => ⟨S_, .f32⟩
  | .hbm, ⟨37, _⟩ => ⟨S65536, .f32⟩
  | .hbm, ⟨38, _⟩ => ⟨S65536x1, .f32⟩
  | .hbm, ⟨39, _⟩ => ⟨S_, .f32⟩
  | .hbm, ⟨40, _⟩ => ⟨S65536x1, .f32⟩
  | .hbm, ⟨41, _⟩ => ⟨S65536x1, .f32⟩
  | .hbm, ⟨42, _⟩ => ⟨S65536x1024, .f32⟩
  | .hbm, ⟨43, _⟩ => ⟨S65536x1024, .f32⟩
  | .hbm, ⟨44, _⟩ => ⟨S_, .f32⟩
  | .hbm, ⟨45, _⟩ => ⟨S65536x1, .f32⟩
  | .hbm, ⟨46, _⟩ => ⟨S65536x1, .f32⟩
  | .hbm, ⟨47, _⟩ => ⟨S65536x1, .f32⟩
  | .hbm, ⟨48, _⟩ => ⟨S65536x1024, .f32⟩
  | .hbm, ⟨49, _⟩ => ⟨S65536x1024, .f32⟩
  | .hbm, ⟨50, _⟩ => ⟨S1x1024, .f32⟩
  | .hbm, ⟨51, _⟩ => ⟨S65536x1024, .f32⟩
  | .hbm, ⟨52, _⟩ => ⟨S65536x1024, .f32⟩
  | .hbm, ⟨53, _⟩ => ⟨S1x1024, .f32⟩
  | .hbm, ⟨54, _⟩ => ⟨S65536x1024, .f32⟩
  | .hbm, ⟨55, _⟩ => ⟨S65536x1024, .f32⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_0 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== Proj.lean ====
abbrev S65536x1024 : Shape := ⟨2, ![65536, 1024]⟩
abbrev S1024x4096 : Shape := ⟨2, ![1024, 4096]⟩
abbrev S_ : Shape := ⟨0, ![]⟩
abbrev S1024 : Shape := ⟨1, ![1024]⟩
abbrev S3072 : Shape := ⟨1, ![3072]⟩
abbrev S4096 : Shape := ⟨1, ![4096]⟩
abbrev S1x4096 : Shape := ⟨2, ![1, 4096]⟩
abbrev S65536x4096 : Shape := ⟨2, ![65536, 4096]⟩
abbrev S512x1024 : Shape := ⟨2, ![512, 1024]⟩
abbrev S512x4096 : Shape := ⟨2, ![512, 4096]⟩
abbrev S1024x512 : Shape := ⟨2, ![1024, 512]⟩
abbrev S512x512 : Shape := ⟨2, ![512, 512]⟩

abbrev nBuf : Space → Nat
  | .hbm => 12
  | .vmem => 5
  | .smem => 0
  | _ => 0

abbrev bufTy : (tb : Table) → Fin (tcTables nBuf tb) → BufTy
  | .hbm, ⟨0, _⟩ => ⟨S65536x1024, .f32⟩
  | .hbm, ⟨1, _⟩ => ⟨S1024x4096, .f32⟩
  | .hbm, ⟨2, _⟩ => ⟨S_, .f32⟩
  | .hbm, ⟨3, _⟩ => ⟨S1024, .f32⟩
  | .hbm, ⟨4, _⟩ => ⟨S_, .f32⟩
  | .hbm, ⟨5, _⟩ => ⟨S3072, .f32⟩
  | .hbm, ⟨6, _⟩ => ⟨S4096, .f32⟩
  | .hbm, ⟨7, _⟩ => ⟨S1x4096, .f32⟩
  | .hbm, ⟨8, _⟩ => ⟨S1024x4096, .f32⟩
  | .hbm, ⟨9, _⟩ => ⟨S1024x4096, .f32⟩
  | .hbm, ⟨10, _⟩ => ⟨S1024x4096, .bf16⟩
  | .hbm, ⟨11, _⟩ => ⟨S65536x4096, .bf16⟩
  | .local _ .vmem, ⟨0, _⟩ => ⟨S512x1024, .f32⟩
  | .local _ .vmem, ⟨1, _⟩ => ⟨S512x1024, .f32⟩
  | .local _ .vmem, ⟨2, _⟩ => ⟨S1024x4096, .bf16⟩
  | .local _ .vmem, ⟨3, _⟩ => ⟨S512x4096, .bf16⟩
  | .local _ .vmem, ⟨4, _⟩ => ⟨S512x4096, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ProjRefIdeal.lean ====
abbrev S65536x1024 : Shape := ⟨2, ![65536, 1024]⟩
abbrev S1024x4096 : Shape := ⟨2, ![1024, 4096]⟩
abbrev S65536x4096 : Shape := ⟨2, ![65536, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x4096, .f32⟩
  | .hbm, ⟨2, _⟩ => ⟨S65536x4096, .f32⟩
  | .hbm, ⟨3, _⟩ => ⟨S65536x1024, .f32⟩
  | .hbm, ⟨4, _⟩ => ⟨S65536x1024, .f32⟩
  | .hbm, ⟨5, _⟩ => ⟨S65536x1024, .f32⟩
  | .hbm, ⟨6, _⟩ => ⟨S65536x1024, .f32⟩
  | .hbm, ⟨7, _⟩ => ⟨S_, .f32⟩
  | .hbm, ⟨8, _⟩ => ⟨S65536x1024, .f32⟩
  | .hbm, ⟨9, _⟩ => ⟨S65536x1024, .f32⟩
  | .hbm, ⟨10, _⟩ => ⟨S65536x4096, .f32⟩
  | .hbm, ⟨11, _⟩ => ⟨S65536x4096, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Gate.lean ====
abbrev S65536x1024 : Shape := ⟨2, ![65536, 1024]⟩
abbrev S1024x4096 : Shape := ⟨2, ![1024, 4096]⟩
abbrev S1024x16 : Shape := ⟨2, ![1024, 16]⟩
abbrev S16 : Shape := ⟨1, ![16]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S1024 : Shape := ⟨1, ![1024]⟩
abbrev S3072 : Shape := ⟨1, ![3072]⟩
abbrev S4096 : Shape := ⟨1, ![4096]⟩
abbrev S1x4096 : Shape := ⟨2, ![1, 4096]⟩
abbrev S1024x32 : Shape := ⟨2, ![1024, 32]⟩
abbrev S1x16 : Shape := ⟨2, ![1, 16]⟩
abbrev S65536x4096 : Shape := ⟨2, ![65536, 4096]⟩
abbrev S65536x16 : Shape := ⟨2, ![65536, 16]⟩
abbrev S512x1024 : Shape := ⟨2, ![512, 1024]⟩
abbrev S512x4096 : Shape := ⟨2, ![512, 4096]⟩
abbrev S512x16 : Shape := ⟨2, ![512, 16]⟩
abbrev S1024x512 : Shape := ⟨2, ![1024, 512]⟩
abbrev S512x32 : Shape := ⟨2, ![512, 32]⟩

abbrev nBuf : Space → Nat
  | .hbm => 29
  | .vmem => 11
  | .smem => 0
  | _ => 0

abbrev bufTy : (tb : Table) → Fin (tcTables nBuf tb) → BufTy
  | .hbm, ⟨0, _⟩ => ⟨S65536x1024, .f32⟩
  | .hbm, ⟨1, _⟩ => ⟨S1024x4096, .f32⟩
  | .hbm, ⟨2, _⟩ => ⟨S1024x16, .f32⟩
  | .hbm, ⟨3, _⟩ => ⟨S16, .f32⟩
  | .hbm, ⟨4, _⟩ => ⟨S512, .i32⟩
  | .hbm, ⟨5, _⟩ => ⟨S512x1, .i32⟩
  | .hbm, ⟨6, _⟩ => ⟨S512, .i32⟩
  | .hbm, ⟨7, _⟩ => ⟨S1x512, .i32⟩
  | .hbm, ⟨8, _⟩ => ⟨S512x512, .i32⟩
  | .hbm, ⟨9, _⟩ => ⟨S512x512, .i32⟩
  | .hbm, ⟨10, _⟩ => ⟨S512x512, .i1⟩
  | .hbm, ⟨11, _⟩ => ⟨S512x512, .bf16⟩
  | .hbm, ⟨12, _⟩ => ⟨S1024x16, .bf16⟩
  | .hbm, ⟨13, _⟩ => ⟨S1024x16, .f32⟩
  | .hbm, ⟨14, _⟩ => ⟨S1024x16, .f32⟩
  | .hbm, ⟨15, _⟩ => ⟨S1024x16, .bf16⟩
  | .hbm, ⟨16, _⟩ => ⟨S_, .f32⟩
  | .hbm, ⟨17, _⟩ => ⟨S1024, .f32⟩
  | .hbm, ⟨18, _⟩ => ⟨S_, .f32⟩
  | .hbm, ⟨19, _⟩ => ⟨S3072, .f32⟩
  | .hbm, ⟨20, _⟩ => ⟨S4096, .f32⟩
  | .hbm, ⟨21, _⟩ => ⟨S1x4096, .f32⟩
  | .hbm, ⟨22, _⟩ => ⟨S1024x4096, .f32⟩
  | .hbm, ⟨23, _⟩ => ⟨S1024x4096, .f32⟩
  | .hbm, ⟨24, _⟩ => ⟨S1024x4096, .bf16⟩
  | .hbm, ⟨25, _⟩ => ⟨S1024x32, .bf16⟩
  | .hbm, ⟨26, _⟩ => ⟨S1x16, .f32⟩
  | .hbm, ⟨27, _⟩ => ⟨S65536x4096, .bf16⟩
  | .hbm, ⟨28, _⟩ => ⟨S65536x16, .f32⟩
  | .local _ .vmem, ⟨0, _⟩ => ⟨S512x1024, .f32⟩
  | .local _ .vmem, ⟨1, _⟩ => ⟨S512x1024, .f32⟩
  | .local _ .vmem, ⟨2, _⟩ => ⟨S1024x4096, .bf16⟩
  | .local _ .vmem, ⟨3, _⟩ => ⟨S1024x32, .bf16⟩
  | .local _ .vmem, ⟨4, _⟩ => ⟨S1x16, .f32⟩
  | .local _ .vmem, ⟨5, _⟩ => ⟨S512x512, .bf16⟩
  | .local _ .vmem, ⟨6, _⟩ => ⟨S512x4096, .bf16⟩
  | .local _ .vmem, ⟨7, _⟩ => ⟨S512x4096, .bf16⟩
  | .local _ .vmem, ⟨8, _⟩ => ⟨S512x16, .f32⟩
  | .local _ .vmem, ⟨9, _⟩ => ⟨S512x16, .f32⟩
  | .local _ .vmem, ⟨10, _⟩ => ⟨S1x16, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21_0 : Ref sig .tc := ⟨.hbm, 27, rfl⟩
abbrev main_v21_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GateRefIdeal.lean ====
abbrev S65536x1024 : Shape := ⟨2, ![65536, 1024]⟩
abbrev S1024x4096 : Shape := ⟨2, ![1024, 4096]⟩
abbrev S1024x16 : Shape := ⟨2, ![1024, 16]⟩
abbrev S16 : Shape := ⟨1, ![16]⟩
abbrev S65536x16 : Shape := ⟨2, ![65536, 16]⟩
abbrev S1x16 : Shape := ⟨2, ![1, 16]⟩
abbrev S_ : Shape := ⟨0, ![]⟩
abbrev S8x8192x16 : Shape := ⟨3, ![8, 8192, 16]⟩
abbrev S65536x4096 : Shape := ⟨2, ![65536, 4096]⟩

abbrev nBuf : Space → Nat
  | .hbm => 39
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x4096, .f32⟩
  | .hbm, ⟨2, _⟩ => ⟨S1024x16, .f32⟩
  | .hbm, ⟨3, _⟩ => ⟨S16, .f32⟩
  | .hbm, ⟨4, _⟩ => ⟨S65536x16, .f32⟩
  | .hbm, ⟨5, _⟩ => ⟨S1x16, .f32⟩
  | .hbm, ⟨6, _⟩ => ⟨S65536x16, .f32⟩
  | .hbm, ⟨7, _⟩ => ⟨S65536x16, .f32⟩
  | .hbm, ⟨8, _⟩ => ⟨S65536x16, .f32⟩
  | .hbm, ⟨9, _⟩ => ⟨S_, .f32⟩
  | .hbm, ⟨10, _⟩ => ⟨S65536x16, .f32⟩
  | .hbm, ⟨11, _⟩ => ⟨S65536x16, .f32⟩
  | .hbm, ⟨12, _⟩ => ⟨S65536x16, .f32⟩
  | .hbm, ⟨13, _⟩ => ⟨S65536x16, .f32⟩
  | .hbm, ⟨14, _⟩ => ⟨S65536x16, .i1⟩
  | .hbm, ⟨15, _⟩ => ⟨S65536x16, .f32⟩
  | .hbm, ⟨16, _⟩ => ⟨S65536x16, .f32⟩
  | .hbm, ⟨17, _⟩ => ⟨S65536x16, .f32⟩
  | .hbm, ⟨18, _⟩ => ⟨S65536x16, .f32⟩
  | .hbm, ⟨19, _⟩ => ⟨S65536x16, .f32⟩
  | .hbm, ⟨20, _⟩ => ⟨S65536x16, .f32⟩
  | .hbm, ⟨21, _⟩ => ⟨S65536x16, .f32⟩
  | .hbm, ⟨22, _⟩ => ⟨S65536x16, .f32⟩
  | .hbm, ⟨23, _⟩ => ⟨S65536x16, .f32⟩
  | .hbm, ⟨24, _⟩ => ⟨S8x8192x16, .f32⟩
  | .hbm, ⟨25, _⟩ => ⟨S_, .f32⟩
  | .hbm, ⟨26, _⟩ => ⟨S_, .f32⟩
  | .hbm, ⟨27, _⟩ => ⟨S8x8192x16, .f32⟩
  | .hbm, ⟨28, _⟩ => ⟨S65536x4096, .f32⟩
  | .hbm, ⟨29, _⟩ => ⟨S65536x1024, .f32⟩
  | .hbm, ⟨30, _⟩ => ⟨S65536x1024, .f32⟩
  | .hbm, ⟨31, _⟩ => ⟨S65536x1024, .f32⟩
  | .hbm, ⟨32, _⟩ => ⟨S65536x1024, .f32⟩
  | .hbm, ⟨33, _⟩ => ⟨S_, .f32⟩
  | .hbm, ⟨34, _⟩ => ⟨S65536x1024, .f32⟩
  | .hbm, ⟨35, _⟩ => ⟨S65536x1024, .f32⟩
  | .hbm, ⟨36, _⟩ => ⟨S65536x4096, .f32⟩
  | .hbm, ⟨37, _⟩ => ⟨S65536x4096, .bf16⟩
  | .hbm, ⟨38, _⟩ => ⟨S65536x16, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_v8 : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_v1 : Ref sig .tc := ⟨.hbm, 22, rfl⟩
abbrev main_v4 : Ref sig .tc := ⟨.hbm, 23, rfl⟩
abbrev main_v5 : Ref sig .tc := ⟨.hbm, 24, rfl⟩
abbrev main_call1_call0_cst : Ref sig .tc := ⟨.hbm, 25, rfl⟩
abbrev main_call1_call0_v0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩

abbrev nD : Nat := 1
abbrev τ : Topo := Topo.v7x

variable {F : FTy → Type} [FloatOps F]
-- ==== Chunk.lean ====
abbrev S65536x4096 : Shape := ⟨2, ![65536, 4096]⟩
abbrev S16x257 : Shape := ⟨2, ![16, 257]⟩
abbrev S256 : Shape := ⟨1, ![256]⟩
abbrev S256x1 : Shape := ⟨2, ![256, 1]⟩
abbrev S768 : Shape := ⟨1, ![768]⟩
abbrev S1x768 : Shape := ⟨2, ![1, 768]⟩
abbrev S_ : Shape := ⟨0, ![]⟩
abbrev S256x768 : Shape := ⟨2, ![256, 768]⟩
abbrev S1x256x768 : Shape := ⟨3, ![1, 256, 768]⟩
abbrev S256x768x1 : Shape := ⟨3, ![256, 768, 1]⟩
abbrev S16x256x768 : Shape := ⟨3, ![16, 256, 768]⟩
abbrev S16x256x3x256 : Shape := ⟨4, ![16, 256, 3, 256]⟩
abbrev S16x3x256x256 : Shape := ⟨4, ![16, 3, 256, 256]⟩
abbrev S16x1x256x256 : Shape := ⟨4, ![16, 1, 256, 256]⟩
abbrev S16x4x256x256 : Shape := ⟨4, ![16, 4, 256, 256]⟩
abbrev S8x2x4x256x256 : Shape := ⟨5, ![8, 2, 4, 256, 256]⟩
abbrev S65536x1024 : Shape := ⟨2, ![65536, 1024]⟩
abbrev S256x128 : Shape := ⟨2, ![256, 128]⟩
abbrev S1x2x4x256x256 : Shape := ⟨5, ![1, 2, 4, 256, 256]⟩
abbrev S1x128 : Shape := ⟨2, ![1, 128]⟩
abbrev S256x256 : Shape := ⟨2, ![256, 256]⟩
abbrev S1x1x1x256x256 : Shape := ⟨5, ![1, 1, 1, 256, 256]⟩

abbrev nBuf : Space → Nat
  | .hbm => 91
  | .vmem => 18
  | .smem => 0
  | _ => 0

abbrev bufTy : (tb : Table) → Fin (tcTables nBuf tb) → BufTy
  | .hbm, ⟨0, _⟩ => ⟨S65536x4096, .bf16⟩
  | .hbm, ⟨1, _⟩ => ⟨S16x257, .f32⟩
  | .hbm, ⟨2, _⟩ => ⟨S256, .i32⟩
  | .hbm, ⟨3, _⟩ => ⟨S256x1, .i32⟩
  | .hbm, ⟨4, _⟩ => ⟨S768, .i32⟩
  | .hbm, ⟨5, _⟩ => ⟨S1x768, .i32⟩
  | .hbm, ⟨6, _⟩ => ⟨S_, .i32⟩
  | .hbm, ⟨7, _⟩ => ⟨S1x768, .i32⟩
  | .hbm, ⟨8, _⟩ => ⟨S1x768, .i32⟩
  | .hbm, ⟨9, _⟩ => ⟨S256x768, .i32⟩
  | .hbm, ⟨10, _⟩ => ⟨S256x768, .i32⟩
  | .hbm, ⟨11, _⟩ => ⟨S256x768, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S256x768, .i32⟩
  | .hbm, ⟨16, _⟩ => ⟨S256x768, .i32⟩
  | .hbm, ⟨17, _⟩ => ⟨S_, .i32⟩
  | .hbm, ⟨18, _⟩ => ⟨S256x768, .i32⟩
  | .hbm, ⟨19, _⟩ => ⟨S256x768, .i32⟩
  | .hbm, ⟨20, _⟩ => ⟨S_, .i32⟩
  | .hbm, ⟨21, _⟩ => ⟨S256x768, .i32⟩
  | .hbm, ⟨22, _⟩ => ⟨S256x768, .i32⟩
  | .hbm, ⟨23, _⟩ => ⟨S_, .i32⟩
  | .hbm, ⟨24, _⟩ => ⟨S_, .i32⟩
  | .hbm, ⟨25, _⟩ => ⟨S256x1, .i32⟩
  | .hbm, ⟨26, _⟩ => ⟨S256x1, .i32⟩
  | .hbm, ⟨27, _⟩ => ⟨S256x1, .i32⟩
  | .hbm, ⟨28, _⟩ => ⟨S_, .i32⟩
  | .hbm, ⟨29, _⟩ => ⟨S256x1, .i32⟩
  | .hbm, ⟨30, _⟩ => ⟨S256x1, .i1⟩
  | .hbm, ⟨31, _⟩ => ⟨S256x1, .i32⟩
  | .hbm, ⟨32, _⟩ => ⟨S256x1, .i32⟩
  | .hbm, ⟨33, _⟩ => ⟨S_, .i32⟩
  | .hbm, ⟨34, _⟩ => ⟨S256x1, .i32⟩
  | .hbm, ⟨35, _⟩ => ⟨S256x1, .i1⟩
  | .hbm, ⟨36, _⟩ => ⟨S256x1, .i1⟩
  | .hbm, ⟨37, _⟩ => ⟨S_, .i32⟩
  | .hbm, ⟨38, _⟩ => ⟨S256x1, .i32⟩
  | .hbm, ⟨39, _⟩ => ⟨S256x1, .i32⟩
  | .hbm, ⟨40, _⟩ => ⟨S256x1, .i32⟩
  | .hbm, ⟨41, _⟩ => ⟨S_, .i32⟩
  | .hbm, ⟨42, _⟩ => ⟨S_, .i32⟩
  | .hbm, ⟨43, _⟩ => ⟨S1x768, .i32⟩
  | .hbm, ⟨44, _⟩ => ⟨S1x768, .i32⟩
  | .hbm, ⟨45, _⟩ => ⟨S1x768, .i32⟩
  | .hbm, ⟨46, _⟩ => ⟨S_, .i32⟩
  | .hbm, ⟨47, _⟩ => ⟨S1x768, .i32⟩
  | .hbm, ⟨48, _⟩ => ⟨S1x768, .i1⟩
  | .hbm, ⟨49, _⟩ => ⟨S1x768, .i32⟩
  | .hbm, ⟨50, _⟩ => ⟨S1x768, .i32⟩
  | .hbm, ⟨51, _⟩ => ⟨S_, .i32⟩
  | .hbm, ⟨52, _⟩ => ⟨S1x768, .i32⟩
  | .hbm, ⟨53, _⟩ => ⟨S1x768, .i1⟩
  | .hbm, ⟨54, _⟩ => ⟨S1x768, .i1⟩
  | .hbm, ⟨55, _⟩ => ⟨S_, .i32⟩
  | .hbm, ⟨56, _⟩ => ⟨S1x768, .i32⟩
  | .hbm, ⟨57, _⟩ => ⟨S1x768, .i32⟩
  | .hbm, ⟨58, _⟩ => ⟨S1x768, .i32⟩
  | .hbm, ⟨59, _⟩ => ⟨S256x768, .i32⟩
  | .hbm, ⟨60, _⟩ => ⟨S256x768, .i32⟩
  | .hbm, ⟨61, _⟩ => ⟨S256x768, .i32⟩
  | .hbm, ⟨62, _⟩ => ⟨S_, .i32⟩
  | .hbm, ⟨63, _⟩ => ⟨S256x768, .i32⟩
  | .hbm, ⟨64, _⟩ => ⟨S256x768, .i1⟩
  | .hbm, ⟨65, _⟩ => ⟨S_, .i32⟩
  | .hbm, ⟨66, _⟩ => ⟨S256x768, .i32⟩
  | .hbm, ⟨67, _⟩ => ⟨S256x768, .i1⟩
  | .hbm, ⟨68, _⟩ => ⟨S256x768, .i1⟩
  | .hbm, ⟨69, _⟩ => ⟨S1x256x768, .i1⟩
  | .hbm, ⟨70, _⟩ => ⟨S_, .i32⟩
  | .hbm, ⟨71, _⟩ => ⟨S256x768, .i32⟩
  | .hbm, ⟨72, _⟩ => ⟨S256x768, .i1⟩
  | .hbm, ⟨73, _⟩ => ⟨S_, .i32⟩
  | .hbm, ⟨74, _⟩ => ⟨S256x768, .i32⟩
  | .hbm, ⟨75, _⟩ => ⟨S256x768, .i32⟩
  | .hbm, ⟨76, _⟩ => ⟨S256x768, .i32⟩
  | .hbm, ⟨77, _⟩ => ⟨S256x768x1, .i32⟩
  | .hbm, ⟨78, _⟩ => ⟨S16x256x768, .f32⟩
  | .hbm, ⟨79, _⟩ => ⟨S_, .f32⟩
  | .hbm, ⟨80, _⟩ => ⟨S_, .f32⟩
  | .hbm, ⟨81, _⟩ => ⟨S16x256x768, .i1⟩
  | .hbm, ⟨82, _⟩ => ⟨S16x256x768, .f32⟩
  | .hbm, ⟨83, _⟩ => ⟨S16x256x768, .f32⟩
  | .hbm, ⟨84, _⟩ => ⟨S16x256x3x256, .f32⟩
  | .hbm, ⟨85, _⟩ => ⟨S16x3x256x256, .f32⟩
  | .hbm, ⟨86, _⟩ => ⟨S_, .f32⟩
  | .hbm, ⟨87, _⟩ => ⟨S16x1x256x256, .f32⟩
  | .hbm, ⟨88, _⟩ => ⟨S16x4x256x256, .f32⟩
  | .hbm, ⟨89, _⟩ => ⟨S8x2x4x256x256, .f32⟩
  | .hbm, ⟨90, _⟩ => ⟨S65536x1024, .bf16⟩
  | .local _ .vmem, ⟨0, _⟩ => ⟨S256x128, .bf16⟩
  | .local _ .vmem, ⟨1, _⟩ => ⟨S256x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S256x128, .bf16⟩
  | .local _ .vmem, ⟨11, _⟩ => ⟨S256x128, .bf16⟩
  | .local _ .vmem, ⟨12, _⟩ => ⟨S256x128, .bf16⟩
  | .local _ .vmem, ⟨13, _⟩ => ⟨S256x128, .bf16⟩
  | .local _ .vmem, ⟨14, _⟩ => ⟨S1x2x4x256x256, .f32⟩
  | .local _ .vmem, ⟨15, _⟩ => ⟨S1x2x4x256x256, .f32⟩
  | .local _ .vmem, ⟨16, _⟩ => ⟨S256x128, .bf16⟩
  | .local _ .vmem, ⟨17, _⟩ => ⟨S256x128, .bf16⟩
  | _, _ => ⟨S65536x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_c : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_0 : Ref sig .tc := ⟨.hbm, 37, rfl⟩
abbrev main_call1_v12 : Ref sig .tc := ⟨.hbm, 38, rfl⟩
abbrev main_call1_v13 : Ref sig .tc := ⟨.hbm, 39, rfl⟩
abbrev main_v12 : Ref sig .tc := ⟨.hbm, 40, rfl⟩
abbrev main_c_4 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_v5 : Ref sig .tc := ⟨.hbm, 47, rfl⟩
abbrev main_call2_v6 : Ref sig .tc := ⟨.hbm, 48, rfl⟩
abbrev main_call2_v7 : Ref sig .tc := ⟨.hbm, 49, rfl⟩
abbrev main_call2_v8 : Ref sig .tc := ⟨.hbm, 50, rfl⟩
abbrev main_call2_c : Ref sig .tc := ⟨.hbm, 51, rfl⟩
abbrev main_call2_v9 : Ref sig .tc := ⟨.hbm, 52, rfl⟩
abbrev main_call2_v10 : Ref sig .tc := ⟨.hbm, 53, rfl⟩
abbrev main_call2_v11 : Ref sig .tc := ⟨.hbm, 54, rfl⟩
abbrev main_call2_c_0 : Ref sig .tc := ⟨.hbm, 55, rfl⟩
abbrev main_call2_v12 : Ref sig .tc := ⟨.hbm, 56, rfl⟩
abbrev main_call2_v13 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_c_5 : Ref sig .tc := ⟨.hbm, 62, rfl⟩
abbrev main_v17 : Ref sig .tc := ⟨.hbm, 63, rfl⟩
abbrev main_v18 : Ref sig .tc := ⟨.hbm, 64, rfl⟩
abbrev main_c_6 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_c_7 : Ref sig .tc := ⟨.hbm, 70, rfl⟩
abbrev main_v23 : Ref sig .tc := ⟨.hbm, 71, rfl⟩
abbrev main_v24 : Ref sig .tc := ⟨.hbm, 72, rfl⟩
abbrev main_c_8 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_cst : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_cst_9 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![8, 8, 32], ![false, false, false]⟩

def k0_off1 (i : grid0.Coords) (c0_i32_2 : BitVec 32) (c0_i32_3 : BitVec 32) : Fin 5 → Nat :=
  let c0_7 : Index := 0#32
  let c0_8 : Index := 0#32
  let arg2 : BitVec 32 := BitVec.ofNat 32 (i 2).val
  let v16 : BitVec 32 := Scalar.addi arg2 c0_i32_2
  let c2_i32 : BitVec 32 := 2#32
  let v17 : BitVec 1 := Scalar.cmpi .sge v16 c2_i32
  let c3_i32 : BitVec 32 := 3#32
  let v18 : BitVec 32 := Scalar.select v17 c0_i32_3 c3_i32
  let v21 : Index := Scalar.indexCast v18
  let c0_9 : Index := 0#32
  let c0_10 : Index := 0#32
  ![0, 0, v21.toNat, 0, 0]
def k0_off1_at (r : Fin 3) : BitVec 32 × BitVec 32 :=
  if r.val < 1 then
    (0#32, 0#32)
  else
    if r.val < 2 then
      (1#32, 1#32)
    else
      (2#32, 2#32)
def k0_off2 (i : grid0.Coords) (c0_i32_48 : BitVec 32) (c0_i32_50 : BitVec 32) : Fin 5 → Nat :=
  let c0_55 : Index := 0#32
  let c1 : Index := 1#32
  let arg2 : BitVec 32 := BitVec.ofNat 32 (i 2).val
  let v85 : BitVec 32 := Scalar.addi arg2 c0_i32_48
  let c2_i32_49 : BitVec 32 := 2#32
  let v86 : BitVec 1 := Scalar.cmpi .sge v85 c2_i32_49
  let c3_i32_51 : BitVec 32 := 3#32
  let v87 : BitVec 32 := Scalar.select v86 c0_i32_50 c3_i32_51
  let v90 : Index := Scalar.indexCast v87
  let c0_56 : Index := 0#32
  let c0_57 : Index := 0#32
  ![0, 1, v90.toNat, 0, 0]
def k0_off2_at (r : Fin 3) : BitVec 32 × BitVec 32 :=
  if r.val < 1 then
    (0#32, 0#32)
  else
    if r.val < 2 then
      (1#32, 1#32)
    else
      (2#32, 2#32)
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c2_i32 : BitVec 32 := 2#32
  let v1 : BitVec 32 := Scalar.subi arg2 c2_i32
  let c0_i32 : BitVec 32 := 0#32
  let v2 : BitVec 32 := Scalar.addi v1 c0_i32
  let c0_i32_0 : BitVec 32 := 0#32
  let v3 : BitVec 32 := Scalar.maxsi v2 c0_i32_0
  let v4 : BitVec 32 := Scalar.addi v0 v3
  let c8_i32 : BitVec 32 := 8#32
  let v5 : BitVec 32 := Scalar.addi c8_i32 arg1
  let c0_i32_1 : BitVec 32 := 0#32
  ![v4.toNat, v5.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c2_i32 : BitVec 32 := 2#32
  let v1 : BitVec 32 := Scalar.subi arg2 c2_i32
  let c1_i32 : BitVec 32 := 1#32
  let v2 : BitVec 32 := Scalar.addi v1 c1_i32
  let c0_i32 : BitVec 32 := 0#32
  let v3 : BitVec 32 := Scalar.maxsi v2 c0_i32
  let v4 : BitVec 32 := Scalar.addi v0 v3
  let c8_i32 : BitVec 32 := 8#32
  let v5 : BitVec 32 := Scalar.addi c8_i32 arg1
  let c0_i32_0 : BitVec 32 := 0#32
  ![v4.toNat, v5.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c2_i32 : BitVec 32 := 2#32
  let v1 : BitVec 32 := Scalar.subi arg2 c2_i32
  let c2_i32_0 : BitVec 32 := 2#32
  let v2 : BitVec 32 := Scalar.addi v1 c2_i32_0
  let c0_i32 : BitVec 32 := 0#32
  let v3 : BitVec 32 := Scalar.maxsi v2 c0_i32
  let v4 : BitVec 32 := Scalar.addi v0 v3
  let c8_i32 : BitVec 32 := 8#32
  let v5 : BitVec 32 := Scalar.addi c8_i32 arg1
  let c0_i32_1 : BitVec 32 := 0#32
  ![v4.toNat, v5.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c2_i32 : BitVec 32 := 2#32
  let v1 : BitVec 32 := Scalar.subi arg2 c2_i32
  let c0_i32 : BitVec 32 := 0#32
  let v2 : BitVec 32 := Scalar.addi v1 c0_i32
  let c0_i32_0 : BitVec 32 := 0#32
  let v3 : BitVec 32 := Scalar.maxsi v2 c0_i32_0
  let v4 : BitVec 32 := Scalar.addi v0 v3
  let c16_i32 : BitVec 32 := 16#32
  let v5 : BitVec 32 := Scalar.addi c16_i32 arg1
  let c0_i32_1 : BitVec 32 := 0#32
  ![v4.toNat, v5.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c2_i32 : BitVec 32 := 2#32
  let v1 : BitVec 32 := Scalar.subi arg2 c2_i32
  let c1_i32 : BitVec 32 := 1#32
  let v2 : BitVec 32 := Scalar.addi v1 c1_i32
  let c0_i32 : BitVec 32 := 0#32
  let v3 : BitVec 32 := Scalar.maxsi v2 c0_i32
  let v4 : BitVec 32 := Scalar.addi v0 v3
  let c16_i32 : BitVec 32 := 16#32
  let v5 : BitVec 32 := Scalar.addi c16_i32 arg1
  let c0_i32_0 : BitVec 32 := 0#32
  ![v4.toNat, v5.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c2_i32 : BitVec 32 := 2#32
  let v1 : BitVec 32 := Scalar.subi arg2 c2_i32
  let c2_i32_0 : BitVec 32 := 2#32
  let v2 : BitVec 32 := Scalar.addi v1 c2_i32_0
  let c0_i32 : BitVec 32 := 0#32
  let v3 : BitVec 32 := Scalar.maxsi v2 c0_i32
  let v4 : BitVec 32 := Scalar.addi v0 v3
  let c16_i32 : BitVec 32 := 16#32
  let v5 : BitVec 32 := Scalar.addi c16_i32 arg1
  let c0_i32_1 : BitVec 32 := 0#32
  ![v4.toNat, v5.toNat]

def cc0_transform_7 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg1.toNat, c0_i32.toNat, c0_i32_0.toNat, c0_i32_1.toNat, c0_i32_2.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x2x4x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ChunkRefIdeal.lean ====
abbrev S65536x4096 : Shape := ⟨2, ![65536, 4096]⟩
abbrev S16x257 : Shape := ⟨2, ![16, 257]⟩
abbrev S8x8192x4096 : Shape := ⟨3, ![8, 8192, 4096]⟩
abbrev S8x8192x1024 : Shape := ⟨3, ![8, 8192, 1024]⟩
abbrev S8x8192x16x64 : Shape := ⟨4, ![8, 8192, 16, 64]⟩
abbrev S8x16x8192x64 : Shape := ⟨4, ![8, 16, 8192, 64]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S8192x8192x1 : Shape := ⟨3, ![8192, 8192, 1]⟩
abbrev S16x8192x8192 : Shape := ⟨3, ![16, 8192, 8192]⟩
abbrev S8x16x8192x8192 : Shape := ⟨4, ![8, 16, 8192, 8192]⟩
abbrev S1x16x8192x8192 : Shape := ⟨4, ![1, 16, 8192, 8192]⟩
abbrev S8x16x8192 : Shape := ⟨3, ![8, 16, 8192]⟩
abbrev S8x16x8192x1 : Shape := ⟨4, ![8, 16, 8192, 1]⟩
abbrev S65536x1024 : Shape := ⟨2, ![65536, 1024]⟩

abbrev nBuf : Space → Nat
  | .hbm => 98
  | .vmem => 0
  | .smem => 0
  | _ => 0

abbrev bufTy : (tb : Table) → Fin (tcTables nBuf tb) → BufTy
  | .hbm, ⟨0, _⟩ => ⟨S65536x4096, .bf16⟩
  | .hbm, ⟨1, _⟩ => ⟨S16x257, .f32⟩
  | .hbm, ⟨2, _⟩ => ⟨S65536x4096, .f32⟩
  | .hbm, ⟨3, _⟩ => ⟨S8x8192x4096, .f32⟩
  | .hbm, ⟨4, _⟩ => ⟨S8x8192x1024, .f32⟩
  | .hbm, ⟨5, _⟩ => ⟨S8x8192x1024, .f32⟩
  | .hbm, ⟨6, _⟩ => ⟨S8x8192x1024, .f32⟩
  | .hbm, ⟨7, _⟩ => ⟨S8x8192x1024, .f32⟩
  | .hbm, ⟨8, _⟩ => ⟨S8x8192x16x64, .f32⟩
  | .hbm, ⟨9, _⟩ => ⟨S8x16x8192x64, .f32⟩
  | .hbm, ⟨10, _⟩ => ⟨S8x8192x16x64, .f32⟩
  | .hbm, ⟨11, _⟩ => ⟨S8x16x8192x64, .f32⟩
  | .hbm, ⟨12, _⟩ => ⟨S8x8192x16x64, .f32⟩
  | .hbm, ⟨13, _⟩ => ⟨S8x16x8192x64, .f32⟩
  | .hbm, ⟨14, _⟩ => ⟨S8192, .i32⟩
  | .hbm, ⟨15, _⟩ => ⟨S8192x1, .i32⟩
  | .hbm, ⟨16, _⟩ => ⟨S1x8192, .i32⟩
  | .hbm, ⟨17, _⟩ => ⟨S8192x8192, .i32⟩
  | .hbm, ⟨18, _⟩ => ⟨S8192x8192, .i32⟩
  | .hbm, ⟨19, _⟩ => ⟨S8192x8192, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S8192x8192, .i32⟩
  | .hbm, ⟨24, _⟩ => ⟨S8192x8192, .i32⟩
  | .hbm, ⟨25, _⟩ => ⟨S_, .i32⟩
  | .hbm, ⟨26, _⟩ => ⟨S8192x8192, .i32⟩
  | .hbm, ⟨27, _⟩ => ⟨S8192x8192, .i32⟩
  | .hbm, ⟨28, _⟩ => ⟨S_, .i32⟩
  | .hbm, ⟨29, _⟩ => ⟨S8192x8192, .i32⟩
  | .hbm, ⟨30, _⟩ => ⟨S8192x8192, .i32⟩
  | .hbm, ⟨31, _⟩ => ⟨S_, .i32⟩
  | .hbm, ⟨32, _⟩ => ⟨S8192x8192, .i32⟩
  | .hbm, ⟨33, _⟩ => ⟨S8192x8192, .i1⟩
  | .hbm, ⟨34, _⟩ => ⟨S_, .i32⟩
  | .hbm, ⟨35, _⟩ => ⟨S8192x8192, .i32⟩
  | .hbm, ⟨36, _⟩ => ⟨S8192x8192, .i32⟩
  | .hbm, ⟨37, _⟩ => ⟨S8192x8192, .i32⟩
  | .hbm, ⟨38, _⟩ => ⟨S8192x8192x1, .i32⟩
  | .hbm, ⟨39, _⟩ => ⟨S16x8192x8192, .f32⟩
  | .hbm, ⟨40, _⟩ => ⟨S_, .i32⟩
  | .hbm, ⟨41, _⟩ => ⟨S_, .i32⟩
  | .hbm, ⟨42, _⟩ => ⟨S8192, .i32⟩
  | .hbm, ⟨43, _⟩ => ⟨S8192, .i32⟩
  | .hbm, ⟨44, _⟩ => ⟨S8192, .i32⟩
  | .hbm, ⟨45, _⟩ => ⟨S_, .i32⟩
  | .hbm, ⟨46, _⟩ => ⟨S8192, .i32⟩
  | .hbm, ⟨47, _⟩ => ⟨S8192, .i1⟩
  | .hbm, ⟨48, _⟩ => ⟨S8192, .i32⟩
  | .hbm, ⟨49, _⟩ => ⟨S8192, .i32⟩
  | .hbm, ⟨50, _⟩ => ⟨S_, .i32⟩
  | .hbm, ⟨51, _⟩ => ⟨S8192, .i32⟩
  | .hbm, ⟨52, _⟩ => ⟨S8192, .i1⟩
  | .hbm, ⟨53, _⟩ => ⟨S8192, .i1⟩
  | .hbm, ⟨54, _⟩ => ⟨S_, .i32⟩
  | .hbm, ⟨55, _⟩ => ⟨S8192, .i32⟩
  | .hbm, ⟨56, _⟩ => ⟨S8192, .i32⟩
  | .hbm, ⟨57, _⟩ => ⟨S8192, .i32⟩
  | .hbm, ⟨58, _⟩ => ⟨S8192x1, .i32⟩
  | .hbm, ⟨59, _⟩ => ⟨S1x8192, .i32⟩
  | .hbm, ⟨60, _⟩ => ⟨S8192x8192, .i32⟩
  | .hbm, ⟨61, _⟩ => ⟨S8192x8192, .i32⟩
  | .hbm, ⟨62, _⟩ => ⟨S8192x8192, .i32⟩
  | .hbm, ⟨63, _⟩ => ⟨S8x16x8192x8192, .f32⟩
  | .hbm, ⟨64, _⟩ => ⟨S1x16x8192x8192, .f32⟩
  | .hbm, ⟨65, _⟩ => ⟨S8x16x8192x8192, .f32⟩
  | .hbm, ⟨66, _⟩ => ⟨S8x16x8192x8192, .f32⟩
  | .hbm, ⟨67, _⟩ => ⟨S_, .i32⟩
  | .hbm, ⟨68, _⟩ => ⟨S8192x8192, .i32⟩
  | .hbm, ⟨69, _⟩ => ⟨S8192x8192, .i1⟩
  | .hbm, ⟨70, _⟩ => ⟨S_, .i32⟩
  | .hbm, ⟨71, _⟩ => ⟨S8192x8192, .i32⟩
  | .hbm, ⟨72, _⟩ => ⟨S8192x8192, .i1⟩
  | .hbm, ⟨73, _⟩ => ⟨S8192x8192, .i1⟩
  | .hbm, ⟨74, _⟩ => ⟨S_, .f32⟩
  | .hbm, ⟨75, _⟩ => ⟨S_, .f32⟩
  | .hbm, ⟨76, _⟩ => ⟨S8x16x8192x8192, .i1⟩
  | .hbm, ⟨77, _⟩ => ⟨S8x16x8192x8192, .f32⟩
  | .hbm, ⟨78, _⟩ => ⟨S8x16x8192x8192, .f32⟩
  | .hbm, ⟨79, _⟩ => ⟨S_, .f32⟩
  | .hbm, ⟨80, _⟩ => ⟨S8x16x8192, .f32⟩
  | .hbm, ⟨81, _⟩ => ⟨S_, .f32⟩
  | .hbm, ⟨82, _⟩ => ⟨S8x16x8192, .f32⟩
  | .hbm, ⟨83, _⟩ => ⟨S8x16x8192, .f32⟩
  | .hbm, ⟨84, _⟩ => ⟨S8x16x8192x1, .f32⟩
  | .hbm, ⟨85, _⟩ => ⟨S8x16x8192x8192, .f32⟩
  | .hbm, ⟨86, _⟩ => ⟨S8x16x8192x8192, .f32⟩
  | .hbm, ⟨87, _⟩ => ⟨S8x16x8192x8192, .f32⟩
  | .hbm, ⟨88, _⟩ => ⟨S_, .f32⟩
  | .hbm, ⟨89, _⟩ => ⟨S8x16x8192, .f32⟩
  | .hbm, ⟨90, _⟩ => ⟨S8x16x8192x1, .f32⟩
  | .hbm, ⟨91, _⟩ => ⟨S8x16x8192x8192, .f32⟩
  | .hbm, ⟨92, _⟩ => ⟨S8x16x8192x8192, .f32⟩
  | .hbm, ⟨93, _⟩ => ⟨S8x16x8192x64, .f32⟩
  | .hbm, ⟨94, _⟩ => ⟨S8x8192x16x64, .f32⟩
  | .hbm, ⟨95, _⟩ => ⟨S8x8192x1024, .f32⟩
  | .hbm, ⟨96, _⟩ => ⟨S65536x1024, .f32⟩
  | .hbm, ⟨97, _⟩ => ⟨S65536x1024, .bf16⟩
  | _, _ => ⟨S65536x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_c : Ref sig .tc := ⟨.hbm, 20, rfl⟩
abbrev main_c_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v18 : Ref sig .tc := ⟨.hbm, 27, rfl⟩
abbrev main_c_1 : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_c : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_0 : Ref sig .tc := ⟨.hbm, 54, rfl⟩
abbrev main_call1_v12 : Ref sig .tc := ⟨.hbm, 55, rfl⟩
abbrev main_call1_v13 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_c_5 : Ref sig .tc := ⟨.hbm, 67, rfl⟩
abbrev main_v38 : Ref sig .tc := ⟨.hbm, 68, rfl⟩
abbrev main_v39 : Ref sig .tc := ⟨.hbm, 69, rfl⟩
abbrev main_c_6 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_v43 : Ref sig .tc := ⟨.hbm, 78, rfl⟩
abbrev main_cst_7 : Ref sig .tc := ⟨.hbm, 79, rfl⟩
abbrev main_v44 : Ref sig .tc := ⟨.hbm, 80, rfl⟩
abbrev main_cst_8 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_cst_9 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩

abbrev nD : Nat := 1
abbrev τ : Topo := Topo.v7x

variable {F : FTy → Type} [FloatOps F]
-- ==== Proof.Payload.lean ====
module

public import proofs.«01_k».proof.Proof.Gen.KernelIdeal.Skeleton
public import Idealize.ShloMosaic.Lib.Pointwise
public import Idealize.ShloMosaic.Lib.WordCmp

@[expose] public section

set_option synthInstance.maxSize 4096
set_option maxRecDepth 16384

noncomputable section

namespace Cert.KernelIdeal.Payload

open Idealize.ShloMosaic Cert.KernelIdeal.Gen

/-- The named constant is minus infinity. -/
theorem named_mask : Named.named (F := Ideal) κ "mask" (φ := .f32) 0xF149F2CA#32 = (⊥ : EReal) :=
  IdealRules.named_const.ideal_named_scalar _ _ _ _ rfl

/-- The comparison of a column with a row of a block, as words. -/
theorem sle_word (j r : Fin 512) (a b : EReal) :
    Scalar.select (IntOp.cmpi .sle (BitVec.ofNat 32 j.val) (BitVec.ofNat 32 r.val)) a b = if j.val ≤ r.val then a else b := by
  rw [Scalar.select]
  refine if_congr (WordCmp.cmpi_sle_ofNat_eq_one_iff ?_ ?_) rfl rfl
  · have := j.isLt; omega
  · have := r.isLt; omega

/-- The lanes of the first head, as words. -/
theorem low_word : ∀ d : Fin 128, IntOp.andi (IntOp.cmpi .sge (BitVec.ofNat 32 d.val) 0#32)
    (IntOp.cmpi .slt (BitVec.ofNat 32 d.val) 64#32) = 1 ↔ d.val < 64 := by decide +kernel

/-- The lanes of the second head, as words. -/
theorem high_word : ∀ d : Fin 128, IntOp.andi (IntOp.cmpi .sge (BitVec.ofNat 32 d.val) 64#32)
    (IntOp.cmpi .slt (BitVec.ofNat 32 d.val) 128#32) = 1 ↔ 64 ≤ d.val := by decide +kernel

/-- The column of a head's gate, as words. -/
theorem gate_word : ∀ (h : Fin 2) (p : Fin 8) (x : Fin 16), IntOp.cmpi .eq (BitVec.ofNat 32 x.val)
    (Scalar.addi (Scalar.muli (BitVec.ofNat 32 p.val) 2#32) (BitVec.ofNat 32 h.val)) = 1 ↔ x.val = 2 * p.val + h.val := by
  decide +kernel

/-- A grid point's second coordinate, the pair of heads, is below 8. -/
theorem pair_lt (i : grid0.Coords) : (i 1).val < 8 := (i 1).isLt

/-- A grid point's third coordinate, the block of queries, is below 16. -/
theorem block_lt (i : grid0.Coords) : (i 2).val < 16 := (i 2).isLt

/-- The head a plane `h` of a grid point's pair works on. -/
def head (i : grid0.Coords) (h : Fin 2) : Fin 16 := ⟨2 * (i 1).val + h.val, by have := pair_lt i; omega⟩

/-- A sum over the gates of which only one head's is kept. -/
theorem gate_sum (i : grid0.Coords) (h : Fin 2) (g : Fin 16 → EReal) :
    ∑ x : Fin 16, Scalar.select (IntOp.cmpi .eq (BitVec.ofNat 32 x.val)
      (Scalar.addi (Scalar.muli (BitVec.ofNat 32 (i 1).val) 2#32) (BitVec.ofNat 32 h.val))) (g x) 0 = g (head i h) := by
  rw [Finset.sum_eq_single (head i h)]
  · exact if_pos ((gate_word h ⟨(i 1).val, pair_lt i⟩ (head i h)).2 rfl)
  · intro x _ hx
    exact if_neg fun hc => hx (Fin.ext ((gate_word h ⟨(i 1).val, pair_lt i⟩ x).1 hc))
  · exact fun hx => absurd (Finset.mem_univ _) hx

/-- The word of minus infinity reads as minus infinity. -/
theorem ninf : Ideal.ofBits .f32 0xFF800000#32 = (⊥ : EReal) := by
  simp [Ideal.ofBits, Ideal.ieee]

/-- A score: query times key plus the gates' difference. -/
theorem score_apply (kb : FVec Ideal S512x128 .bf16) (fk : FVec Ideal S1x1x512 .f32) (qh : FVec Ideal S1x512x128 .bf16)
    (fq : FVec Ideal S1x512x1 .f32) (r j : Fin 512) :
    k0_pay2 (F := Ideal) kb fk qh fq (ix2 r j)
      = (∑ d : Fin 128, qh (ix3 0 r d) * kb (ix2 j d)) + (fq (ix3 0 r 0) - fk (ix3 0 0 j)) := by
  pointwise [k0_pay2]

/-- The new maximum of a row: of the old one and of the scores. -/
theorem newMax_apply (s : FVec Ideal S512x512 .f32) (m : FVec Ideal S1x512x1 .f32) (r : Fin 512) :
    k0_pay41 (F := Ideal) s m (ix3 0 r 0)
      = max (m (ix3 0 r 0)) (Finset.univ.fold max ⊥ fun j => s (ix2 r j)) := by
  pointwise [k0_pay41, k0_pay36, k0_pay35]
  rw [ninf]

/-- The new sum of a row: the old one rescaled, plus the exponentials. -/
theorem newSum_apply (s : FVec Ideal S512x512 .f32) (m l : FVec Ideal S1x512x1 .f32) (r : Fin 512) :
    k0_pay39 (F := Ideal) s m l (ix3 0 r 0)
      = Ideal.exp (m (ix3 0 r 0) - max (m (ix3 0 r 0)) (Finset.univ.fold max ⊥ fun j => s (ix2 r j))) * l (ix3 0 r 0)
        + ∑ j, Ideal.exp (s (ix2 r j) - max (m (ix3 0 r 0)) (Finset.univ.fold max ⊥ fun j => s (ix2 r j))) := by
  pointwise [k0_pay39, k0_pay38, k0_pay37, k0_pay36, k0_pay35]
  simp only [ninf]

/-- The new accumulator: the old one rescaled, plus the exponentials times the values. -/
theorem newAcc_apply (w : FVec Ideal S512x128 .bf16) (s : FVec Ideal S512x512 .f32) (m : FVec Ideal S1x512x1 .f32)
    (a : FVec Ideal S1x512x128 .f32) (r : Fin 512) (d : Fin 128) :
    k0_pay40 (F := Ideal) w s m a (ix3 0 r d)
      = Ideal.exp (m (ix3 0 r 0) - max (m (ix3 0 r 0)) (Finset.univ.fold max ⊥ fun j => s (ix2 r j))) * a (ix3 0 r d)
        + ∑ j, Ideal.exp (s (ix2 r j) - max (m (ix3 0 r 0)) (Finset.univ.fold max ⊥ fun j => s (ix2 r j))) * w (ix2 j d) := by
  pointwise [k0_pay40, k0_pay38, k0_pay37, k0_pay36, k0_pay35]
  simp only [ninf]

/-- A score of the diagonal block: minus infinity past the row. -/
theorem masked_apply (kb : FVec Ideal S512x128 .bf16) (fk : FVec Ideal S1x1x512 .f32) (qh : FVec Ideal S1x512x128 .bf16)
    (fq : FVec Ideal S1x512x1 .f32) (r j : Fin 512) :
    k0_pay60 (F := Ideal) kb fk qh fq (ix2 r j)
      = if j.val ≤ r.val then k0_pay2 (F := Ideal) kb fk qh fq (ix2 r j) else ⊥ := by
  pointwise [k0_pay60, k0_pay2]
  rw [sle_word, named_mask]

/-- The queries with the lanes of the second head cleared. -/
theorem low_apply (q : FVec Ideal S512x128 .bf16) (r : Fin 512) (d : Fin 128) :
    k0_pay23 (F := Ideal) q (ix3 0 r d) = if d.val < 64 then q (ix2 r d) else 0 := by
  pointwise [k0_pay23]
  exact if_congr (low_word d) rfl rfl

/-- The queries with the lanes of the first head cleared. -/
theorem high_apply (q : FVec Ideal S512x128 .bf16) (r : Fin 512) (d : Fin 128) :
    k0_pay29 (F := Ideal) q k0_pay22 (ix3 0 r d) = if 64 ≤ d.val then q (ix2 r d) else 0 := by
  pointwise [k0_pay29, k0_pay22]
  exact if_congr (high_word d) rfl rfl

/-- The first head's gate of a row. -/
theorem gate0_apply (i : grid0.Coords) (f : FVec Ideal S512x16 .f32) (r : Fin 512) :
    k0_pay24 (F := Ideal) i f (ix3 0 r 0) = f (ix2 r (head i 0)) := by
  pointwise [k0_pay24]
  exact gate_sum i 0 fun x => f (ix2 r x)

/-- The second head's gate of a row. -/
theorem gate1_apply (i : grid0.Coords) (f : FVec Ideal S512x16 .f32) (r : Fin 512) :
    k0_pay30 (F := Ideal) (BitVec.ofNat 32 (i 1).val) f (iota .tc S1x16 32 [1] iota_S1x16_d1_w32) (ix3 0 r 0)
      = f (ix2 r (head i 1)) := by
  pointwise [k0_pay30]
  exact gate_sum i 1 fun x => f (ix2 r x)

/-- The block of results: the first head's quotient in its lanes, the second head's in the others. -/
theorem out_apply (n0 a1 : FVec Ideal S512x128 .f32) (l1 : FVec Ideal S1x512x1 .f32) (r : Fin 512) (d : Fin 128) :
    k0_pay1 (F := Ideal) k0_pay22 n0 a1 l1 (ix2 r d)
      = if 64 ≤ d.val then Ideal.div (a1 (ix2 r d)) (l1 (ix3 0 r 0)) else n0 (ix2 r d) := by
  pointwise [k0_pay1, k0_pay22]
  exact if_congr (high_word d) rfl rfl

/-- A quotient of the accumulator and the sum. -/
theorem quot_apply (a : FVec Ideal S1x512x128 .f32) (l : FVec Ideal S1x512x1 .f32) (r : Fin 512) (d : Fin 128) :
    k0_pay68 (F := Ideal) a l (ix2 r d) = Ideal.div (a (ix3 0 r d)) (l (ix3 0 r 0)) := by
  pointwise [k0_pay68]

/-- A change of shape that moves nothing. -/
theorem same_apply (a : FVec Ideal S1x512x128 .f32) (r : Fin 512) (d : Fin 128) :
    k0_pay69 (F := Ideal) a (ix2 r d) = a (ix3 0 r d) := by
  pointwise [k0_pay69]

/-- The first head's maximum starts at minus infinity. -/
theorem init_m0 (r : Fin 512) : k0_pay26 (F := Ideal) k0_pay25 (ix3 0 r 0) = ⊥ := by
  pointwise [k0_pay26, k0_pay25]
  exact named_mask

/-- The second head's maximum starts at minus infinity. -/
theorem init_m1 (r : Fin 512) : k0_pay32 (F := Ideal) k0_pay31 (ix3 0 r 0) = ⊥ := by
  pointwise [k0_pay32, k0_pay31]
  exact named_mask

/-- The second head's sum starts at zero. -/
theorem init_l1 (r : Fin 512) : k0_pay33 (F := Ideal) (ix3 0 r 0) = 0 := by
  pointwise [k0_pay33]

/-- The second head's accumulator starts at zero. -/
theorem init_a1 (r : Fin 512) (d : Fin 128) : k0_pay34 (F := Ideal) (ix3 0 r d) = 0 := by
  pointwise [k0_pay34]

/-- The first head's sum starts at zero. -/
theorem init_l0 (r : Fin 512) : k0_pay27 (F := Ideal) (ix3 0 r 0) = 0 := by
  pointwise [k0_pay27]

/-- The first head's accumulator starts at zero. -/
theorem init_a0 (r : Fin 512) (d : Fin 128) : k0_pay28 (F := Ideal) (ix3 0 r d) = 0 := by
  pointwise [k0_pay28]

end Cert.KernelIdeal.Payload

end
-- ==== Proof.Rows.lean ====
module

public import Idealize.ShloMosaic.Lib.Pointwise

@[expose] public section

/-!
One row of the attention, as mathematics over the extended reals. Positions are natural numbers; `x s` is the row's score
at position `s`, `v s` the value there. `RowInv x v n m l a` says what a running maximum `m`, a running sum `l` and a
running weighted sum `a` hold after the positions below `n`: nothing yet, or the two sums taken at SOME finite reference
point `M = m`. That `M` is the largest score is never needed: the quotient `a / l` does not depend on it.
-/

noncomputable section

namespace Cert.KernelIdeal.Rows

open Idealize.ShloMosaic

/-- The row's sum of weights up to position `n`, taken relative to `M`. -/
def lsum (x : ℕ → ℝ) (n : ℕ) (M : ℝ) : ℝ := ∑ s ∈ Finset.range n, Real.exp (x s - M)

/-- The row's weighted sum of values up to position `n`, taken relative to `M`. -/
def asum (x v : ℕ → ℝ) (n : ℕ) (M : ℝ) : ℝ := ∑ s ∈ Finset.range n, Real.exp (x s - M) * v s

/-- What the row's softmax-weighted mean of the values below position `n` is. -/
def mean (x v : ℕ → ℝ) (n : ℕ) : ℝ := asum x v n 0 / lsum x n 0

/-- The running triple after the positions below `n`. -/
def RowInv (x v : ℕ → ℝ) (n : ℕ) (m l a : EReal) : Prop :=
  (n = 0 ∧ m = ⊥ ∧ l = 0 ∧ a = 0) ∨ ∃ M : ℝ, m = M ∧ l = (lsum x n M : ℝ) ∧ a = (asum x v n M : ℝ)

/-- Before any position the triple is minus infinity and two zeros. -/
theorem rowInv_zero (x v : ℕ → ℝ) : RowInv x v 0 ⊥ 0 0 := .inl ⟨rfl, rfl, rfl, rfl⟩

/-- Moving the reference point scales the sum of weights. -/
theorem lsum_shift (x : ℕ → ℝ) (n : ℕ) (M M' : ℝ) : lsum x n M' = Real.exp (M - M') * lsum x n M := by
  unfold lsum
  rw [Finset.mul_sum]
  refine Finset.sum_congr rfl fun s _ => ?_
  rw [← Real.exp_add]; congr 1; ring

/-- Moving the reference point scales the weighted sum by the same factor. -/
theorem asum_shift (x v : ℕ → ℝ) (n : ℕ) (M M' : ℝ) : asum x v n M' = Real.exp (M - M') * asum x v n M := by
  unfold asum
  rw [Finset.mul_sum]
  refine Finset.sum_congr rfl fun s _ => ?_
  rw [← mul_assoc, ← Real.exp_add]; congr 2; ring

/-- The sum of weights of a non-empty row is positive. -/
theorem lsum_pos (x : ℕ → ℝ) (n : ℕ) (hn : 0 < n) (M : ℝ) : 0 < lsum x n M :=
  Finset.sum_pos (fun _ _ => Real.exp_pos _) ⟨0, Finset.mem_range.2 hn⟩

/-- The quotient of the two sums is the mean, whatever the reference point. -/
theorem asum_div_lsum (x v : ℕ → ℝ) (n : ℕ) (M : ℝ) : asum x v n M / lsum x n M = mean x v n := by
  unfold mean
  rw [asum_shift x v n 0 M, lsum_shift x n 0 M]
  exact mul_div_mul_left _ _ (Real.exp_ne_zero _)

/-- A sum of finitely many reals, read in the extended reals. -/
theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The largest of finitely many entries, each real or minus infinity and one of them real, is real. -/
theorem fold_max_real {ι : Type*} [Fintype ι] (s : ι → EReal) (hs : ∀ j, s j = ⊥ ∨ ∃ r : ℝ, s j = r)
    (j₀ : ι) (r₀ : ℝ) (h₀ : s j₀ = r₀) : ∃ S : ℝ, Finset.univ.fold max ⊥ s = S := by
  classical
  have hsup : Finset.univ.fold max ⊥ s = Finset.univ.sup s := rfl
  rw [hsup]
  obtain ⟨i, _, hi⟩ := Finset.exists_mem_eq_sup Finset.univ ⟨j₀, Finset.mem_univ _⟩ s
  rw [hi]
  rcases hs i with h | ⟨r, h⟩
  · exfalso
    have : s j₀ ≤ Finset.univ.sup s := Finset.le_sup (Finset.mem_univ _)
    rw [hi, h, h₀] at this
    exact absurd (le_bot_iff.1 this) (EReal.coe_ne_bot _)
  · exact ⟨r, h⟩

/-- A block of `B` columns of which the first `c` count adds the positions `b … b + c - 1`. -/
theorem sum_block (B : ℕ) (g : ℕ → ℝ) (b c : ℕ) (hc : c ≤ B) :
    (∑ j : Fin B, if j.val < c then g (b + j.val) else 0) = ∑ s ∈ Finset.range c, g (b + s) := by
  rw [Fin.sum_univ_eq_sum_range (fun j => if j < c then g (b + j) else 0) B]
  rw [← Finset.sum_filter]
  refine Finset.sum_congr ?_ fun _ _ => rfl
  ext s
  simp only [Finset.mem_filter, Finset.mem_range]
  omega

/-- ONE BLOCK of a row: the running triple, renewed by a block of `B` columns at position `b` of which the first `c > 0`
    carry the scores and the others minus infinity, is the running triple `c` positions further. -/
theorem rowInv_step {B : ℕ} (x v : ℕ → ℝ) (b c : ℕ) (hc0 : 0 < c) (hc : c ≤ B) (s w : Fin B → EReal)
    (hs : ∀ j, s j = if j.val < c then ((x (b + j.val) : ℝ) : EReal) else ⊥)
    (hw : ∀ j, w j = (v (b + j.val) : ℝ)) {m l a : EReal} (h : RowInv x v b m l a) :
    RowInv x v (b + c) (max m (Finset.univ.fold max ⊥ s))
      (Ideal.exp (m - max m (Finset.univ.fold max ⊥ s)) * l
        + ∑ j, Ideal.exp (s j - max m (Finset.univ.fold max ⊥ s)))
      (Ideal.exp (m - max m (Finset.univ.fold max ⊥ s)) * a
        + ∑ j, Ideal.exp (s j - max m (Finset.univ.fold max ⊥ s)) * w j) := by
  obtain ⟨S, hS⟩ := fold_max_real s (fun j => by rw [hs]; split <;> simp) ⟨0, by omega⟩ (x (b + 0))
    (by rw [hs]; simp [hc0])
  rw [hS]
  have hblock : ∀ M' : ℝ, (∀ j, Ideal.exp (s j - (M' : EReal))
      = ((if j.val < c then Real.exp (x (b + j.val) - M') else 0 : ℝ) : EReal)) := by
    intro M' j
    rw [hs]
    split
    · rw [← EReal.coe_sub, Ideal.exp_coe]
    · rw [EReal.bot_sub, Ideal.exp_bot]; rfl
  have hL : ∀ M' : ℝ, (∑ j, Ideal.exp (s j - (M' : EReal)))
      = ((∑ t ∈ Finset.range c, Real.exp (x (b + t) - M') : ℝ) : EReal) := by
    intro M'
    rw [← sum_block B (fun t => Real.exp (x t - M')) b c hc, coe_sum]
    exact Finset.sum_congr rfl fun j _ => hblock M' j
  have hA : ∀ M' : ℝ, (∑ j, Ideal.exp (s j - (M' : EReal)) * w j)
      = ((∑ t ∈ Finset.range c, Real.exp (x (b + t) - M') * v (b + t) : ℝ) : EReal) := by
    intro M'
    rw [← sum_block B (fun t => Real.exp (x t - M') * v t) b c hc, coe_sum]
    refine Finset.sum_congr rfl fun j _ => ?_
    rw [hblock M' j, hw, ← EReal.coe_mul]
    congr 1
    split <;> simp
  rcases h with ⟨rfl, rfl, rfl, rfl⟩ | ⟨M, rfl, rfl, rfl⟩
  · refine .inr ⟨S, by simp, ?_, ?_⟩
    · rw [show max (⊥ : EReal) (S : EReal) = S from by simp, hL, EReal.bot_sub, Ideal.exp_bot]
      simp [lsum]
    · rw [show max (⊥ : EReal) (S : EReal) = S from by simp, hA, EReal.bot_sub, Ideal.exp_bot]
      simp [asum]
  · have hmax : max (M : EReal) (S : EReal) = ((max M S : ℝ) : EReal) := (EReal.coe_strictMono.monotone.map_max (a := M) (b := S)).symm
    refine .inr ⟨max M S, hmax, ?_, ?_⟩
    · rw [hmax, hL, ← EReal.coe_sub, Ideal.exp_coe, ← EReal.coe_mul, ← EReal.coe_add, ← lsum_shift]
      congr 1
      exact (Finset.sum_range_add _ _ _).symm
    · rw [hmax, hA, ← EReal.coe_sub, Ideal.exp_coe, ← EReal.coe_mul, ← EReal.coe_add, ← asum_shift]
      congr 1
      exact (Finset.sum_range_add _ _ _).symm

/-- THE ROW'S RESULT: after at least one position the running quotient is the mean. -/
theorem rowInv_div (x v : ℕ → ℝ) (n : ℕ) (hn : 0 < n) {m l a : EReal} (h : RowInv x v n m l a) :
    Ideal.div a l = (mean x v n : ℝ) := by
  rcases h with ⟨h0, -⟩ | ⟨M, rfl, rfl, rfl⟩
  · omega
  · rw [Ideal.div_coe (lsum_pos x n hn M).ne', ← EReal.coe_mul, ← asum_div_lsum x v n M]
    congr 1
    ring

/-- A row taken whole: `N` positions of which the first `n > 0` carry scores and the others minus infinity. Dividing each
    weight, taken relative to the row's maximum, by the sum of weights and then summing with the values gives the mean. -/
theorem softmax_row {N : ℕ} (x v : ℕ → ℝ) (n : ℕ) (hn : 0 < n) (hN : n ≤ N) (s w : Fin N → EReal)
    (hs : ∀ j, s j = if j.val < n then ((x j.val : ℝ) : EReal) else ⊥) (hw : ∀ j, w j = (v j.val : ℝ)) :
    ∑ j, Ideal.div (Ideal.exp (s j - max ⊥ (Finset.univ.fold max ⊥ s)))
        (∑ j', Ideal.exp (s j' - max ⊥ (Finset.univ.fold max ⊥ s))) * w j = (mean x v n : ℝ) := by
  obtain ⟨S, hS⟩ := fold_max_real s (fun j => by rw [hs]; split <;> simp) ⟨0, by omega⟩ (x 0)
    (by rw [hs]; simp [hn])
  rw [hS, show max (⊥ : EReal) (S : EReal) = S from by simp]
  have hblock : ∀ j, Ideal.exp (s j - (S : EReal))
      = ((if j.val < n then Real.exp (x j.val - S) else 0 : ℝ) : EReal) := by
    intro j
    rw [hs]
    split
    · rw [← EReal.coe_sub, Ideal.exp_coe]
    · rw [EReal.bot_sub, Ideal.exp_bot]; rfl
  have hL : (∑ j, Ideal.exp (s j - (S : EReal))) = ((lsum x n S : ℝ) : EReal) := by
    have h := sum_block N (fun t => Real.exp (x t - S)) 0 n hN
    simp only [Nat.zero_add] at h
    unfold lsum
    rw [← h, coe_sum]
    exact Finset.sum_congr rfl fun j _ => hblock j
  have h := sum_block N (fun t => Real.exp (x t - S) * v t) 0 n hN
  simp only [Nat.zero_add] at h
  rw [hL, ← asum_div_lsum x v n S]
  unfold asum
  rw [← h, Finset.sum_div, coe_sum]
  refine Finset.sum_congr rfl fun j _ => ?_
  rw [hblock, hw, Ideal.div_coe (lsum_pos x n hn S).ne', ← EReal.coe_mul, ← EReal.coe_mul]
  congr 1
  split <;> simp [div_eq_mul_inv]
  ring

end Cert.KernelIdeal.Rows

end
-- ==== Proof.Planes.lean ====
module

public import proofs.«01_k».proof.Proof.Gen.KernelIdeal.Frame
public import proofs.«01_k».proof.Proof.Payload
public import proofs.«01_k».proof.Proof.Rows

@[expose] public section

set_option synthInstance.maxSize 4096
set_option maxRecDepth 16384

noncomputable section

namespace Cert.KernelIdeal.Planes

open Idealize.ShloMosaic Cert.KernelIdeal.Gen Cert.KernelIdeal.Rows Cert.KernelIdeal.Payload

/-! ## Reading a plane of a scratch buffer after writes -/

section Read

variable {sg : RefSig} {κ' : Kind} {sp : Space} {s : Shape} {e : EltTy} {Val : EltTy → Type}

/-- A load of the rectangle last written reads what was written. -/
theorem readAt_hit (v : View sg κ' sp s e) (f : v.ty.Contents Val) (r : Rect s) (w : r.shape.Idx → Val e)
    (L : List (View.Piece Val s e)) : v.readAt Val r.toLoadRect (v.writes Val f (⟨r, w⟩ :: L)) = w :=
  funext fun j => View.read_writes_cons_emb v f r w L j

/-- A load of a box apart from the rectangle last written reads what the earlier writes left. -/
theorem readAt_skip (v : View sg κ' sp s e) (f : v.ty.Contents Val) (r : Rect s) (w : r.shape.Idx → Val e)
    (L : List (View.Piece Val s e)) (B : LoadRect s) (h : LoadRect.disj r B = true) :
    v.readAt Val B (v.writes Val f (⟨r, w⟩ :: L)) = v.readAt Val B (v.writes Val f L) := by
  funext j
  rw [View.readAt_apply, View.readAt_apply, View.writes_cons]
  refine View.read_slice_write_of_not_mem r _ _ _ ?_
  rw [Rect.map_emb_univ]
  exact LoadRect.idx_not_mem_of_disj h j

end Read

/-- The first plane of a scratch column. -/
abbrev col0 : Rect S2x512x1 := Rect.unit ![0, 0, 0] S1x512x1.size inb_S2x512x1_S1x512x1_0_0_0
/-- The second plane of a scratch column. -/
abbrev col1 : Rect S2x512x1 := Rect.unit ![1, 0, 0] S1x512x1.size inb_S2x512x1_S1x512x1_1_0_0
/-- The first plane of a scratch tile. -/
abbrev tile0 : Rect S2x512x128 := Rect.unit ![0, 0, 0] S1x512x128.size inb_S2x512x128_S1x512x128_0_0_0
/-- The second plane of a scratch tile. -/
abbrev tile1 : Rect S2x512x128 := Rect.unit ![1, 0, 0] S1x512x128.size inb_S2x512x128_S1x512x128_1_0_0

/-- The second plane of columns does not meet the first. -/
theorem col_disj10 : LoadRect.disj col1 col0.toLoadRect = true := by decide
/-- The first plane of columns does not meet the second. -/
theorem col_disj01 : LoadRect.disj col0 col1.toLoadRect = true := by decide
/-- The second plane of tiles does not meet the first. -/
theorem tile_disj10 : LoadRect.disj tile1 tile0.toLoadRect = true := by decide
/-- The first plane of tiles does not meet the second. -/
theorem tile_disj01 : LoadRect.disj tile0 tile1.toLoadRect = true := by decide

/-! ## One head's running triple -/

/-- What one plane of the running maximum, sum and accumulator holds: every row's triple after its first `n r` positions,
    lane by lane. -/
def PlaneInv (x : Fin 512 → ℕ → ℝ) (v : Fin 128 → ℕ → ℝ) (n : Fin 512 → ℕ)
    (m l : FVec Ideal S1x512x1 .f32) (a : FVec Ideal S1x512x128 .f32) : Prop :=
  ∀ r d, RowInv (x r) (v d) (n r) (m (ix3 0 r 0)) (l (ix3 0 r 0)) (a (ix3 0 r d))

/-- ONE BLOCK of keys and values renews a plane: each row advances by the number of columns that count for it. -/
theorem planeInv_step (x : Fin 512 → ℕ → ℝ) (v : Fin 128 → ℕ → ℝ) (b : ℕ) (n : Fin 512 → ℕ) (hn0 : ∀ r, 0 < n r)
    (hn : ∀ r, n r ≤ 512) (s : FVec Ideal S512x512 .f32) (w : FVec Ideal S512x128 .bf16)
    (hs : ∀ r j, s (ix2 r j) = if j.val < n r then ((x r (b + j.val) : ℝ) : EReal) else ⊥)
    (hw : ∀ j d, w (ix2 j d) = ((v d (b + j.val) : ℝ) : EReal))
    {m l : FVec Ideal S1x512x1 .f32} {a : FVec Ideal S1x512x128 .f32} (h : PlaneInv x v (fun _ => b) m l a) :
    PlaneInv x v (fun r => b + n r) (k0_pay41 (F := Ideal) s m) (k0_pay39 (F := Ideal) s m l)
      (k0_pay40 (F := Ideal) w s m a) := by
  intro r d
  rw [newMax_apply, newSum_apply, newAcc_apply]
  exact rowInv_step (x r) (v d) b (n r) (hn0 r) (hn r) (fun j => s (ix2 r j)) (fun j => w (ix2 j d)) (hs r)
    (fun j => hw j d) (h r d)

/-! ## One trip of the loop -/

variable {c : Dev nD} {i : grid0.Coords}
  {arg3 : Memref sig .tc .vmem S512x128 .bf16} {harg3 : arg3.IsWhole}
  {arg4 : Memref sig .tc .vmem S8192x128 .bf16} {harg4 : arg4.IsWhole}
  {arg5 : Memref sig .tc .vmem S8192x128 .bf16} {harg5 : arg5.IsWhole}
  {arg6 : Memref sig .tc .vmem S512x16 .f32} {harg6 : arg6.IsWhole}
  {arg7 : Memref sig .tc .vmem S1x16x8192 .f32} {harg7 : arg7.IsWhole}
  {arg8 : Memref sig .tc .vmem S512x128 .bf16} {harg8 : arg8.IsWhole}
  {arg9 : Memref sig .tc .vmem S2x512x128 .bf16} {harg9 : arg9.IsWhole}
  {arg10 : Memref sig .tc .vmem S2x512x1 .f32} {harg10 : arg10.IsWhole}
  {arg11 : Memref sig .tc .vmem S2x512x1 .f32} {harg11 : arg11.IsWhole}
  {arg12 : Memref sig .tc .vmem S2x512x1 .f32} {harg12 : arg12.IsWhole}
  {arg13 : Memref sig .tc .vmem S2x512x128 .f32} {harg13 : arg13.IsWhole}

section Trip

variable (arg1 arg2 : BitVec 32) (v66 : FVec Ideal S512x1 .f32)
  (X4 : BufTy.Contents (Elt Ideal) arg4.view.ty) (X5 : BufTy.Contents (Elt Ideal) arg5.view.ty)
  (X7 : BufTy.Contents (Elt Ideal) arg7.view.ty) (X9 : BufTy.Contents (Elt Ideal) arg9.view.ty)
  (X10 : BufTy.Contents (Elt Ideal) arg10.view.ty) (k : Fin (k0_t1_loop i).trips)
  (f11 : BufTy.Contents (Elt Ideal) arg11.view.ty) (f12 : BufTy.Contents (Elt Ideal) arg12.view.ty)
  (f13 : BufTy.Contents (Elt Ideal) arg13.view.ty)

/-- The keys of trip `k`'s block. -/
abbrev kBlk : FVec Ideal S512x128 .bf16 :=
  arg4.view.readAt (Elt Ideal) (Rect.unit (s := S8192x128) (k0_off1 i k) S512x128.size (k0_off1_inb i k)).toLoadRect X4
/-- The values of trip `k`'s block. -/
abbrev vBlk : FVec Ideal S512x128 .bf16 :=
  arg5.view.readAt (Elt Ideal) (Rect.unit (s := S8192x128) (k0_off1 i k) S512x128.size (k0_off1_inb i k)).toLoadRect X5
/-- The scores of trip `k`'s block, first head. -/
abbrev s0 : FVec Ideal S512x512 .f32 :=
  k0_pay2 (F := Ideal) (kBlk X4 k)
    (arg7.view.readAt (Elt Ideal) (Rect.unit (s := S1x16x8192) (k0_off2 i k 0#32) S1x1x512.size (k0_off2_inb i k 0)).toLoadRect X7)
    (arg9.view.readAt (Elt Ideal) tile0.toLoadRect X9) (arg10.view.readAt (Elt Ideal) col0.toLoadRect X10)
/-- The scores of trip `k`'s block, second head. -/
abbrev s1 : FVec Ideal S512x512 .f32 :=
  k0_pay2 (F := Ideal) (kBlk X4 k)
    (arg7.view.readAt (Elt Ideal) (Rect.unit (s := S1x16x8192) (k0_off2 i k 1#32) S1x1x512.size (k0_off2_inb i k 1)).toLoadRect X7)
    (arg9.view.readAt (Elt Ideal) tile1.toLoadRect X9) (arg10.view.readAt (Elt Ideal) col1.toLoadRect X10)

/-- The trip's pieces: each head renews its own plane from what it finds there. -/
theorem trip_pieces :
    tripL_k0_t1 (F := Ideal) Variants.none c none i arg3 harg3 arg4 harg4 arg5 harg5 arg6 harg6 arg7 harg7 arg8 harg8 arg9 harg9
        arg10 harg10 arg11 harg11 arg12 harg12 arg13 harg13 arg1 arg2 v66 X4 X5 X7 X9 X10 k f11 f12 f13
      = ([⟨col1, k0_pay41 (F := Ideal) (s1 X4 X7 X9 X10 k) (arg11.view.readAt (Elt Ideal) col1.toLoadRect f11)⟩,
          ⟨col0, k0_pay41 (F := Ideal) (s0 X4 X7 X9 X10 k) (arg11.view.readAt (Elt Ideal) col0.toLoadRect f11)⟩],
         [⟨col1, k0_pay39 (F := Ideal) (s1 X4 X7 X9 X10 k) (arg11.view.readAt (Elt Ideal) col1.toLoadRect f11)
            (arg12.view.readAt (Elt Ideal) col1.toLoadRect f12)⟩,
          ⟨col0, k0_pay39 (F := Ideal) (s0 X4 X7 X9 X10 k) (arg11.view.readAt (Elt Ideal) col0.toLoadRect f11)
            (arg12.view.readAt (Elt Ideal) col0.toLoadRect f12)⟩],
         [⟨tile1, k0_pay40 (F := Ideal) (vBlk X5 k) (s1 X4 X7 X9 X10 k) (arg11.view.readAt (Elt Ideal) col1.toLoadRect f11)
            (arg13.view.readAt (Elt Ideal) tile1.toLoadRect f13)⟩,
          ⟨tile0, k0_pay40 (F := Ideal) (vBlk X5 k) (s0 X4 X7 X9 X10 k) (arg11.view.readAt (Elt Ideal) col0.toLoadRect f11)
            (arg13.view.readAt (Elt Ideal) tile0.toLoadRect f13)⟩]) := by
  unfold tripL_k0_t1 trip_k0_t1
  rfl

end Trip

end Cert.KernelIdeal.Planes

end
-- ==== Proof.Words.lean ====
module

public import proofs.«01_k».proof.Proof.Planes
public import Idealize.ShloMosaic.Lib.LoopRemainder
public import Idealize.ShloMosaic.Lib.VecWindow
public import Idealize.ShloMosaic.Lib.Pipeline.ValueKit.Basic

@[expose] public section

set_option synthInstance.maxSize 4096
set_option maxRecDepth 16384

/-!
One grid point's run, opened: the block it stores is the quotient of accumulator and sum of each head's plane, those are
renewed once more by the diagonal block, and what the diagonal block finds is what the loop over the earlier blocks left.
-/

noncomputable section

namespace Cert.KernelIdeal.Words

open Idealize.ShloMosaic Cert.KernelIdeal.Gen Cert.KernelIdeal.Planes

variable (c : Dev nD) (i : grid0.Coords)
  (arg3 : Memref sig .tc .vmem S512x128 .bf16) (harg3 : arg3.IsWhole)
  (arg4 : Memref sig .tc .vmem S8192x128 .bf16) (harg4 : arg4.IsWhole)
  (arg5 : Memref sig .tc .vmem S8192x128 .bf16) (harg5 : arg5.IsWhole)
  (arg6 : Memref sig .tc .vmem S512x16 .f32) (harg6 : arg6.IsWhole)
  (arg7 : Memref sig .tc .vmem S1x16x8192 .f32) (harg7 : arg7.IsWhole)
  (arg8 : Memref sig .tc .vmem S512x128 .bf16) (harg8 : arg8.IsWhole)
  (arg9 : Memref sig .tc .vmem S2x512x128 .bf16) (harg9 : arg9.IsWhole)
  (arg10 : Memref sig .tc .vmem S2x512x1 .f32) (harg10 : arg10.IsWhole)
  (arg11 : Memref sig .tc .vmem S2x512x1 .f32) (harg11 : arg11.IsWhole)
  (arg12 : Memref sig .tc .vmem S2x512x1 .f32) (harg12 : arg12.IsWhole)
  (arg13 : Memref sig .tc .vmem S2x512x128 .f32) (harg13 : arg13.IsWhole)
  (x0 : Vec Ideal S512x128 .bf16) (x1 : Vec Ideal S8192x128 .bf16) (x2 : Vec Ideal S8192x128 .bf16) (x3 : Vec Ideal S512x16 .f32)
  (x4 : Vec Ideal S1x16x8192 .f32)

/-- The running maximum after the loop over the earlier blocks. -/
def end11 : BufTy.Contents (Elt Ideal) arg11.view.ty :=
  arg11.view.writes (Elt Ideal) (arg11.view.writes (Elt Ideal) arg11.view.junk kernelRun0_A.sl.HS2_2)
    (pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 1).val)
    (BitVec.ofNat 32 (i 2).val) k0_pay31 (harg4.unread x1) (harg5.unread x2) (harg7.unread x4)
    (arg9.view.writes (Elt Ideal) arg9.view.junk (kernelRun0_A.sl.HS0_2 c arg3 harg3 x0))
    (arg10.view.writes (Elt Ideal) arg10.view.junk (kernelRun0_A.sl.HS1_2 c i arg6 harg6 x3))
    (arg11.view.writes (Elt Ideal) arg11.view.junk kernelRun0_A.sl.HS2_2)
    (arg12.view.writes (Elt Ideal) arg12.view.junk kernelRun0_A.sl.HS3_2)
    (arg13.view.writes (Elt Ideal) arg13.view.junk kernelRun0_A.sl.HS4_2)
    (Scf.trips (k0_t1_loop i).lb (k0_t1_loop i).ub (k0_t1_loop i).st)).1

/-- The running sum after the loop over the earlier blocks. -/
def end12 : BufTy.Contents (Elt Ideal) arg12.view.ty :=
  arg12.view.writes (Elt Ideal) (arg12.view.writes (Elt Ideal) arg12.view.junk kernelRun0_A.sl.HS3_2)
    (pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 1).val)
    (BitVec.ofNat 32 (i 2).val) k0_pay31 (harg4.unread x1) (harg5.unread x2) (harg7.unread x4)
    (arg9.view.writes (Elt Ideal) arg9.view.junk (kernelRun0_A.sl.HS0_2 c arg3 harg3 x0))
    (arg10.view.writes (Elt Ideal) arg10.view.junk (kernelRun0_A.sl.HS1_2 c i arg6 harg6 x3))
    (arg11.view.writes (Elt Ideal) arg11.view.junk kernelRun0_A.sl.HS2_2)
    (arg12.view.writes (Elt Ideal) arg12.view.junk kernelRun0_A.sl.HS3_2)
    (arg13.view.writes (Elt Ideal) arg13.view.junk kernelRun0_A.sl.HS4_2)
    (Scf.trips (k0_t1_loop i).lb (k0_t1_loop i).ub (k0_t1_loop i).st)).2.1

/-- The accumulator after the loop over the earlier blocks. -/
def end13 : BufTy.Contents (Elt Ideal) arg13.view.ty :=
  arg13.view.writes (Elt Ideal) (arg13.view.writes (Elt Ideal) arg13.view.junk kernelRun0_A.sl.HS4_2)
    (pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 1).val)
    (BitVec.ofNat 32 (i 2).val) k0_pay31 (harg4.unread x1) (harg5.unread x2) (harg7.unread x4)
    (arg9.view.writes (Elt Ideal) arg9.view.junk (kernelRun0_A.sl.HS0_2 c arg3 harg3 x0))
    (arg10.view.writes (Elt Ideal) arg10.view.junk (kernelRun0_A.sl.HS1_2 c i arg6 harg6 x3))
    (arg11.view.writes (Elt Ideal) arg11.view.junk kernelRun0_A.sl.HS2_2)
    (arg12.view.writes (Elt Ideal) arg12.view.junk kernelRun0_A.sl.HS3_2)
    (arg13.view.writes (Elt Ideal) arg13.view.junk kernelRun0_A.sl.HS4_2)
    (Scf.trips (k0_t1_loop i).lb (k0_t1_loop i).ub (k0_t1_loop i).st)).2.2

/-- The loop's remainder makes no trip. -/
theorem rem_trips : Scf.trips (k0_t2_loop i).lb (k0_t2_loop i).ub (k0_t2_loop i).st = 0 :=
  Scf.rem_trips 0#32 _

/-- What the diagonal block finds on the first head's plane. -/
theorem v109_eq : kernelRun0_A.sl.v109 c i arg3 harg3 arg4 harg4 arg5 harg5 arg6 harg6 arg7 harg7 arg8 harg8 arg9 harg9 arg10 harg10 arg11 harg11 arg12 harg12 arg13 harg13 x0 x1 x2 x3 x4
    = arg11.view.readAt (Elt Ideal) col0.toLoadRect (end11 c i arg3 harg3 arg4 harg4 arg5 harg5 arg6 harg6 arg7 harg7 arg8 harg8 arg9 harg9 arg10 harg10 arg11 harg11 arg12 harg12 arg13 harg13 x0 x1 x2 x3 x4) := by
  unfold kernelRun0_A.sl.v109 end11
  rw [rem_trips i, ← View.writes_append]
  rfl

/-- What the diagonal block finds on the first head's plane. -/
theorem v119_eq : kernelRun0_A.sl.v119 c i arg3 harg3 arg4 harg4 arg5 harg5 arg6 harg6 arg7 harg7 arg8 harg8 arg9 harg9 arg10 harg10 arg11 harg11 arg12 harg12 arg13 harg13 x0 x1 x2 x3 x4
    = arg12.view.readAt (Elt Ideal) col0.toLoadRect (end12 c i arg3 harg3 arg4 harg4 arg5 harg5 arg6 harg6 arg7 harg7 arg8 harg8 arg9 harg9 arg10 harg10 arg11 harg11 arg12 harg12 arg13 harg13 x0 x1 x2 x3 x4) := by
  unfold kernelRun0_A.sl.v119 end12
  rw [rem_trips i, ← View.writes_append]
  rfl

/-- What the diagonal block finds on the first head's plane. -/
theorem v128_eq : kernelRun0_A.sl.v128 c i arg3 harg3 arg4 harg4 arg5 harg5 arg6 harg6 arg7 harg7 arg8 harg8 arg9 harg9 arg10 harg10 arg11 harg11 arg12 harg12 arg13 harg13 x0 x1 x2 x3 x4
    = arg13.view.readAt (Elt Ideal) tile0.toLoadRect (end13 c i arg3 harg3 arg4 harg4 arg5 harg5 arg6 harg6 arg7 harg7 arg8 harg8 arg9 harg9 arg10 harg10 arg11 harg11 arg12 harg12 arg13 harg13 x0 x1 x2 x3 x4) := by
  unfold kernelRun0_A.sl.v128 end13
  rw [rem_trips i, ← View.writes_append]
  rfl

/-- What the diagonal block finds on the second head's plane. -/
theorem v161_eq : kernelRun0_A.sl.v161 c i arg3 harg3 arg4 harg4 arg5 harg5 arg6 harg6 arg7 harg7 arg8 harg8 arg9 harg9 arg10 harg10 arg11 harg11 arg12 harg12 arg13 harg13 x0 x1 x2 x3 x4
    = arg11.view.readAt (Elt Ideal) col1.toLoadRect (end11 c i arg3 harg3 arg4 harg4 arg5 harg5 arg6 harg6 arg7 harg7 arg8 harg8 arg9 harg9 arg10 harg10 arg11 harg11 arg12 harg12 arg13 harg13 x0 x1 x2 x3 x4) := by
  unfold kernelRun0_A.sl.v161 kernelRun0_A.sl.HS2_1 View.readCov
  rw [readAt_skip _ _ _ _ _ _ col_disj01]
  unfold end11
  rw [rem_trips i, ← View.writes_append]
  rfl

/-- What the diagonal block finds on the second head's plane. -/
theorem v171_eq : kernelRun0_A.sl.v171 c i arg3 harg3 arg4 harg4 arg5 harg5 arg6 harg6 arg7 harg7 arg8 harg8 arg9 harg9 arg10 harg10 arg11 harg11 arg12 harg12 arg13 harg13 x0 x1 x2 x3 x4
    = arg12.view.readAt (Elt Ideal) col1.toLoadRect (end12 c i arg3 harg3 arg4 harg4 arg5 harg5 arg6 harg6 arg7 harg7 arg8 harg8 arg9 harg9 arg10 harg10 arg11 harg11 arg12 harg12 arg13 harg13 x0 x1 x2 x3 x4) := by
  unfold kernelRun0_A.sl.v171 kernelRun0_A.sl.HS3_1 View.readCov
  rw [readAt_skip _ _ _ _ _ _ col_disj01]
  unfold end12
  rw [rem_trips i, ← View.writes_append]
  rfl

/-- What the diagonal block finds on the second head's plane. -/
theorem v180_eq : kernelRun0_A.sl.v180 c i arg3 harg3 arg4 harg4 arg5 harg5 arg6 harg6 arg7 harg7 arg8 harg8 arg9 harg9 arg10 harg10 arg11 harg11 arg12 harg12 arg13 harg13 x0 x1 x2 x3 x4
    = arg13.view.readAt (Elt Ideal) tile1.toLoadRect (end13 c i arg3 harg3 arg4 harg4 arg5 harg5 arg6 harg6 arg7 harg7 arg8 harg8 arg9 harg9 arg10 harg10 arg11 harg11 arg12 harg12 arg13 harg13 x0 x1 x2 x3 x4) := by
  unfold kernelRun0_A.sl.v180 kernelRun0_A.sl.HS4_1 View.readCov
  rw [readAt_skip _ _ _ _ _ _ tile_disj01]
  unfold end13
  rw [rem_trips i, ← View.writes_append]
  rfl

/-- The diagonal block's masked scores, first head. -/
def d0 : FVec Ideal S512x512 .f32 :=
  (k0_pay51 (F := Ideal) (kernelRun0_A.sl.r_2 i arg4 harg4 x1) (kernelRun0_A.sl.r_4 i arg7 harg7 x4) (kernelRun0_A.sl.r_5 c arg3 harg3 arg9 x0) (kernelRun0_A.sl.v98 c i arg6 harg6 arg10 x3))

/-- The diagonal block's masked scores, second head. -/
def d1 : FVec Ideal S512x512 .f32 :=
  (k0_pay60 (F := Ideal) (kernelRun0_A.sl.r_2 i arg4 harg4 x1)
      (View.readAt (Elt Ideal) arg7.view (Rect.unit (s := S1x16x8192) (k0_off6 i 1#32) S1x1x512.size (k0_off6_inb i 1)).toLoadRect (harg7.unread x4))
      (kernelRun0_A.sl.v147 c arg3 harg3 arg9 x0) (kernelRun0_A.sl.v150 c i arg6 harg6 arg10 x3))

/-- The first head's sum in the end. -/
theorem v195_eq : kernelRun0_A.sl.v195 c i arg3 harg3 arg4 harg4 arg5 harg5 arg6 harg6 arg7 harg7 arg8 harg8 arg9 harg9 arg10 harg10 arg11 harg11 arg12 harg12 arg13 harg13 x0 x1 x2 x3 x4
    = k0_pay39 (F := Ideal) (d0 c i arg3 harg3 arg4 harg4 arg6 harg6 arg7 harg7 arg9 arg10 x0 x1 x3 x4) (arg11.view.readAt (Elt Ideal) col0.toLoadRect (end11 c i arg3 harg3 arg4 harg4 arg5 harg5 arg6 harg6 arg7 harg7 arg8 harg8 arg9 harg9 arg10 harg10 arg11 harg11 arg12 harg12 arg13 harg13 x0 x1 x2 x3 x4))
        (arg12.view.readAt (Elt Ideal) col0.toLoadRect (end12 c i arg3 harg3 arg4 harg4 arg5 harg5 arg6 harg6 arg7 harg7 arg8 harg8 arg9 harg9 arg10 harg10 arg11 harg11 arg12 harg12 arg13 harg13 x0 x1 x2 x3 x4)) := by
  rw [← v109_eq, ← v119_eq]
  unfold kernelRun0_A.sl.v195 kernelRun0_A.sl.HS3_2_1 View.readCov
  rw [readAt_skip _ _ _ _ _ _ col_disj10]
  unfold kernelRun0_A.sl.HS3_1
  rw [readAt_hit]
  rfl

/-- The second head's sum in the end. -/
theorem v201_eq : kernelRun0_A.sl.v201 c i arg3 harg3 arg4 harg4 arg5 harg5 arg6 harg6 arg7 harg7 arg8 harg8 arg9 harg9 arg10 harg10 arg11 harg11 arg12 harg12 arg13 harg13 x0 x1 x2 x3 x4
    = k0_pay39 (F := Ideal) (d1 c i arg3 harg3 arg4 harg4 arg6 harg6 arg7 harg7 arg9 arg10 x0 x1 x3 x4) (arg11.view.readAt (Elt Ideal) col1.toLoadRect (end11 c i arg3 harg3 arg4 harg4 arg5 harg5 arg6 harg6 arg7 harg7 arg8 harg8 arg9 harg9 arg10 harg10 arg11 harg11 arg12 harg12 arg13 harg13 x0 x1 x2 x3 x4))
        (arg12.view.readAt (Elt Ideal) col1.toLoadRect (end12 c i arg3 harg3 arg4 harg4 arg5 harg5 arg6 harg6 arg7 harg7 arg8 harg8 arg9 harg9 arg10 harg10 arg11 harg11 arg12 harg12 arg13 harg13 x0 x1 x2 x3 x4)) := by
  rw [← v161_eq, ← v171_eq]
  unfold kernelRun0_A.sl.v201 kernelRun0_A.sl.HS3_2_1 View.readCov
  refine (readAt_hit _ _ _ _ _).trans ?_
  unfold kernelRun0_A.sl.r_9 kernelRun0_A.sl.r_10
  rfl

/-- The first head's accumulator in the end. -/
theorem v193_eq : kernelRun0_A.sl.v193 c i arg3 harg3 arg4 harg4 arg5 harg5 arg6 harg6 arg7 harg7 arg8 harg8 arg9 harg9 arg10 harg10 arg11 harg11 arg12 harg12 arg13 harg13 x0 x1 x2 x3 x4
    = k0_pay40 (F := Ideal) (kernelRun0_A.sl.r_3 i arg5 harg5 x2) (d0 c i arg3 harg3 arg4 harg4 arg6 harg6 arg7 harg7 arg9 arg10 x0 x1 x3 x4)
        (arg11.view.readAt (Elt Ideal) col0.toLoadRect (end11 c i arg3 harg3 arg4 harg4 arg5 harg5 arg6 harg6 arg7 harg7 arg8 harg8 arg9 harg9 arg10 harg10 arg11 harg11 arg12 harg12 arg13 harg13 x0 x1 x2 x3 x4))
        (arg13.view.readAt (Elt Ideal) tile0.toLoadRect (end13 c i arg3 harg3 arg4 harg4 arg5 harg5 arg6 harg6 arg7 harg7 arg8 harg8 arg9 harg9 arg10 harg10 arg11 harg11 arg12 harg12 arg13 harg13 x0 x1 x2 x3 x4)) := by
  rw [← v109_eq, ← v128_eq]
  unfold kernelRun0_A.sl.v193 kernelRun0_A.sl.HS4_2_1 View.readCov
  rw [readAt_skip _ _ _ _ _ _ tile_disj10]
  unfold kernelRun0_A.sl.HS4_1
  rw [readAt_hit]
  unfold kernelRun0_A.sl.r_7
  rfl

/-- The second head's accumulator in the end. -/
theorem v199_eq : kernelRun0_A.sl.v199 c i arg3 harg3 arg4 harg4 arg5 harg5 arg6 harg6 arg7 harg7 arg8 harg8 arg9 harg9 arg10 harg10 arg11 harg11 arg12 harg12 arg13 harg13 x0 x1 x2 x3 x4
    = k0_pay40 (F := Ideal) (kernelRun0_A.sl.r_3 i arg5 harg5 x2) (d1 c i arg3 harg3 arg4 harg4 arg6 harg6 arg7 harg7 arg9 arg10 x0 x1 x3 x4)
        (arg11.view.readAt (Elt Ideal) col1.toLoadRect (end11 c i arg3 harg3 arg4 harg4 arg5 harg5 arg6 harg6 arg7 harg7 arg8 harg8 arg9 harg9 arg10 harg10 arg11 harg11 arg12 harg12 arg13 harg13 x0 x1 x2 x3 x4))
        (arg13.view.readAt (Elt Ideal) tile1.toLoadRect (end13 c i arg3 harg3 arg4 harg4 arg5 harg5 arg6 harg6 arg7 harg7 arg8 harg8 arg9 harg9 arg10 harg10 arg11 harg11 arg12 harg12 arg13 harg13 x0 x1 x2 x3 x4)) := by
  rw [← v161_eq, ← v180_eq]
  unfold kernelRun0_A.sl.v199 kernelRun0_A.sl.HS4_2_1 View.readCov
  refine (readAt_hit _ _ _ _ _).trans ?_
  unfold kernelRun0_A.sl.r_9 kernelRun0_A.sl.r_10
  rfl

/-- THE BLOCK the point stores: on each lane its own head's accumulator over that head's sum. -/
theorem out_eq : out0_A_5 (F := Ideal) c i arg3 harg3 arg4 harg4 arg5 harg5 arg6 harg6 arg7 harg7 arg8 harg8 arg9 harg9 arg10 harg10 arg11 harg11 arg12 harg12 arg13 harg13 x0 x1 x2 x3 x4
    = k0_pay1 (F := Ideal) k0_pay22
        (k0_pay68 (F := Ideal) (kernelRun0_A.sl.v193 c i arg3 harg3 arg4 harg4 arg5 harg5 arg6 harg6 arg7 harg7 arg8 harg8 arg9 harg9 arg10 harg10 arg11 harg11 arg12 harg12 arg13 harg13 x0 x1 x2 x3 x4) (kernelRun0_A.sl.v195 c i arg3 harg3 arg4 harg4 arg5 harg5 arg6 harg6 arg7 harg7 arg8 harg8 arg9 harg9 arg10 harg10 arg11 harg11 arg12 harg12 arg13 harg13 x0 x1 x2 x3 x4))
        (k0_pay69 (F := Ideal) (kernelRun0_A.sl.v199 c i arg3 harg3 arg4 harg4 arg5 harg5 arg6 harg6 arg7 harg7 arg8 harg8 arg9 harg9 arg10 harg10 arg11 harg11 arg12 harg12 arg13 harg13 x0 x1 x2 x3 x4))
        (kernelRun0_A.sl.v201 c i arg3 harg3 arg4 harg4 arg5 harg5 arg6 harg6 arg7 harg7 arg8 harg8 arg9 harg9 arg10 harg10 arg11 harg11 arg12 harg12 arg13 harg13 x0 x1 x2 x3 x4) := by
  unfold out0_A_5
  rw [View.read_writes_eq_canon _ _ _ (cover0_A_5 c i arg3 harg3 arg4 harg4 arg5 harg5 arg6 harg6 arg7 harg7 arg8 harg8 arg9 harg9 arg10 harg10 arg11 harg11 arg12 harg12 arg13 harg13 x0 x1 x2 x3 x4)]
  unfold kernelRun0_A
  dsimp only
  have hz : (![0, 0] : Fin 2 → ℕ) = fun _ => 0 := by funext a; fin_cases a <;> rfl
  exact View.canon_unit_zero hz _ _

/-! ## The scratch buffers the loop only reads -/

/-- The queries of the first head, the other head's lanes put to zero. -/
theorem q0_eq (f) (hf : f = arg9.view.writes (Elt Ideal) arg9.view.junk (kernelRun0_A.sl.HS0_2 c arg3 harg3 x0)) :
    arg9.view.readAt (Elt Ideal) tile0.toLoadRect f = k0_pay23 (F := Ideal) x0 := by
  subst hf
  unfold kernelRun0_A.sl.HS0_2
  rw [readAt_skip _ _ _ _ _ _ tile_disj10, readAt_hit]
  congr 1
  refine (View.readAt_full _ _ _).trans (harg3.read_unread x0)

/-- The queries of the second head, the other head's lanes put to zero. -/
theorem q1_eq (f) (hf : f = arg9.view.writes (Elt Ideal) arg9.view.junk (kernelRun0_A.sl.HS0_2 c arg3 harg3 x0)) :
    arg9.view.readAt (Elt Ideal) tile1.toLoadRect f = k0_pay29 (F := Ideal) x0 k0_pay22 := by
  subst hf
  unfold kernelRun0_A.sl.HS0_2
  rw [readAt_hit]
  unfold kernelRun0_A.sl.r
  congr 1
  refine (View.readAt_full _ _ _).trans (harg3.read_unread x0)

/-- The gates of the first head. -/
theorem g0_eq (f) (hf : f = arg10.view.writes (Elt Ideal) arg10.view.junk (kernelRun0_A.sl.HS1_2 c i arg6 harg6 x3)) :
    arg10.view.readAt (Elt Ideal) col0.toLoadRect f = k0_pay24 (F := Ideal) i x3 := by
  subst hf
  unfold kernelRun0_A.sl.HS1_2
  rw [readAt_skip _ _ _ _ _ _ col_disj10, readAt_hit]
  congr 1
  refine (View.readAt_full _ _ _).trans (harg6.read_unread x3)

/-- The gates of the second head. -/
theorem g1_eq (f) (hf : f = arg10.view.writes (Elt Ideal) arg10.view.junk (kernelRun0_A.sl.HS1_2 c i arg6 harg6 x3)) :
    arg10.view.readAt (Elt Ideal) col1.toLoadRect f
      = k0_pay30 (F := Ideal) (BitVec.ofNat 32 (i 1).val) x3 (iota .tc S1x16 32 [1] iota_S1x16_d1_w32) := by
  subst hf
  unfold kernelRun0_A.sl.HS1_2
  rw [readAt_hit]
  unfold kernelRun0_A.sl.r_1 kernelRun0_A.sl.v13
  congr 1
  refine (View.readAt_full _ _ _).trans (harg6.read_unread x3)

end Cert.KernelIdeal.Words

end
-- ==== Proof.Loop.lean ====
module

public import proofs.«01_k».proof.Proof.Planes

@[expose] public section

set_option synthInstance.maxSize 4096
set_option maxRecDepth 16384

/-!
The loop over the key blocks before the diagonal one: what the scratch buffers hold after `k` trips.
-/

noncomputable section

namespace Cert.KernelIdeal.Loop

open Idealize.ShloMosaic Cert.KernelIdeal.Gen Cert.KernelIdeal.Planes Cert.KernelIdeal.Rows Cert.KernelIdeal.Payload

/-- The running maximum, sum and accumulator of both heads hold every row's triple after its first `n` positions. -/
def St {arg11 : Memref sig .tc .vmem S2x512x1 .f32} {arg12 : Memref sig .tc .vmem S2x512x1 .f32}
    {arg13 : Memref sig .tc .vmem S2x512x128 .f32} (x : Fin 2 → Fin 512 → ℕ → ℝ) (v : Fin 128 → ℕ → ℝ) (n : ℕ)
    (f11 : BufTy.Contents (Elt Ideal) arg11.view.ty) (f12 : BufTy.Contents (Elt Ideal) arg12.view.ty)
    (f13 : BufTy.Contents (Elt Ideal) arg13.view.ty) : Prop :=
  PlaneInv (x 0) v (fun _ => n) (arg11.view.readAt (Elt Ideal) col0.toLoadRect f11)
      (arg12.view.readAt (Elt Ideal) col0.toLoadRect f12) (arg13.view.readAt (Elt Ideal) tile0.toLoadRect f13)
    ∧ PlaneInv (x 1) v (fun _ => n) (arg11.view.readAt (Elt Ideal) col1.toLoadRect f11)
      (arg12.view.readAt (Elt Ideal) col1.toLoadRect f12) (arg13.view.readAt (Elt Ideal) tile1.toLoadRect f13)

variable {c : Dev nD} {i : grid0.Coords}
  {arg3 : Memref sig .tc .vmem S512x128 .bf16} {harg3 : arg3.IsWhole}
  {arg4 : Memref sig .tc .vmem S8192x128 .bf16} {harg4 : arg4.IsWhole}
  {arg5 : Memref sig .tc .vmem S8192x128 .bf16} {harg5 : arg5.IsWhole}
  {arg6 : Memref sig .tc .vmem S512x16 .f32} {harg6 : arg6.IsWhole}
  {arg7 : Memref sig .tc .vmem S1x16x8192 .f32} {harg7 : arg7.IsWhole}
  {arg8 : Memref sig .tc .vmem S512x128 .bf16} {harg8 : arg8.IsWhole}
  {arg9 : Memref sig .tc .vmem S2x512x128 .bf16} {harg9 : arg9.IsWhole}
  {arg10 : Memref sig .tc .vmem S2x512x1 .f32} {harg10 : arg10.IsWhole}
  {arg11 : Memref sig .tc .vmem S2x512x1 .f32} {harg11 : arg11.IsWhole}
  {arg12 : Memref sig .tc .vmem S2x512x1 .f32} {harg12 : arg12.IsWhole}
  {arg13 : Memref sig .tc .vmem S2x512x128 .f32} {harg13 : arg13.IsWhole}

variable (arg1 arg2 : BitVec 32) (v66 : FVec Ideal S512x1 .f32)
  (X4 : BufTy.Contents (Elt Ideal) arg4.view.ty) (X5 : BufTy.Contents (Elt Ideal) arg5.view.ty)
  (X7 : BufTy.Contents (Elt Ideal) arg7.view.ty) (X9 : BufTy.Contents (Elt Ideal) arg9.view.ty)
  (X10 : BufTy.Contents (Elt Ideal) arg10.view.ty)
  (x : Fin 2 → Fin 512 → ℕ → ℝ) (v : Fin 128 → ℕ → ℝ)

/-- ONE TRIP keeps the state: both heads' rows advance by the block's 512 positions. -/
theorem trip_keeps (k : Fin (k0_t1_loop i).trips)
    (hs0 : ∀ r j, s0 X4 X7 X9 X10 k (ix2 r j) = ((x 0 r (512 * k.val + j.val) : ℝ) : EReal))
    (hs1 : ∀ r j, s1 X4 X7 X9 X10 k (ix2 r j) = ((x 1 r (512 * k.val + j.val) : ℝ) : EReal))
    (hw : ∀ j d, vBlk X5 k (ix2 j d) = ((v d (512 * k.val + j.val) : ℝ) : EReal))
    (f11 : BufTy.Contents (Elt Ideal) arg11.view.ty) (f12 : BufTy.Contents (Elt Ideal) arg12.view.ty)
    (f13 : BufTy.Contents (Elt Ideal) arg13.view.ty) (h : St x v (512 * k.val) f11 f12 f13) :
    St x v (512 * (k.val + 1))
      (arg11.view.writes (Elt Ideal) f11 (tripL_k0_t1 (F := Ideal) Variants.none c none i arg3 harg3 arg4 harg4 arg5 harg5 arg6 harg6 arg7 harg7 arg8 harg8 arg9 harg9 arg10 harg10 arg11 harg11 arg12 harg12 arg13 harg13
        arg1 arg2 v66 X4 X5 X7 X9 X10 k f11 f12 f13).1)
      (arg12.view.writes (Elt Ideal) f12 (tripL_k0_t1 (F := Ideal) Variants.none c none i arg3 harg3 arg4 harg4 arg5 harg5 arg6 harg6 arg7 harg7 arg8 harg8 arg9 harg9 arg10 harg10 arg11 harg11 arg12 harg12 arg13 harg13
        arg1 arg2 v66 X4 X5 X7 X9 X10 k f11 f12 f13).2.1)
      (arg13.view.writes (Elt Ideal) f13 (tripL_k0_t1 (F := Ideal) Variants.none c none i arg3 harg3 arg4 harg4 arg5 harg5 arg6 harg6 arg7 harg7 arg8 harg8 arg9 harg9 arg10 harg10 arg11 harg11 arg12 harg12 arg13 harg13
        arg1 arg2 v66 X4 X5 X7 X9 X10 k f11 f12 f13).2.2) := by
  rw [trip_pieces]
  dsimp only
  have hn : 512 * (k.val + 1) = 512 * k.val + 512 := by omega
  unfold St
  rw [hn]
  constructor
  · rw [readAt_skip _ _ _ _ _ _ col_disj10, readAt_hit, readAt_skip _ _ _ _ _ _ col_disj10, readAt_hit,
      readAt_skip _ _ _ _ _ _ tile_disj10, readAt_hit]
    exact planeInv_step (x 0) v (512 * k.val) (fun _ => 512) (by simp) (by simp) _ _
      (fun r j => (hs0 r j).trans (if_pos j.isLt).symm) hw h.1
  · rw [readAt_hit, readAt_hit, readAt_hit]
    exact planeInv_step (x 1) v (512 * k.val) (fun _ => 512) (by simp) (by simp) _ _
      (fun r j => (hs1 r j).trans (if_pos j.isLt).symm) hw h.2

/-- THE LOOP keeps the state: after `k` trips every row has its first `512 * k` positions. -/
theorem loop_keeps
    (hs0 : ∀ (k : Fin (k0_t1_loop i).trips) r j, s0 X4 X7 X9 X10 k (ix2 r j) = ((x 0 r (512 * k.val + j.val) : ℝ) : EReal))
    (hs1 : ∀ (k : Fin (k0_t1_loop i).trips) r j, s1 X4 X7 X9 X10 k (ix2 r j) = ((x 1 r (512 * k.val + j.val) : ℝ) : EReal))
    (hw : ∀ (k : Fin (k0_t1_loop i).trips) j d, vBlk X5 k (ix2 j d) = ((v d (512 * k.val + j.val) : ℝ) : EReal))
    (G11 : BufTy.Contents (Elt Ideal) arg11.view.ty) (G12 : BufTy.Contents (Elt Ideal) arg12.view.ty)
    (G13 : BufTy.Contents (Elt Ideal) arg13.view.ty) (h : St x v 0 G11 G12 G13) :
    ∀ k : ℕ, k ≤ (k0_t1_loop i).trips → St x v (512 * k)
      (arg11.view.writes (Elt Ideal) G11 (pb_k0_t1 (F := Ideal) Variants.none c none i arg3 harg3 arg4 harg4 arg5 harg5 arg6 harg6 arg7 harg7 arg8 harg8 arg9 harg9 arg10 harg10 arg11 harg11 arg12 harg12 arg13 harg13
          arg1 arg2 v66 X4 X5 X7 X9 X10 G11 G12 G13 k).1)
      (arg12.view.writes (Elt Ideal) G12 (pb_k0_t1 (F := Ideal) Variants.none c none i arg3 harg3 arg4 harg4 arg5 harg5 arg6 harg6 arg7 harg7 arg8 harg8 arg9 harg9 arg10 harg10 arg11 harg11 arg12 harg12 arg13 harg13
          arg1 arg2 v66 X4 X5 X7 X9 X10 G11 G12 G13 k).2.1)
      (arg13.view.writes (Elt Ideal) G13 (pb_k0_t1 (F := Ideal) Variants.none c none i arg3 harg3 arg4 harg4 arg5 harg5 arg6 harg6 arg7 harg7 arg8 harg8 arg9 harg9 arg10 harg10 arg11 harg11 arg12 harg12 arg13 harg13
          arg1 arg2 v66 X4 X5 X7 X9 X10 G11 G12 G13 k).2.2)
  | 0, _ => h
  | k + 1, hk => by
    have ih := loop_keeps hs0 hs1 hw G11 G12 G13 h k (by omega)
    have hsucc := pb_k0_t1_succ (F := Ideal) Variants.none c none i arg3 harg3 arg4 harg4 arg5 harg5 arg6 harg6 arg7 harg7 arg8 harg8 arg9 harg9 arg10 harg10 arg11 harg11 arg12 harg12 arg13 harg13
      arg1 arg2 v66 X4 X5 X7 X9 X10 G11 G12 G13 ⟨k, hk⟩
    rw [show k + 1 = (⟨k, hk⟩ : Fin (k0_t1_loop i).trips).val + 1 from rfl, hsucc]
    dsimp only
    rw [View.writes_append, View.writes_append, View.writes_append]
    exact trip_keeps arg1 arg2 v66 X4 X5 X7 X9 X10 x v ⟨k, hk⟩ (hs0 _) (hs1 _) (hw _) _ _ _ ih

end Cert.KernelIdeal.Loop

end
-- ==== Proof.Block.lean ====
module

public import proofs.«01_k».proof.Proof.Words
public import proofs.«01_k».proof.Proof.Loop

@[expose] public section

set_option synthInstance.maxSize 4096
set_option maxRecDepth 16384

/-!
The block one grid point stores, over real inputs: on each row and lane the mean of the lane's values weighted by the
exponentials of the row's scores, over the positions up to the row's own.
-/

noncomputable section

namespace Cert.KernelIdeal.Block

open Idealize.ShloMosaic Cert.KernelIdeal.Gen Cert.KernelIdeal.Planes Cert.KernelIdeal.Rows Cert.KernelIdeal.Payload
  Cert.KernelIdeal.Words Cert.KernelIdeal.Loop

/-! ## The offsets of the loads, as numbers -/

/-- The loop's block of keys starts at its own row. -/
theorem off1_eq (i : grid0.Coords) (k : Fin (k0_t1_loop i).trips) (hk : k.val < 16) : k0_off1 i k = ![512 * k.val, 0] := by
  have h : ∀ n : Fin 16, (Scalar.indexCast (Scalar.muli (Scf.iv 0#32 1#32 n.val) 512#32) : BitVec 32).toNat = 512 * n.val := by
    decide +kernel
  unfold k0_off1
  dsimp only
  rw [h ⟨k.val, hk⟩]

/-- The word of a head's number. -/
theorem head_word : ∀ (p : Fin 8) (h : Fin 2), (Scalar.indexCast (Scalar.addi (Scalar.muli (BitVec.ofNat 32 p.val) 2#32)
    (BitVec.ofNat 32 h.val)) : BitVec 32).toNat = 2 * p.val + h.val := by decide +kernel

/-- The loop's gates are those of the head and of the block's positions. -/
theorem off2_eq (i : grid0.Coords) (k : Fin (k0_t1_loop i).trips) (hk : k.val < 16) (h : Fin 2) :
    k0_off2 i k (BitVec.ofNat 32 h.val) = ![0, (head i h).val, 512 * k.val] := by
  have h1 : ∀ n : Fin 16, (Scalar.indexCast (Scalar.muli (Scf.iv 0#32 1#32 n.val) 512#32) : BitVec 32).toNat = 512 * n.val := by
    decide +kernel
  unfold k0_off2
  dsimp only
  rw [h1 ⟨k.val, hk⟩, head_word ⟨(i 1).val, pair_lt i⟩ h]
  rfl

/-- The diagonal's block of keys starts at the queries' row. -/
theorem off5_eq (i : grid0.Coords) : k0_off5 i = ![512 * (i 2).val, 0] := by
  have h : ∀ n : Fin 16, (Scalar.indexCast (Scalar.muli (BitVec.ofNat 32 n.val) 512#32) : BitVec 32).toNat = 512 * n.val := by
    decide +kernel
  unfold k0_off5
  dsimp only
  rw [h ⟨(i 2).val, block_lt i⟩]

/-- The diagonal's gates are those of the head and of the queries' positions. -/
theorem off6_eq (i : grid0.Coords) (h : Fin 2) :
    k0_off6 i (BitVec.ofNat 32 h.val) = ![0, (head i h).val, 512 * (i 2).val] := by
  have h1 : ∀ n : Fin 16, (Scalar.indexCast (Scalar.muli (BitVec.ofNat 32 n.val) 512#32) : BitVec 32).toNat = 512 * n.val := by
    decide +kernel
  unfold k0_off6
  dsimp only
  rw [h1 ⟨(i 2).val, block_lt i⟩, head_word ⟨(i 1).val, pair_lt i⟩ h]
  rfl

/-- The loop makes one trip per key block before the diagonal one. -/
theorem trips_eq (i : grid0.Coords) : Scf.trips (k0_t1_loop i).lb (k0_t1_loop i).ub (k0_t1_loop i).st = (i 2).val := by
  have h : ∀ q : Fin 16, Scf.trips 0#32 (Scalar.addi 0#32 (Scalar.muli (Scalar.divsi (Scalar.subi (BitVec.ofNat 32 q.val) 0#32)
      1#32) 1#32)) 1#32 = q.val := by decide +kernel
  exact h ⟨(i 2).val, block_lt i⟩

/-- A turn of the loop is before the diagonal. -/
theorem trip_lt (i : grid0.Coords) (k : Fin (k0_t1_loop i).trips) : k.val < (i 2).val := by
  have h := k.isLt
  have h2 := trips_eq i
  unfold Scf.Loop.trips at h
  omega

/-- The position an index of a block of 512 starting at a multiple of 512 stands for. -/
def pos (n : ℕ) (hn : n < 16) (j : Fin 512) : Fin 8192 := ⟨512 * n + j.val, by omega⟩

/-- A load of 512 rows of a tall block. -/
theorem rows_read (b : Vec Ideal S8192x128 .bf16) {arg : Memref sig .tc .vmem S8192x128 .bf16} (harg : arg.IsWhole)
    (o : Fin 2 → ℕ) (n : ℕ) (hn : n < 16) (ho : o = ![512 * n, 0]) (inb : ∀ a, o a + S512x128.size a ≤ S8192x128.size a)
    (j : Fin 512) (d : Fin 128) :
    arg.view.readAt (Elt Ideal) (Rect.unit (s := S8192x128) o S512x128.size inb).toLoadRect (harg.unread b) (ix2 j d)
      = b (ix2 (pos n hn j) d) := by
  subst ho
  rw [View.readAt_eq_ld, harg.read_unread]
  show b _ = _
  congr 1
  funext a
  apply Fin.ext
  match a with
  | ⟨0, _⟩ => show 512 * n + 1 * j.val = 512 * n + j.val; omega
  | ⟨1, _⟩ => show 0 + 1 * d.val = d.val; omega

/-- A load of 512 places of one head's row. -/
theorem gates_read (b : Vec Ideal S1x16x8192 .f32) {arg : Memref sig .tc .vmem S1x16x8192 .f32} (harg : arg.IsWhole)
    (o : Fin 3 → ℕ) (n : ℕ) (hn : n < 16) (h : Fin 16) (ho : o = ![0, h.val, 512 * n])
    (inb : ∀ a, o a + S1x1x512.size a ≤ S1x16x8192.size a) (j : Fin 512) :
    arg.view.readAt (Elt Ideal) (Rect.unit (s := S1x16x8192) o S1x1x512.size inb).toLoadRect (harg.unread b) (ix3 0 0 j)
      = b (ix3 0 h (pos n hn j)) := by
  subst ho
  rw [View.readAt_eq_ld, harg.read_unread]
  show b _ = _
  congr 1
  funext a
  apply Fin.ext
  match a with
  | ⟨0, _⟩ => show 0 + 1 * 0 = 0; omega
  | ⟨1, _⟩ => show h.val + 1 * 0 = h.val; omega
  | ⟨2, _⟩ => show 512 * n + 1 * j.val = 512 * n + j.val; omega

/-- The score of real queries, keys and gates. -/
theorem score_real (kb : FVec Ideal S512x128 .bf16) (fk : FVec Ideal S1x1x512 .f32) (qh : FVec Ideal S1x512x128 .bf16)
    (fq : FVec Ideal S1x512x1 .f32) (r j : Fin 512) (q k : Fin 128 → ℝ) (a b : ℝ)
    (hq : ∀ d, qh (ix3 0 r d) = ((q d : ℝ) : EReal)) (hk : ∀ d, kb (ix2 j d) = ((k d : ℝ) : EReal))
    (ha : fq (ix3 0 r 0) = (a : EReal)) (hb : fk (ix3 0 0 j) = (b : EReal)) :
    k0_pay2 (F := Ideal) kb fk qh fq (ix2 r j) = (((∑ d, q d * k d) + (a - b) : ℝ) : EReal) := by
  rw [score_apply, ha, hb, EReal.coe_add, coe_sum, EReal.coe_sub]
  congr 1
  refine Finset.sum_congr rfl fun d _ => ?_
  rw [hq, hk, EReal.coe_mul]

/-! ## The block, over real inputs -/

/-- The lanes of a plane's head. -/
def lane (h : Fin 2) (d : Fin 128) : Prop := if h = 0 then d.val < 64 else 64 ≤ d.val

/-- Whether a lane is of a head can be told. -/
instance (h : Fin 2) (d : Fin 128) : Decidable (lane h d) := by unfold lane; infer_instance

/-- The score of row `r` with position `s` for a plane's head. -/
def score (i : grid0.Coords) (q : Fin 512 → Fin 128 → ℝ) (k : ℕ → Fin 128 → ℝ) (fc : Fin 512 → Fin 16 → ℝ)
    (fr : Fin 16 → ℕ → ℝ) (h : Fin 2) (r : Fin 512) (s : ℕ) : ℝ :=
  (∑ d, (if lane h d then q r d else 0) * k s d) + (fc r (head i h) - fr (head i h) s)

variable (c : Dev nD) (i : grid0.Coords)
  (arg3 : Memref sig .tc .vmem S512x128 .bf16) (harg3 : arg3.IsWhole)
  (arg4 : Memref sig .tc .vmem S8192x128 .bf16) (harg4 : arg4.IsWhole)
  (arg5 : Memref sig .tc .vmem S8192x128 .bf16) (harg5 : arg5.IsWhole)
  (arg6 : Memref sig .tc .vmem S512x16 .f32) (harg6 : arg6.IsWhole)
  (arg7 : Memref sig .tc .vmem S1x16x8192 .f32) (harg7 : arg7.IsWhole)
  (arg8 : Memref sig .tc .vmem S512x128 .bf16) (harg8 : arg8.IsWhole)
  (arg9 : Memref sig .tc .vmem S2x512x128 .bf16) (harg9 : arg9.IsWhole)
  (arg10 : Memref sig .tc .vmem S2x512x1 .f32) (harg10 : arg10.IsWhole)
  (arg11 : Memref sig .tc .vmem S2x512x1 .f32) (harg11 : arg11.IsWhole)
  (arg12 : Memref sig .tc .vmem S2x512x1 .f32) (harg12 : arg12.IsWhole)
  (arg13 : Memref sig .tc .vmem S2x512x128 .f32) (harg13 : arg13.IsWhole)
  (x0 : Vec Ideal S512x128 .bf16) (x1 : Vec Ideal S8192x128 .bf16) (x2 : Vec Ideal S8192x128 .bf16) (x3 : Vec Ideal S512x16 .f32)
  (x4 : Vec Ideal S1x16x8192 .f32)
  (q : Fin 512 → Fin 128 → ℝ) (k v : ℕ → Fin 128 → ℝ) (fc : Fin 512 → Fin 16 → ℝ) (fr : Fin 16 → ℕ → ℝ)

/-- The block's inputs are real numbers. -/
def Reals : Prop :=
  (∀ r d, x0 (ix2 r d) = ((q r d : ℝ) : EReal)) ∧ (∀ s d, x1 (ix2 s d) = ((k s.val d : ℝ) : EReal))
    ∧ (∀ s d, x2 (ix2 s d) = ((v s.val d : ℝ) : EReal)) ∧ (∀ r h, x3 (ix2 r h) = ((fc r h : ℝ) : EReal))
    ∧ (∀ h s, x4 (ix3 0 h s) = ((fr h s.val : ℝ) : EReal))

variable (H : Reals x0 x1 x2 x3 x4 q k v fc fr)
include H

/-- The first head's queries are real. -/
theorem low_real (r : Fin 512) (d : Fin 128) :
    k0_pay23 (F := Ideal) x0 (ix3 0 r d) = (((if lane 0 d then q r d else 0 : ℝ)) : EReal) := by
  have hl : lane 0 d ↔ d.val < 64 := by rw [show lane 0 d = (d.val < 64) from if_pos rfl]
  rw [low_apply, H.1]
  by_cases hd : d.val < 64
  · rw [if_pos hd, if_pos (hl.2 hd)]
  · rw [if_neg hd, if_neg fun h => hd (hl.1 h)]; rfl

/-- The second head's queries are real. -/
theorem high_real (r : Fin 512) (d : Fin 128) :
    k0_pay29 (F := Ideal) x0 k0_pay22 (ix3 0 r d) = (((if lane 1 d then q r d else 0 : ℝ)) : EReal) := by
  have hl : lane 1 d ↔ 64 ≤ d.val := by rw [show lane 1 d = (64 ≤ d.val) from if_neg (by decide)]
  rw [high_apply, H.1]
  by_cases hd : 64 ≤ d.val
  · rw [if_pos hd, if_pos (hl.2 hd)]
  · rw [if_neg hd, if_neg fun h => hd (hl.1 h)]; rfl

/-- What the buffers hold when the diagonal block begins: every row's first `512 * qi` positions. -/
theorem end_st : St (score i q k fc fr) (fun d s => v s d) (512 * (i 2).val)
    (end11 c i arg3 harg3 arg4 harg4 arg5 harg5 arg6 harg6 arg7 harg7 arg8 harg8 arg9 harg9 arg10 harg10 arg11 harg11 arg12 harg12 arg13 harg13 x0 x1 x2 x3 x4)
    (end12 c i arg3 harg3 arg4 harg4 arg5 harg5 arg6 harg6 arg7 harg7 arg8 harg8 arg9 harg9 arg10 harg10 arg11 harg11 arg12 harg12 arg13 harg13 x0 x1 x2 x3 x4)
    (end13 c i arg3 harg3 arg4 harg4 arg5 harg5 arg6 harg6 arg7 harg7 arg8 harg8 arg9 harg9 arg10 harg10 arg11 harg11 arg12 harg12 arg13 harg13 x0 x1 x2 x3 x4) := by
  unfold end11 end12 end13
  rw [trips_eq]
  refine loop_keeps (BitVec.ofNat 32 (i 1).val) (BitVec.ofNat 32 (i 2).val) k0_pay31 (harg4.unread x1) (harg5.unread x2)
    (harg7.unread x4) _ _ (score i q k fc fr) (fun d s => v s d) (fun t r j => ?_) (fun t r j => ?_) (fun t j d => ?_) _ _ _ ?_ _
    (le_of_eq (trips_eq i).symm)
  · have ht : t.val < 16 := (trip_lt i t).trans (block_lt i)
    unfold s0 score
    refine score_real _ _ _ _ r j _ _ _ _ (fun d => ?_) (fun d => ?_) ?_ ?_
    · rw [q0_eq c arg3 harg3 arg9 x0 _ rfl]
      exact low_real x0 x1 x2 x3 x4 q k v fc fr H r d
    · refine (rows_read x1 harg4 _ t.val ht (off1_eq i t ht) _ j d).trans ?_
      rw [H.2.1]; rfl
    · rw [g0_eq c i arg6 harg6 arg10 x3 _ rfl, gate0_apply, H.2.2.2.1]
    · refine (gates_read x4 harg7 _ t.val ht (head i 0) (off2_eq i t ht 0) _ j).trans ?_
      rw [H.2.2.2.2]; rfl
  · have ht : t.val < 16 := (trip_lt i t).trans (block_lt i)
    unfold s1 score
    refine score_real _ _ _ _ r j _ _ _ _ (fun d => ?_) (fun d => ?_) ?_ ?_
    · rw [q1_eq c arg3 harg3 arg9 x0 _ rfl]
      exact high_real x0 x1 x2 x3 x4 q k v fc fr H r d
    · refine (rows_read x1 harg4 _ t.val ht (off1_eq i t ht) _ j d).trans ?_
      rw [H.2.1]; rfl
    · rw [g1_eq c i arg6 harg6 arg10 x3 _ rfl, gate1_apply, H.2.2.2.1]
    · refine (gates_read x4 harg7 _ t.val ht (head i 1) (off2_eq i t ht 1) _ j).trans ?_
      rw [H.2.2.2.2]; rfl
  · have ht : t.val < 16 := (trip_lt i t).trans (block_lt i)
    refine (rows_read x2 harg5 _ t.val ht (off1_eq i t ht) _ j d).trans ?_
    rw [H.2.2.1]; rfl
  · constructor
    · intro r d
      unfold kernelRun0_A.sl.HS2_2 kernelRun0_A.sl.HS3_2 kernelRun0_A.sl.HS4_2
      rw [readAt_skip _ _ _ _ _ _ col_disj10, readAt_hit, readAt_skip _ _ _ _ _ _ col_disj10, readAt_hit,
        readAt_skip _ _ _ _ _ _ tile_disj10, readAt_hit]
      refine Or.inl ⟨rfl, init_m0 r, init_l0 r, init_a0 r d⟩
    · intro r d
      unfold kernelRun0_A.sl.HS2_2 kernelRun0_A.sl.HS3_2 kernelRun0_A.sl.HS4_2
      rw [readAt_hit, readAt_hit, readAt_hit]
      refine Or.inl ⟨rfl, init_m1 r, init_l1 r, init_a1 r d⟩

/-- The diagonal block's scores, first head: those up to the row's own position, −∞ for the later ones. -/
theorem d0_apply (r j : Fin 512) : d0 c i arg3 harg3 arg4 harg4 arg6 harg6 arg7 harg7 arg9 arg10 x0 x1 x3 x4 (ix2 r j)
    = if j.val < r.val + 1 then ((score i q k fc fr 0 r (512 * (i 2).val + j.val) : ℝ) : EReal) else ⊥ := by
  refine (masked_apply (kernelRun0_A.sl.r_2 i arg4 harg4 x1)
    (View.readAt (Elt Ideal) arg7.view (Rect.unit (s := S1x16x8192) (k0_off6 i 0#32) S1x1x512.size (k0_off6_inb i 0)).toLoadRect (harg7.unread x4))
    (kernelRun0_A.sl.v95 c arg3 harg3 arg9 x0) (kernelRun0_A.sl.v98 c i arg6 harg6 arg10 x3) r j).trans ?_
  refine if_congr Nat.lt_succ_iff.symm ?_ rfl
  refine score_real _ _ _ _ r j _ _ _ _ (fun d => ?_) (fun d => ?_) ?_ ?_
  · refine (congrFun (q0_eq c arg3 harg3 arg9 x0 _ rfl) _).trans ?_
    exact low_real x0 x1 x2 x3 x4 q k v fc fr H r d
  · refine (rows_read x1 harg4 _ (i 2).val (block_lt i) (off5_eq i) _ j d).trans ?_
    rw [H.2.1]; rfl
  · refine (congrFun (g0_eq c i arg6 harg6 arg10 x3 _ rfl) _).trans ?_
    rw [gate0_apply, H.2.2.2.1]
  · refine (gates_read x4 harg7 _ (i 2).val (block_lt i) (head i 0) (off6_eq i 0) _ j).trans ?_
    rw [H.2.2.2.2]; rfl

/-- The diagonal block's scores, second head. -/
theorem d1_apply (r j : Fin 512) : d1 c i arg3 harg3 arg4 harg4 arg6 harg6 arg7 harg7 arg9 arg10 x0 x1 x3 x4 (ix2 r j)
    = if j.val < r.val + 1 then ((score i q k fc fr 1 r (512 * (i 2).val + j.val) : ℝ) : EReal) else ⊥ := by
  refine (masked_apply _ _ _ _ r j).trans ?_
  refine if_congr Nat.lt_succ_iff.symm ?_ rfl
  refine score_real _ _ _ _ r j _ _ _ _ (fun d => ?_) (fun d => ?_) ?_ ?_
  · refine (congrFun (q1_eq c arg3 harg3 arg9 x0 _ rfl) _).trans ?_
    exact high_real x0 x1 x2 x3 x4 q k v fc fr H r d
  · refine (rows_read x1 harg4 _ (i 2).val (block_lt i) (off5_eq i) _ j d).trans ?_
    rw [H.2.1]; rfl
  · refine (congrFun (g1_eq c i arg6 harg6 arg10 x3 _ rfl) _).trans ?_
    rw [gate1_apply, H.2.2.2.1]
  · refine (gates_read x4 harg7 _ (i 2).val (block_lt i) (head i 1) (off6_eq i 1) _ j).trans ?_
    rw [H.2.2.2.2]; rfl

/-- The diagonal block's values. -/
theorem w_apply (j : Fin 512) (d : Fin 128) :
    kernelRun0_A.sl.r_3 i arg5 harg5 x2 (ix2 j d) = ((v (512 * (i 2).val + j.val) d : ℝ) : EReal) := by
  refine (rows_read x2 harg5 _ (i 2).val (block_lt i) (off5_eq i) _ j d).trans ?_
  rw [H.2.2.1]; rfl

/-- THE BLOCK'S VALUE: on lane `d`, the mean of the values of that lane over the positions up to the row's own, weighted by
    the exponentials of the scores of the lane's head. -/
theorem out_value (r : Fin 512) (d : Fin 128) : out0_A_5 (F := Ideal) c i arg3 harg3 arg4 harg4 arg5 harg5 arg6 harg6 arg7 harg7 arg8 harg8 arg9 harg9 arg10 harg10 arg11 harg11 arg12 harg12 arg13 harg13 x0 x1 x2 x3 x4 (ix2 r d)
    = ((mean (score i q k fc fr (if 64 ≤ d.val then 1 else 0) r) (fun s => v s d) (512 * (i 2).val + (r.val + 1)) : ℝ) : EReal) := by
  have hst := end_st c i arg3 harg3 arg4 harg4 arg5 harg5 arg6 harg6 arg7 harg7 arg8 harg8 arg9 harg9 arg10 harg10 arg11 harg11 arg12 harg12 arg13 harg13 x0 x1 x2 x3 x4 q k v fc fr H
  rw [out_eq, out_apply, same_apply, quot_apply, v193_eq, v195_eq, v199_eq, v201_eq]
  have hw := w_apply i arg5 harg5 x0 x1 x2 x3 x4 q k v fc fr H
  by_cases hd : 64 ≤ d.val
  · rw [if_pos hd, if_pos hd]
    exact rowInv_div _ _ _ (Nat.succ_pos _) (planeInv_step (score i q k fc fr 1) (fun d s => v s d) (512 * (i 2).val) (fun r => r.val + 1)
      (by simp) (fun r => r.isLt) _ _ (d1_apply c i arg3 harg3 arg4 harg4 arg6 harg6 arg7 harg7 arg9 arg10 x0 x1 x2 x3 x4 q k v fc fr H)
      hw hst.2 r d)
  · rw [if_neg hd, if_neg hd]
    exact rowInv_div _ _ _ (Nat.succ_pos _) (planeInv_step (score i q k fc fr 0) (fun d s => v s d) (512 * (i 2).val) (fun r => r.val + 1)
      (by simp) (fun r => r.isLt) _ _ (d0_apply c i arg3 harg3 arg4 harg4 arg6 harg6 arg7 harg7 arg9 arg10 x0 x1 x2 x3 x4 q k v fc fr H)
      hw hst.1 r d)

end Cert.KernelIdeal.Block

end
-- ==== Proof.Spec.lean ====
module

public import proofs.«01_k».proof.Proof.Rows

@[expose] public section

/-!
The forgetting attention over the reals, as a formula on the two argument arrays: `h n c` is row `n` and column `c` of the
projections (queries, keys and values side by side, 1024 columns each), `f n a` the running sum of head `a`'s log gates. A row
is a batch entry's position, 8192 of them to a batch entry; a head has 64 columns.
-/

noncomputable section

namespace Cert.Fox

open Idealize.ShloMosaic Cert.KernelIdeal.Rows

/-- The score of position `t` with position `s`: query times key, plus the difference of the gates' running sums. -/
def score (h f : ℕ → ℕ → ℝ) (b a t s : ℕ) : ℝ :=
  (∑ d : Fin 64, h (8192 * b + t) (64 * a + d.val) * h (8192 * b + s) (1024 + 64 * a + d.val))
    + (f (8192 * b + t) a - f (8192 * b + s) a)

/-- The attention's result at row `8192 * b + t` and column `c`: the mean of the values of the column over the positions up to
    `t`, weighted by the exponentials of the scores of the column's head. -/
def value (h f : ℕ → ℕ → ℝ) (b t c : ℕ) : ℝ :=
  mean (score h f b (c / 64) t) (fun s => h (8192 * b + s) (2048 + c)) (t + 1)

/-- A sum over the 128 lanes of a pair of heads in which only the lanes of one head count is a sum over that head's columns. -/
theorem sum_lanes (g : ℕ → ℝ) (e : ℕ) (he : e < 2) :
    ∑ d : Fin 128, (if d.val / 64 = e then g d.val else 0) = ∑ d : Fin 64, g (64 * e + d.val) := by
  rw [Fin.sum_univ_eq_sum_range (fun d => if d / 64 = e then g d else 0) 128,
    Fin.sum_univ_eq_sum_range (fun d => g (64 * e + d)) 64, ← Finset.sum_filter]
  refine (Finset.sum_nbij (fun d => 64 * e + d) ?_ ?_ ?_ (fun _ _ => rfl)).symm
  · intro d hd
    simp only [Finset.mem_range, Finset.mem_filter] at hd ⊢
    omega
  · intro a _ b _ h
    dsimp only at h
    omega
  · intro d hd
    simp only [Finset.coe_filter, Finset.mem_range, Set.mem_setOf_eq, Set.mem_image, Finset.coe_range, Set.mem_Iio] at hd ⊢
    exact ⟨d - 64 * e, by omega, by omega⟩

end Cert.Fox

end
-- ==== Proof.Array.lean ====
module

public import proofs.«01_k».proof.Proof.Block
public import proofs.«01_k».proof.Proof.Spec
public import proofs.«01_k».proof.Proof.Gen.KernelIdeal.Value

@[expose] public section

set_option synthInstance.maxSize 4096
set_option maxRecDepth 16384

/-!
The result array of the kernel, over real arguments: every element is the attention's formula.
-/

noncomputable section

namespace Cert.KernelIdeal.Array

open Idealize.ShloMosaic Idealize.ShloMosaic.TcCoe Idealize.SL.Sem Cert.KernelIdeal.Gen Cert.KernelIdeal.Value
  Cert.KernelIdeal.Rows Cert.KernelIdeal.Payload Cert.KernelIdeal.Block

variable (m : (ℓ : Loc nD τ sig) → Buf (Elt Ideal) ℓ) (c : Dev nD)

/-! ## Where the windows' blocks lie -/

/-- Where the block of queries lies. -/
theorem idx0 : ∀ t : Fin grid0.N, win0_0.index t 0 = (grid0.coords t 0).val * 16 + (grid0.coords t 2).val
    ∧ win0_0.index t 1 = (grid0.coords t 1).val := by decide +kernel
/-- Where the block of keys lies. -/
theorem idx1 : ∀ t : Fin grid0.N, win0_1.index t 0 = (grid0.coords t 0).val
    ∧ win0_1.index t 1 = 8 + (grid0.coords t 1).val := by decide +kernel
/-- Where the block of values lies. -/
theorem idx2 : ∀ t : Fin grid0.N, win0_2.index t 0 = (grid0.coords t 0).val
    ∧ win0_2.index t 1 = 16 + (grid0.coords t 1).val := by decide +kernel
/-- Where the block of the queries' gates lies. -/
theorem idx3 : ∀ t : Fin grid0.N, win0_3.index t 0 = (grid0.coords t 0).val * 16 + (grid0.coords t 2).val
    ∧ win0_3.index t 1 = 0 := by decide +kernel
/-- Where the block of the keys' gates lies. -/
theorem idx4 : ∀ t : Fin grid0.N, win0_4.index t 0 = (grid0.coords t 0).val
    ∧ win0_4.index t 1 = 0 ∧ win0_4.index t 2 = 0 := by decide +kernel
/-- Where the block of results lies. -/
theorem idx5 : ∀ t : Fin grid0.N, win0_5.index t 0 = (grid0.coords t 0).val * 16 + (grid0.coords t 2).val
    ∧ win0_5.index t 1 = (grid0.coords t 1).val := by decide +kernel
/-- The block of results is written back at every point of the grid. -/
theorem flush5 : ∀ t : Fin grid0.N, (cfg0.win 5).flush t = true := by decide +kernel

/-- Every triple of coordinates is a point's. -/
theorem point_of : ∀ (b p : Fin 8) (q : Fin 16), ∃ t : Fin grid0.N, (grid0.coords t 0).val = b.val
    ∧ (grid0.coords t 1).val = p.val ∧ (grid0.coords t 2).val = q.val := by
  have h : ∀ (b p : Fin 8) (q : Fin 16), (grid0.coords ⟨b.val * 128 + p.val * 16 + q.val, by
      show _ < 1024; omega⟩ 0).val = b.val
      ∧ (grid0.coords ⟨b.val * 128 + p.val * 16 + q.val, by show _ < 1024; omega⟩ 1).val = p.val
      ∧ (grid0.coords ⟨b.val * 128 + p.val * 16 + q.val, by show _ < 1024; omega⟩ 2).val = q.val := by decide +kernel
  exact fun b p q => ⟨_, h b p q⟩

/-- The transposed gates the host hands the kernel. -/
theorem gates_eq : V m c main_v1 = transpose S8x16x8192 [0, 2, 1] (shapeCast S8x8192x16 (m ((c : Thread nD τ).loc main_arg1))
    shapeCasts_S65536x16_S8x8192x16) transposes_S8x8192x16_S8x16x8192_0_2_1 := by
  unfold V hostOps0
  after_results_simp
  rfl

/-- An entry of the transposed gates. -/
theorem gates_apply (b : Fin 8) (a : Fin 16) (s : Fin 8192) : (V m c main_v1 : Vec Ideal S8x16x8192 .f32) (ix3 b a s)
    = (m ((c : Thread nD τ).loc main_arg1) : Vec Ideal S65536x16 .f32) (ix2 ⟨8192 * b.val + s.val, by omega⟩ a) := by
  rw [gates_eq]
  refine (transpose_apply [0, 2, 1] (s := S8x8192x16) (t := S8x16x8192) _ _ (ix3 b a s) (ix3 b s a)
    (fun x => by match x with | ⟨0, _⟩ => rfl | ⟨1, _⟩ => rfl | ⟨2, _⟩ => rfl)).trans ?_
  refine shapeCast_apply (s := S65536x16) (t := S8x8192x16) _ _ _ _ ?_
  rw [Shape.rowMajor_val_two, Shape.rowMajor_val_three]
  show (8192 * b.val + s.val) * 16 + a.val = (b.val * 8192 + s.val) * 16 + a.val
  omega

/-- The query block. -/
theorem q_apply (t : Fin grid0.N) (r : Fin 512) (d : Fin 128) (n : Fin 65536) (e : Fin 4096)
    (hn : n.val = ((grid0.coords t 0).val * 16 + (grid0.coords t 2).val) * 512 + r.val)
    (he : e.val = (grid0.coords t 1).val * 128 + d.val) :
    (iblk m c 0 t : Vec Ideal S512x128 .bf16) (ix2 r d)
      = (m ((c : Thread nD τ).loc main_arg0) : Vec Ideal S65536x4096 .bf16) (ix2 n e) := by
  unfold iblk
  rw [View.read_apply]
  show V m c main_arg0 _ = _
  rw [V_main_arg0]
  congr 1
  funext a
  apply Fin.ext
  match a with
  | ⟨0, _⟩ => show win0_0.index t 0 * 512 + 1 * r.val = n.val; rw [(idx0 t).1]; omega
  | ⟨1, _⟩ => show win0_0.index t 1 * 128 + 1 * d.val = e.val; rw [(idx0 t).2]; omega

/-- The key block. -/
theorem k_apply (t : Fin grid0.N) (s : Fin 8192) (d : Fin 128) (n : Fin 65536) (e : Fin 4096)
    (hn : n.val = (grid0.coords t 0).val * 8192 + s.val)
    (he : e.val = (8 + (grid0.coords t 1).val) * 128 + d.val) :
    (iblk m c 1 t : Vec Ideal S8192x128 .bf16) (ix2 s d)
      = (m ((c : Thread nD τ).loc main_arg0) : Vec Ideal S65536x4096 .bf16) (ix2 n e) := by
  unfold iblk
  rw [View.read_apply]
  show V m c main_arg0 _ = _
  rw [V_main_arg0]
  congr 1
  funext a
  apply Fin.ext
  match a with
  | ⟨0, _⟩ => show win0_1.index t 0 * 8192 + 1 * s.val = n.val; rw [(idx1 t).1]; omega
  | ⟨1, _⟩ => show win0_1.index t 1 * 128 + 1 * d.val = e.val; rw [(idx1 t).2]; omega

/-- The value block. -/
theorem v_apply (t : Fin grid0.N) (s : Fin 8192) (d : Fin 128) (n : Fin 65536) (e : Fin 4096)
    (hn : n.val = (grid0.coords t 0).val * 8192 + s.val)
    (he : e.val = (16 + (grid0.coords t 1).val) * 128 + d.val) :
    (iblk m c 2 t : Vec Ideal S8192x128 .bf16) (ix2 s d)
      = (m ((c : Thread nD τ).loc main_arg0) : Vec Ideal S65536x4096 .bf16) (ix2 n e) := by
  unfold iblk
  rw [View.read_apply]
  show V m c main_arg0 _ = _
  rw [V_main_arg0]
  congr 1
  funext a
  apply Fin.ext
  match a with
  | ⟨0, _⟩ => show win0_2.index t 0 * 8192 + 1 * s.val = n.val; rw [(idx2 t).1]; omega
  | ⟨1, _⟩ => show win0_2.index t 1 * 128 + 1 * d.val = e.val; rw [(idx2 t).2]; omega

/-- The block of the rows' gates. -/
theorem fc_apply (t : Fin grid0.N) (r : Fin 512) (x : Fin 16) (n : Fin 65536)
    (hn : n.val = ((grid0.coords t 0).val * 16 + (grid0.coords t 2).val) * 512 + r.val) :
    (iblk m c 3 t : Vec Ideal S512x16 .f32) (ix2 r x)
      = (m ((c : Thread nD τ).loc main_arg1) : Vec Ideal S65536x16 .f32) (ix2 n x) := by
  unfold iblk
  rw [View.read_apply]
  show V m c main_arg1 _ = _
  rw [V_main_arg1]
  congr 1
  funext a
  apply Fin.ext
  match a with
  | ⟨0, _⟩ => show win0_3.index t 0 * 512 + 1 * r.val = n.val; rw [(idx3 t).1]; omega
  | ⟨1, _⟩ => show win0_3.index t 1 * 16 + 1 * x.val = x.val; rw [(idx3 t).2]; omega

/-- The block of the columns' gates. -/
theorem fr_apply (t : Fin grid0.N) (x : Fin 16) (s : Fin 8192) (n : Fin 65536)
    (hn : n.val = (grid0.coords t 0).val * 8192 + s.val) :
    (iblk m c 4 t : Vec Ideal S1x16x8192 .f32) (ix3 0 x s)
      = (m ((c : Thread nD τ).loc main_arg1) : Vec Ideal S65536x16 .f32) (ix2 n x) := by
  have hb : (grid0.coords t 0).val < 8 := (grid0.coords t 0).isLt
  have h : (iblk m c 4 t : Vec Ideal S1x16x8192 .f32) (ix3 0 x s)
      = (V m c main_v1 : Vec Ideal S8x16x8192 .f32) (ix3 ⟨(grid0.coords t 0).val, hb⟩ x s) := by
    unfold iblk
    rw [View.read_apply]
    show V m c main_v1 _ = _
    congr 1
    funext a
    apply Fin.ext
    match a with
    | ⟨0, _⟩ => show win0_4.index t 0 * 1 + 1 * 0 = (grid0.coords t 0).val; rw [(idx4 t).1]; omega
    | ⟨1, _⟩ => show win0_4.index t 1 * 16 + 1 * x.val = x.val; rw [(idx4 t).2.1]; omega
    | ⟨2, _⟩ => show win0_4.index t 2 * 8192 + 1 * s.val = s.val; rw [(idx4 t).2.2]; omega
  rw [h, gates_apply]
  congr 2
  apply Fin.ext
  show 8192 * (grid0.coords t 0).val + s.val = n.val
  omega

/-! ## The array -/

/-- The arguments are the real arrays `h` (its first 3072 columns) and `f`. -/
def ArgsReal (h f : ℕ → ℕ → ℝ) : Prop :=
  (∀ (n : Fin 65536) (e : Fin 4096), e.val < 3072 →
      (m ((c : Thread nD τ).loc main_arg0) : Vec Ideal S65536x4096 .bf16) (ix2 n e) = ((h n.val e.val : ℝ) : EReal))
    ∧ ∀ (n : Fin 65536) (x : Fin 16),
      (m ((c : Thread nD τ).loc main_arg1) : Vec Ideal S65536x16 .f32) (ix2 n x) = ((f n.val x.val : ℝ) : EReal)

/-- The result: at each row and column the attention's formula. -/
def result (h f : ℕ → ℕ → ℝ) : Buf (Elt Ideal) ((c : Thread nD τ).loc main_v2) :=
  fun j : S65536x1024.Idx => ((Fox.value h f ((j 0).val / 8192) ((j 0).val % 8192) (j 1).val : ℝ) : EReal)

variable (h f : ℕ → ℕ → ℝ)

/-- The scores of a point's block are the formula's. -/
theorem score_eq (i : grid0.Coords) (e : Fin 2) (r : Fin 512) (s : ℕ) :
    Block.score i (fun r d => h (8192 * (i 0).val + (512 * (i 2).val + r.val)) (128 * (i 1).val + d.val))
        (fun s d => h (8192 * (i 0).val + s) (1024 + 128 * (i 1).val + d.val))
        (fun r x => f (8192 * (i 0).val + (512 * (i 2).val + r.val)) x.val) (fun x s => f (8192 * (i 0).val + s) x.val) e r s
      = Fox.score h f (i 0).val (2 * (i 1).val + e.val) (512 * (i 2).val + r.val) s := by
  unfold Block.score Fox.score
  refine congrArg₂ (· + ·) ?_ rfl
  have he := e.isLt
  have key := Fox.sum_lanes (fun d => h (8192 * (i 0).val + (512 * (i 2).val + r.val)) (128 * (i 1).val + d)
    * h (8192 * (i 0).val + s) (1024 + 128 * (i 1).val + d)) e.val he
  refine Eq.trans (Finset.sum_congr rfl fun d _ => ?_) (key.trans (Finset.sum_congr rfl fun d _ => ?_))
  · have hl : lane e d ↔ d.val / 64 = e.val := by
      have hd := d.isLt
      unfold lane
      by_cases h0 : e = 0
      · subst h0; rw [if_pos rfl]; show _ ↔ _ = 0; omega
      · have h1 : e.val = 1 := by have : e.val ≠ 0 := fun hc => h0 (Fin.ext hc); omega
        rw [if_neg h0, h1]; omega
    by_cases hd : d.val / 64 = e.val
    · rw [if_pos (hl.2 hd), if_pos hd]
    · rw [if_neg fun hc => hd (hl.1 hc), if_neg hd, zero_mul]
  · dsimp only
    rw [show 128 * (i 1).val + (64 * e.val + d.val) = 64 * (2 * (i 1).val + e.val) + d.val by omega,
      show 1024 + 128 * (i 1).val + (64 * e.val + d.val) = 1024 + 64 * (2 * (i 1).val + e.val) + d.val by omega]

variable (H : ArgsReal m c h f)
include H

/-- WHAT A POINT WRITES BACK is its block of the result. -/
theorem flushed_eq (t : Fin cfg0.N) (_ : (cfg0.win 5).flush t = true) :
    (dats m 0 c).flushed 5 t = ((cfg0.win 5).blk t).view.read (Elt Ideal) (result c h f) := by
  have hb : (grid0.coords t 0).val < 8 := (grid0.coords t 0).isLt
  have hp : (grid0.coords t 1).val < 8 := (grid0.coords t 1).isLt
  have hq : (grid0.coords t 2).val < 16 := (grid0.coords t 2).isLt
  refine (flushed5_A m c t).trans ?_
  refine funext fun (j : S512x128.Idx) => ?_
  rw [View.read_apply]
  obtain ⟨r, d, rfl⟩ : ∃ (r : Fin 512) (d : Fin 128), j = ix2 r d := ⟨j 0, j 1, by
    funext a; match a with | ⟨0, _⟩ => rfl | ⟨1, _⟩ => rfl⟩
  have hr := r.isLt
  have hd := d.isLt
  have hR : Reals (iblk m c 0 t) (iblk m c 1 t) (iblk m c 2 t) (iblk m c 3 t) (iblk m c 4 t)
      (fun r d => h (8192 * (grid0.coords t 0).val + (512 * (grid0.coords t 2).val + r.val)) (128 * (grid0.coords t 1).val + d.val))
      (fun s d => h (8192 * (grid0.coords t 0).val + s) (1024 + 128 * (grid0.coords t 1).val + d.val))
      (fun s d => h (8192 * (grid0.coords t 0).val + s) (2048 + 128 * (grid0.coords t 1).val + d.val))
      (fun r x => f (8192 * (grid0.coords t 0).val + (512 * (grid0.coords t 2).val + r.val)) x.val)
      (fun x s => f (8192 * (grid0.coords t 0).val + s) x.val) := by
    refine ⟨fun r d => ?_, fun s d => ?_, fun s d => ?_, fun r x => ?_, fun x s => ?_⟩
    · have hr := r.isLt
      have hd := d.isLt
      rw [q_apply m c t r d ⟨8192 * (grid0.coords t 0).val + (512 * (grid0.coords t 2).val + r.val), by omega⟩
        ⟨128 * (grid0.coords t 1).val + d.val, by omega⟩ (by dsimp only; omega) (by dsimp only; omega), H.1 _ _ (by dsimp only; omega)]
    · have hr := s.isLt
      have hd := d.isLt
      rw [k_apply m c t s d ⟨8192 * (grid0.coords t 0).val + s.val, by omega⟩
        ⟨1024 + 128 * (grid0.coords t 1).val + d.val, by omega⟩ (by dsimp only; omega) (by dsimp only; omega), H.1 _ _ (by dsimp only; omega)]
    · have hr := s.isLt
      have hd := d.isLt
      rw [v_apply m c t s d ⟨8192 * (grid0.coords t 0).val + s.val, by omega⟩
        ⟨2048 + 128 * (grid0.coords t 1).val + d.val, by omega⟩ (by dsimp only; omega) (by dsimp only; omega), H.1 _ _ (by dsimp only; omega)]
    · have hr := r.isLt
      rw [fc_apply m c t r x ⟨8192 * (grid0.coords t 0).val + (512 * (grid0.coords t 2).val + r.val), by omega⟩
        (by dsimp only; omega), H.2]
    · have hr := s.isLt
      rw [fr_apply m c t x s ⟨8192 * (grid0.coords t 0).val + s.val, by omega⟩ (by dsimp only; omega), H.2]
  refine (out_value c (grid0.coords t) _ _ _ _ _ _ _ _ _ _ _ _ _ _ _ _ _ _ _ _ _ _ _ _ _ _ _ _ _ _ _ _ hR r d).trans ?_
  unfold result
  have e0 : ((((cfg0.win 5).blk t).view.emb (ix2 r d) : S65536x1024.Idx) 0).val
      = 8192 * (grid0.coords t 0).val + (512 * (grid0.coords t 2).val + r.val) := by
    show win0_5.index t 0 * 512 + 1 * r.val = _; rw [(idx5 t).1]; omega
  have e1 : ((((cfg0.win 5).blk t).view.emb (ix2 r d) : S65536x1024.Idx) 1).val = 128 * (grid0.coords t 1).val + d.val := by
    show win0_5.index t 1 * 128 + 1 * d.val = _; rw [(idx5 t).2]; omega
  show _ = ((Fox.value h f (((((cfg0.win 5).blk t).view.emb (ix2 r d) : S65536x1024.Idx) 0).val / 8192)
    (((((cfg0.win 5).blk t).view.emb (ix2 r d) : S65536x1024.Idx) 0).val % 8192)
    ((((cfg0.win 5).blk t).view.emb (ix2 r d) : S65536x1024.Idx) 1).val : ℝ) : EReal)
  rw [e0, e1, show (8192 * (grid0.coords t 0).val + (512 * (grid0.coords t 2).val + r.val)) / 8192 = (grid0.coords t 0).val by omega,
    show (8192 * (grid0.coords t 0).val + (512 * (grid0.coords t 2).val + r.val)) % 8192 = 512 * (grid0.coords t 2).val + r.val by omega]
  unfold Fox.value
  rw [funext (score_eq h f (grid0.coords t) (if 64 ≤ d.val then 1 else 0) r),
    show (128 * (grid0.coords t 1).val + d.val) / 64 = 2 * (grid0.coords t 1).val + (if 64 ≤ d.val then (1 : Fin 2) else 0).val by
      split <;> simp <;> omega]
  simp only [Nat.add_assoc]

/-- THE RESULT ARRAY ends holding the attention's formula. -/
theorem final : (dats m 0 c).arrAt 5 cfg0.N = result c h f :=
  (dats m 0 c).arrAt_eq_of_cover 5 (result c h f) (flushed_eq m c h f H) fun i => by
    have h0 : (i 0 : ℕ) < 65536 := (i 0).isLt
    have h1 : (i 1 : ℕ) < 1024 := (i 1).isLt
    obtain ⟨t, hb, hp, hq⟩ := point_of ⟨(i 0 : ℕ) / 8192, by omega⟩ ⟨(i 1 : ℕ) / 128, by omega⟩ ⟨(i 0 : ℕ) % 8192 / 512, by omega⟩
    dsimp only at hb hp hq
    refine ⟨t, flush5 t, ?_⟩
    show i ∈ ((View.whole main_v2).slice (win0_5.rect t)).set
    rw [View.set_slice_whole, Rect.mem_set_unit]
    intro a
    match a with
    | ⟨0, _⟩ =>
      show win0_5.index t 0 * 512 ≤ (i 0 : ℕ) ∧ (i 0 : ℕ) < win0_5.index t 0 * 512 + 512
      rw [(idx5 t).1]; omega
    | ⟨1, _⟩ =>
      show win0_5.index t 1 * 128 ≤ (i 1 : ℕ) ∧ (i 1 : ℕ) < win0_5.index t 1 * 128 + 128
      rw [(idx5 t).2]; omega

end Cert.KernelIdeal.Array

end
-- ==== Proof.Finite.lean ====
module

public import proofs.«01_k».proof.Proof.Array
public import proofs.«01_k».proof.Proof.Gen.Pre_finite

@[expose] public section

set_option synthInstance.maxSize 4096
set_option maxRecDepth 16384

/-!
What the precondition says: the columns the attention reads, and the gates, are real numbers.
-/

noncomputable section

namespace Cert.KernelIdeal.Finite

open Idealize.ShloMosaic Idealize.ShloMosaic.TcCoe Idealize.SL.Sem

/-- An extended real whose absolute value compares below plus infinity is a real number. -/
theorem real_of_abs (x inf : EReal) (hinf : inf = ⊤)
    (h : FloatOps.cmpf (F := Ideal) (φ := .f32) .olt (FloatOps.hostAbsf (F := Ideal) (φ := .f32) x) inf = 1#1) :
    x = ((x.toReal : ℝ) : EReal) := by
  subst hinf
  induction x using EReal.rec with
  | bot => exfalso; revert h; decide
  | coe r => simp
  | top => exfalso; revert h; decide

/-- bfloat16's plus infinity. -/
theorem inf_bf16 : Ideal.ofBits .bf16 0x7F80#16 = (⊤ : EReal) := by simp [Ideal.ofBits, Ideal.ieee]

/-- float32's plus infinity. -/
theorem inf_f32 : Ideal.ofBits .f32 0x7F800000#32 = (⊤ : EReal) := by simp [Ideal.ofBits, Ideal.ieee]

/-- A row and a column of a two-dimensional array given as numbers; out of range reads zero. -/
def nums {N M : ℕ} (A : (⟨2, ![N, M]⟩ : Shape).Idx → EReal) (n e : ℕ) : ℝ :=
  if h : n < N ∧ e < M then (A (ix2 ⟨n, h.1⟩ ⟨e, h.2⟩)).toReal else 0

/-- In range it reads the array. -/
theorem nums_apply {N M : ℕ} (A : (⟨2, ![N, M]⟩ : Shape).Idx → EReal) (n : Fin N) (e : Fin M) :
    nums A n.val e.val = (A (ix2 n e)).toReal := by
  unfold nums
  rw [dif_pos ⟨n.isLt, e.isLt⟩]

/-- The precondition's two arrays of truth values being all true, the first 3072 columns of the first argument and the whole
    second argument hold real numbers. -/
theorem reals (A : FVec Ideal Cert.Pre_finite.S65536x4096 .bf16) (B : FVec Ideal Cert.Pre_finite.S65536x16 .f32)
    (hp : (Cert.Pre_finite.fn (F := Ideal) A B).1 = (fun _ => 1#1) ∧ (Cert.Pre_finite.fn (F := Ideal) A B).2 = (fun _ => 1#1)) :
    (∀ (n : Fin 65536) (e : Fin 4096), e.val < 3072 → A (ix2 n e) = ((nums A n.val e.val : ℝ) : EReal))
      ∧ ∀ (n : Fin 65536) (x : Fin 16), B (ix2 n x) = ((nums B n.val x.val : ℝ) : EReal) := by
  constructor
  · intro n e he
    rw [nums_apply]
    refine real_of_abs _ _ inf_bf16 ?_
    have h := congrFun hp.1 (ix2 n ⟨e.val, he⟩)
    have hx : extractStridedSlice Cert.Pre_finite.S65536x3072 ![0, 0] A Cert.Pre_finite.Facts.slices_S65536x4096_S65536x3072_0_0
        (ix2 n ⟨e.val, he⟩) = A (ix2 n e) := by
      unfold extractStridedSlice
      congr 1
      funext x
      apply Fin.ext
      match x with
      | ⟨0, _⟩ => show 0 + n.val = n.val; omega
      | ⟨1, _⟩ => show 0 + e.val = e.val; omega
    rw [← hx]
    exact h
  · intro n x
    rw [nums_apply]
    exact real_of_abs _ _ inf_f32 (congrFun hp.2 (ix2 n x))

end Cert.KernelIdeal.Finite

end
-- ==== Proof.RefSteps.lean ====
module

public import proofs.«01_k».proof.Proof.Spec
public import proofs.«01_k».proof.Proof.Gen.ReferenceIdeal.Run
public import Idealize.ShloMosaic.Lib.Pointwise
public import Idealize.ShloMosaic.Lib.WordCmp

@[expose] public section

set_option synthInstance.maxSize 4096
set_option maxRecDepth 16384

/-!
The reference's result as a chain of a few named steps, and the steps that only move elements, entry by entry.
-/

noncomputable section

namespace Cert.ReferenceIdeal.Fox

open Idealize.ShloMosaic Idealize.ShloMosaic.TcCoe Idealize.SL.Sem Cert.ReferenceIdeal.Gen Cert.ReferenceIdeal.Value
  Cert.KernelIdeal.Rows

/-- One third of the projections, split into heads, from column `o` on. -/
def heads (A : FVec Ideal S65536x4096 .bf16) (o : ℕ) (ho : S8x8192x4096.Slices ![0, 0, o] S8x8192x1024) :
    FVec Ideal S8x16x8192x64 .f32 :=
  transpose S8x16x8192x64 [0, 2, 1, 3] (shapeCast S8x8192x16x64 (extractStridedSlice S8x8192x1024 ![0, 0, o]
    (shapeCast S8x8192x4096 (extf .f32 A bitsLt_bf16_f32) shapeCasts_S65536x4096_S8x8192x4096) ho)
    shapeCasts_S8x8192x1024_S8x8192x16x64) transposes_S8x8192x16x64_S8x16x8192x64_0_2_1_3

/-- The gates' running sums, head by head. -/
def gates (B : FVec Ideal S65536x16 .f32) : FVec Ideal S8x16x8192 .f32 :=
  transpose S8x16x8192 [0, 2, 1] (shapeCast S8x8192x16 B shapeCasts_S65536x16_S8x8192x16) transposes_S8x8192x16_S8x16x8192_0_2_1

/-- The masked logits. -/
def logits (q k : FVec Ideal S8x16x8192x64 .f32) (g : FVec Ideal S8x16x8192 .f32) : FVec Ideal S8x16x8192x8192 .f32 :=
  select (broadcastInDim S8x16x8192x8192 ![0, 1, 2, 3] bcast_S1x1x8192x8192_S8x16x8192x8192_0_1_2_3
      (broadcastInDim S1x1x8192x8192 ![2, 3] bcast_S8192x8192_S1x1x8192x8192_2_3
        (cmpi .sle (broadcastInDim S8192x8192 ![0, 1] bcast_S1x8192_S8192x8192_0_1
            (broadcastInDim S1x8192 ![1] bcast_S8192_S1x8192_1 (iotaInDim S8192 32 0)))
          (broadcastInDim S8192x8192 ![0, 1] bcast_S8192x1_S8192x8192_0_1
            (broadcastInDim S8192x1 ![0] bcast_S8192_S8192x1_0 (iotaInDim S8192 32 0))))))
    (subf (addf (Host.dotGeneral dot_S8x16x8192x64_S8x16x8192x64_S8x16x8192x8192_3_3_2_2_01_01 none q k)
        (broadcastInDim S8x16x8192x8192 ![0, 1, 2, 3] bcast_S8x16x8192x1_S8x16x8192x8192_0_1_2_3
          (broadcastInDim S8x16x8192x1 ![0, 1, 2] bcast_S8x16x8192_S8x16x8192x1_0_1_2 g)))
      (broadcastInDim S8x16x8192x8192 ![0, 1, 2, 3] bcast_S8x16x1x8192_S8x16x8192x8192_0_1_2_3
        (broadcastInDim S8x16x1x8192 ![0, 1, 3] bcast_S8x16x8192_S8x16x1x8192_0_1_3 g)))
    (broadcastInDim S8x16x8192x8192 ![] bcast_S_S8x16x8192x8192 (id (constant S_ .f32 0xFF800000#32)))

/-- The exponentials of the logits less their row's maximum. -/
def expo (s : FVec Ideal S8x16x8192x8192 .f32) : FVec Ideal S8x16x8192x8192 .f32 :=
  Host.exp (subf s (broadcastInDim S8x16x8192x8192 ![0, 1, 2, 3] bcast_S8x16x8192x1_S8x16x8192x8192_0_1_2_3
    (broadcastInDim S8x16x8192x1 ![0, 1, 2] bcast_S8x16x8192_S8x16x8192x1_0_1_2
      (maximumf (broadcastInDim S8x16x8192 ![] bcast_S_S8x16x8192 (constant S_ .f32 0xFF800000#32))
        (Host.reduce FloatOps.maximumf s (constant S_ .f32 0xFF800000#32) reducesTo_S8x16x8192x8192_S8x16x8192_d3 h_S_)))))

/-- The softmax of the rows, times the values. -/
def weighted (e : FVec Ideal S8x16x8192x8192 .f32) (v : FVec Ideal S8x16x8192x64 .f32) : FVec Ideal S8x16x8192x64 .f32 :=
  Host.dotGeneral dot_S8x16x8192x8192_S8x16x8192x64_S8x16x8192x64_3_2_2_3_01_01 none
    (Host.divf e (broadcastInDim S8x16x8192x8192 ![0, 1, 2, 3] bcast_S8x16x8192x1_S8x16x8192x8192_0_1_2_3
      (broadcastInDim S8x16x8192x1 ![0, 1, 2] bcast_S8x16x8192_S8x16x8192x1_0_1_2
        (Host.reduceAdd e (constant S_ .f32 0x00000000#32) reducesTo_S8x16x8192x8192_S8x16x8192_d3 h_S_)))) v

/-- The heads side by side again, a row for each position. -/
def merged (o : FVec Ideal S8x16x8192x64 .f32) : FVec Ideal S65536x1024 .bf16 :=
  truncf .bf16 (shapeCast S65536x1024 (shapeCast S8x8192x1024 (transpose S8x8192x16x64 [0, 2, 1, 3] o
    transposes_S8x16x8192x64_S8x8192x16x64_0_2_1_3) shapeCasts_S8x8192x16x64_S8x8192x1024) shapeCasts_S8x8192x1024_S65536x1024)
    bitsLt_bf16_f32

/-- The reference's result, in these steps. -/
theorem res_eq (m : (ℓ : Loc nD τ sig) → Buf (Elt Ideal) ℓ) (c : Dev nD) : res_out0 m c
    = merged (weighted (expo (logits
        (heads (m ((c.tc : Thread nD τ).loc main_arg0)) 0 slices_S8x8192x4096_S8x8192x1024_0_0_0)
        (heads (m ((c.tc : Thread nD τ).loc main_arg0)) 1024 slices_S8x8192x4096_S8x8192x1024_0_0_1024)
        (gates (m ((c.tc : Thread nD τ).loc main_arg1)))))
      (heads (m ((c.tc : Thread nD τ).loc main_arg0)) 2048 slices_S8x8192x4096_S8x8192x1024_0_0_2048)) := by
  unfold res_out0 res_main_v44
  rfl

/-! ## The steps, element by element -/

/-- An entry of a head's queries, keys or values is one of the projections'. -/
theorem heads_apply (A : FVec Ideal S65536x4096 .bf16) (o : ℕ) (ho : S8x8192x4096.Slices ![0, 0, o] S8x8192x1024)
    (b : Fin 8) (a : Fin 16) (s : Fin 8192) (d : Fin 64) (n : Fin 65536) (e : Fin 4096)
    (hn : n.val = 8192 * b.val + s.val) (he : e.val = o + 64 * a.val + d.val) :
    heads A o ho (ix4 b a s d) = A (ix2 n e) := by
  unfold heads
  refine (transpose_apply [0, 2, 1, 3] (s := S8x8192x16x64) (t := S8x16x8192x64) _ _ (ix4 b a s d) (ix4 b s a d)
    (fun x => by match x with | ⟨0, _⟩ => rfl | ⟨1, _⟩ => rfl | ⟨2, _⟩ => rfl | ⟨3, _⟩ => rfl)).trans ?_
  have ha := a.isLt
  have hd := d.isLt
  refine (shapeCast_apply (s := S8x8192x1024) (t := S8x8192x16x64) _ _ _ (ix3 b s ⟨64 * a.val + d.val, by omega⟩) ?_).trans ?_
  · rw [Shape.rowMajor_val_three, Shape.rowMajor_val_four]
    show (b.val * 8192 + s.val) * 1024 + (64 * a.val + d.val) = ((b.val * 8192 + s.val) * 16 + a.val) * 64 + d.val
    omega
  have he' := e.isLt
  have hx : extractStridedSlice S8x8192x1024 ![0, 0, o] (shapeCast S8x8192x4096 (extf .f32 A bitsLt_bf16_f32)
      shapeCasts_S65536x4096_S8x8192x4096) ho (ix3 b s ⟨64 * a.val + d.val, by omega⟩)
      = shapeCast S8x8192x4096 (extf .f32 A bitsLt_bf16_f32) shapeCasts_S65536x4096_S8x8192x4096 (ix3 b s e) := by
    unfold extractStridedSlice
    congr 1
    funext x
    apply Fin.ext
    match x with
    | ⟨0, _⟩ => show 0 + b.val = b.val; omega
    | ⟨1, _⟩ => show 0 + s.val = s.val; omega
    | ⟨2, _⟩ => show o + (64 * a.val + d.val) = e.val; omega
  refine hx.trans ?_
  refine (shapeCast_apply (s := S65536x4096) (t := S8x8192x4096) _ _ _ (ix2 n e) ?_).trans rfl
  rw [Shape.rowMajor_val_two, Shape.rowMajor_val_three]
  show n.val * 4096 + e.val = (b.val * 8192 + s.val) * 4096 + e.val
  omega

/-- An entry of the gates, head by head. -/
theorem gates_apply (B : FVec Ideal S65536x16 .f32) (b : Fin 8) (a : Fin 16) (s : Fin 8192) (n : Fin 65536)
    (hn : n.val = 8192 * b.val + s.val) : gates B (ix3 b a s) = B (ix2 n a) := by
  unfold gates
  refine (transpose_apply [0, 2, 1] (s := S8x8192x16) (t := S8x16x8192) _ _ (ix3 b a s) (ix3 b s a)
    (fun x => by match x with | ⟨0, _⟩ => rfl | ⟨1, _⟩ => rfl | ⟨2, _⟩ => rfl)).trans ?_
  refine shapeCast_apply (s := S65536x16) (t := S8x8192x16) _ _ _ _ ?_
  rw [Shape.rowMajor_val_two, Shape.rowMajor_val_three]
  show n.val * 16 + a.val = (b.val * 8192 + s.val) * 16 + a.val
  omega

/-- An entry of the result is one of its head's. -/
theorem merged_apply (o : FVec Ideal S8x16x8192x64 .f32) (n : Fin 65536) (e : Fin 1024) (b : Fin 8) (a : Fin 16)
    (s : Fin 8192) (d : Fin 64) (hn : n.val = 8192 * b.val + s.val) (he : e.val = 64 * a.val + d.val) :
    merged o (ix2 n e) = o (ix4 b a s d) := by
  unfold merged
  refine Eq.trans (b := shapeCast S65536x1024 (shapeCast S8x8192x1024 (transpose S8x8192x16x64 [0, 2, 1, 3] o
    transposes_S8x16x8192x64_S8x8192x16x64_0_2_1_3) shapeCasts_S8x8192x16x64_S8x8192x1024) shapeCasts_S8x8192x1024_S65536x1024 (ix2 n e)) rfl ?_
  refine (shapeCast_apply (s := S8x8192x1024) (t := S65536x1024) _ _ _ (ix3 b s e) ?_).trans ?_
  · rw [Shape.rowMajor_val_two, Shape.rowMajor_val_three]
    show (b.val * 8192 + s.val) * 1024 + e.val = n.val * 1024 + e.val
    omega
  refine (shapeCast_apply (s := S8x8192x16x64) (t := S8x8192x1024) _ _ _ (ix4 b s a d) ?_).trans ?_
  · rw [Shape.rowMajor_val_three, Shape.rowMajor_val_four]
    show ((b.val * 8192 + s.val) * 16 + a.val) * 64 + d.val = (b.val * 8192 + s.val) * 1024 + e.val
    omega
  exact transpose_apply [0, 2, 1, 3] (s := S8x16x8192x64) (t := S8x8192x16x64) _ _ (ix4 b s a d) (ix4 b a s d)
    (fun x => by match x with | ⟨0, _⟩ => rfl | ⟨1, _⟩ => rfl | ⟨2, _⟩ => rfl | ⟨3, _⟩ => rfl)

end Cert.ReferenceIdeal.Fox

end
-- ==== Proof.RefExpo.lean ====
module

public import proofs.«01_k».proof.Proof.RefSteps
public import Idealize.ShloMosaic.Lib.Pointwise
public import Idealize.ShloMosaic.Lib.WordCmp

@[expose] public section

set_option synthInstance.maxSize 4096
set_option maxRecDepth 16384

/-!
The reference's softmax and its product with the values, entry by entry.
-/

noncomputable section

namespace Cert.ReferenceIdeal.Fox

open Idealize.ShloMosaic Idealize.ShloMosaic.TcCoe Idealize.SL.Sem Cert.ReferenceIdeal.Gen Cert.ReferenceIdeal.Value
  Cert.KernelIdeal.Rows

/-- The literal the maximum of a row starts from. -/
theorem neg_inf : Ideal.ofBits .f32 0xFF800000#32 = (⊥ : EReal) := by simp [Ideal.ofBits, Ideal.ieee]

/-- The maximum of a row of logits, as a fold over the row. -/
theorem rowMax_apply (x : FVec Ideal S8x16x8192x8192 .f32) (b : Fin 8) (a : Fin 16) (t : Fin 8192) :
    Host.reduce (FloatOps.maximumf (F := Ideal) (φ := .f32)) x (constant (F := Ideal) S_ .f32 0xFF800000#32)
      reducesTo_S8x16x8192x8192_S8x16x8192_d3 h_S_ (ix3 b a t)
      = Finset.univ.fold max ⊥ fun j : Fin 8192 => x (ix4 b a t j) := by
  have hr : S8x16x8192x8192.Reduces [3] S8x16x8192 := by decide
  refine (Host.reduce_eq_fold_single _ x _ reducesTo_S8x16x8192x8192_S8x16x8192_d3 hr h_S_ (ix3 b a t)).trans ?_
  have h0 : (constant (F := Ideal) S_ .f32 0xFF800000#32 : Vec Ideal S_ .f32) (Shape.Idx.first h_S_) = (⊥ : EReal) := neg_inf
  rw [h0]
  refine Finset.fold_congr (op := max) fun j _ => ?_
  show x (hr.lift (ix3 b a t) j) = x (ix4 b a t j)
  congr 1
  funext y
  match y with
  | ⟨0, _⟩ => rfl
  | ⟨1, _⟩ => rfl
  | ⟨2, _⟩ => rfl
  | ⟨3, _⟩ => rfl

/-- An exponential of a logit less a value of its row, taken at least minus infinity. -/
theorem less_row_apply (x : FVec Ideal S8x16x8192x8192 .f32) (y : FVec Ideal S8x16x8192 .f32) (b : Fin 8) (a : Fin 16)
    (t s : Fin 8192) :
    Host.exp (subf x (broadcastInDim S8x16x8192x8192 ![0, 1, 2, 3] bcast_S8x16x8192x1_S8x16x8192x8192_0_1_2_3
      (broadcastInDim S8x16x8192x1 ![0, 1, 2] bcast_S8x16x8192_S8x16x8192x1_0_1_2
        (maximumf (broadcastInDim S8x16x8192 ![] bcast_S_S8x16x8192 (constant (F := Ideal) S_ .f32 0xFF800000#32)) y))))
      (ix4 b a t s) = Ideal.exp (x (ix4 b a t s) - max ⊥ (y (ix3 b a t))) := by
  pointwise
  rw [neg_inf]

/-- An exponential: of the logit less its row's maximum. -/
theorem expo_apply (x : FVec Ideal S8x16x8192x8192 .f32) (b : Fin 8) (a : Fin 16) (t s : Fin 8192) :
    expo x (ix4 b a t s)
      = Ideal.exp (x (ix4 b a t s) - max ⊥ (Finset.univ.fold max ⊥ fun j : Fin 8192 => x (ix4 b a t j))) :=
  (less_row_apply x _ b a t s).trans (congrArg (fun z => Ideal.exp (x (ix4 b a t s) - max ⊥ z)) (rowMax_apply x b a t))

/-- A result of a head: the softmax's weights times the column of the values. -/
theorem weighted_apply (e : FVec Ideal S8x16x8192x8192 .f32) (v : FVec Ideal S8x16x8192x64 .f32) (b : Fin 8) (a : Fin 16)
    (t : Fin 8192) (d : Fin 64) : weighted e v (ix4 b a t d)
      = ∑ j : Fin 8192, Ideal.div (e (ix4 b a t j)) (∑ j' : Fin 8192, e (ix4 b a t j')) * v (ix4 b a j d) := by
  pointwise [weighted]

end Cert.ReferenceIdeal.Fox

end
-- ==== Proof.RefLogits.lean ====
module

public import proofs.«01_k».proof.Proof.RefSteps
public import Idealize.ShloMosaic.Lib.Pointwise
public import Idealize.ShloMosaic.Lib.WordCmp

@[expose] public section

set_option synthInstance.maxSize 4096
set_option maxRecDepth 16384

/-!
The reference's masked logits, entry by entry.
-/

noncomputable section

namespace Cert.ReferenceIdeal.Fox

open Idealize.ShloMosaic Idealize.ShloMosaic.TcCoe Idealize.SL.Sem Cert.ReferenceIdeal.Gen Cert.ReferenceIdeal.Value
  Cert.KernelIdeal.Rows

/-- A logit: the product of a query and a key plus the difference of the gates, minus infinity above the diagonal. -/
theorem logits_apply (q k : FVec Ideal S8x16x8192x64 .f32) (g : FVec Ideal S8x16x8192 .f32) (b : Fin 8) (a : Fin 16)
    (t s : Fin 8192) : logits q k g (ix4 b a t s)
      = if s.val ≤ t.val then ((∑ d : Fin 64, q (ix4 b a t d) * k (ix4 b a s d)) + g (ix3 b a t)) - g (ix3 b a s) else ⊥ := by
  pointwise [logits]
  have hbot : id (constant (F := Ideal) S_ .f32 0xFF800000#32 : Vec Ideal S_ .f32) ix0 = (⊥ : EReal) := by
    show Ideal.ofBits .f32 0xFF800000#32 = (⊥ : EReal)
    simp [Ideal.ofBits, Ideal.ieee]
  rw [hbot]
  have hs := s.isLt
  have ht := t.isLt
  have hw : 8192 < 2 ^ (32 - 1) := by decide
  by_cases h : s.val ≤ t.val
  · rw [(WordCmp.cmpi_sle_ofNat_eq_one_iff (w := 32) (by omega) (by omega)).2 h, if_pos h]
    rfl
  · rw [(WordCmp.cmpi_sle_ofNat_eq_zero_iff (w := 32) (by omega) (by omega)).2 h, if_neg h]
    rfl

end Cert.ReferenceIdeal.Fox

end
-- ==== Proof.RefValue.lean ====
module

public import proofs.«01_k».proof.Proof.Spec
public import proofs.«01_k».proof.Proof.RefExpo
public import proofs.«01_k».proof.Proof.RefLogits

@[expose] public section

set_option synthInstance.maxSize 4096
set_option maxRecDepth 16384

/-!
What the reference's array holds, over real arguments: every element is the attention's formula.
-/

noncomputable section

namespace Cert.ReferenceIdeal.Fox

open Idealize.ShloMosaic Idealize.ShloMosaic.TcCoe Idealize.SL.Sem Cert.ReferenceIdeal.Gen Cert.ReferenceIdeal.Value
  Cert.KernelIdeal.Rows

/-- A finite sum of reals, read among the extended reals. -/
theorem coe_sum_fin {n : ℕ} (x : Fin n → ℝ) : ∑ d, ((x d : ℝ) : EReal) = ((∑ d, x d : ℝ) : EReal) := by
  induction n with
  | zero => simp
  | succ n ih => rw [Fin.sum_univ_succ, Fin.sum_univ_succ, ih, EReal.coe_add]

/-- With real arguments (the columns read by the attention being `h`, the gates `f`) an element of the reference's result is
    the attention's formula. -/
theorem chain_apply (A : FVec Ideal S65536x4096 .bf16) (B : FVec Ideal S65536x16 .f32) (h f : ℕ → ℕ → ℝ)
    (hA : ∀ (n : Fin 65536) (e : Fin 4096), e.val < 3072 → A (ix2 n e) = ((h n.val e.val : ℝ) : EReal))
    (hB : ∀ (n : Fin 65536) (x : Fin 16), B (ix2 n x) = ((f n.val x.val : ℝ) : EReal)) (n : Fin 65536) (e : Fin 1024) :
    merged (weighted (expo (logits (heads A 0 slices_S8x8192x4096_S8x8192x1024_0_0_0)
        (heads A 1024 slices_S8x8192x4096_S8x8192x1024_0_0_1024) (gates B)))
      (heads A 2048 slices_S8x8192x4096_S8x8192x1024_0_0_2048)) (ix2 n e)
      = ((Cert.Fox.value h f (n.val / 8192) (n.val % 8192) e.val : ℝ) : EReal) := by
  have hn := n.isLt
  have he := e.isLt
  obtain ⟨b, hb⟩ : ∃ b : Fin 8, b.val = n.val / 8192 := ⟨⟨n.val / 8192, by omega⟩, rfl⟩
  obtain ⟨t, ht⟩ : ∃ t : Fin 8192, t.val = n.val % 8192 := ⟨⟨n.val % 8192, by omega⟩, rfl⟩
  obtain ⟨a, ha⟩ : ∃ a : Fin 16, a.val = e.val / 64 := ⟨⟨e.val / 64, by omega⟩, rfl⟩
  obtain ⟨d, hd⟩ : ∃ d : Fin 64, d.val = e.val % 64 := ⟨⟨e.val % 64, by omega⟩, rfl⟩
  have hQ : ∀ (o : ℕ) (ho : S8x8192x4096.Slices ![0, 0, o] S8x8192x1024) (_ : o ≤ 2048) (s : Fin 8192) (x : Fin 64),
      heads A o ho (ix4 b a s x) = ((h (8192 * b.val + s.val) (o + 64 * a.val + x.val) : ℝ) : EReal) := by
    intro o ho hle s x
    have hbl := b.isLt
    have hsl := s.isLt
    have hal := a.isLt
    have hxl := x.isLt
    rw [heads_apply A o ho b a s x ⟨8192 * b.val + s.val, by omega⟩ ⟨o + 64 * a.val + x.val, by omega⟩ rfl rfl]
    exact hA _ _ (by show o + 64 * a.val + x.val < 3072; omega)
  have hG : ∀ s : Fin 8192, gates B (ix3 b a s) = ((f (8192 * b.val + s.val) a.val : ℝ) : EReal) := by
    intro s
    have hbl := b.isLt
    have hsl := s.isLt
    rw [gates_apply B b a s ⟨8192 * b.val + s.val, by omega⟩ rfl]
    exact hB _ _
  rw [merged_apply _ n e b a t d (by omega) (by omega), weighted_apply]
  simp only [expo_apply]
  rw [← hb, ← ht]
  unfold Cert.Fox.value
  refine softmax_row (N := 8192) _ _ (t.val + 1) (Nat.succ_pos _) (by have := t.isLt; omega) _ _ ?_ ?_
  · intro s
    rw [logits_apply]
    by_cases hst : s.val ≤ t.val
    · rw [if_pos hst, if_pos (Nat.lt_succ_of_le hst), hG, hG]
      simp only [hQ 0 _ (by omega), hQ 1024 _ (by omega), ← EReal.coe_mul]
      rw [coe_sum_fin, ← EReal.coe_add, ← EReal.coe_sub]
      congr 1
      unfold Cert.Fox.score
      rw [← ha]
      simp only [Nat.zero_add]
      ring
    · rw [if_neg hst, if_neg (by omega)]
  · intro s
    rw [hQ 2048 _ (by omega)]
    congr 2
    omega

end Cert.ReferenceIdeal.Fox

end
-- ==== Proof.NormSpec.lean ====
module

public import Idealize.ShloMosaic.Lib.Pointwise

@[expose] public section

set_option synthInstance.maxSize 4096
set_option maxRecDepth 16384

/-!
The output projection with its layer norm, as a formula on extended reals. `scale`, `width` and `eps` are the residual's factor,
the number of columns and the number under the square root, each the value of its printed word.
-/

noncomputable section

namespace Cert.NormSpec

open Idealize.ShloMosaic

/-- The factor of the residual stream. -/
def scale : EReal := Ideal.ofBits FTy.f32 0x3FD744FD#32
/-- The number of columns. -/
def width : EReal := Ideal.ofBits FTy.f32 0x44800000#32
/-- The number added to the variance. -/
def eps : EReal := Ideal.ofBits FTy.f32 0x3727C5AC#32

/-- One entry of the row to normalise: the scaled residual `x` plus the row `o`, gated by `z`, times the column `w`. -/
def resid (x : EReal) (o z w : Fin 1024 → EReal) : EReal :=
  scale * x + ∑ k, o k * (z k * Ideal.logistic (z k)) * w k

/-- The mean of a row. -/
def mean (r : Fin 1024 → EReal) : EReal := Ideal.div (∑ j, r j) width

/-- Entry `e` of the normalised row `r`, with gain `g` and offset `b`. -/
def norm (r : Fin 1024 → EReal) (g b : EReal) (e : Fin 1024) : EReal :=
  (r e - mean r) * Ideal.rsqrt (mean (fun j => (r j - mean r) * (r j - mean r)) + eps) * g + b

/-- The entry at row `n` and column `e` of the layer's output. -/
def value (o : Fin 65536 → Fin 1024 → EReal) (h : Fin 65536 → Fin 4096 → EReal) (x : Fin 65536 → Fin 1024 → EReal)
    (w : Fin 1024 → Fin 1024 → EReal) (g b : Fin 1024 → EReal) (n : Fin 65536) (e : Fin 1024) : EReal :=
  norm (fun j => resid (x n j) (o n) (fun k => h n ⟨3072 + k.val, by omega⟩) (fun k => w k j)) (g e) (b e) e

end Cert.NormSpec

end
-- ==== Proof.NormBlock.lean ====
module

public import proofs.«01_k».proof.Proof.NormSpec
public import proofs.«01_k».proof.Proof.Gen.NormIdeal.Frame
public import Idealize.ShloMosaic.Lib.Pipeline.Value

@[expose] public section

set_option synthInstance.maxSize 4096
set_option maxRecDepth 16384

/-!
What one point of the grid stores: its 512 rows of the layer's output.
-/

noncomputable section

namespace Cert.NormIdeal.Block

open Idealize.ShloMosaic Cert.NormIdeal.Gen

/-- The value stored, entry by entry. -/
theorem pay_apply (z o : FVec Ideal S512x1024 .bf16) (w : FVec Ideal S1024x1024 .bf16) (x : FVec Ideal S512x1024 .f32)
    (g b : FVec Ideal S1x1024 .f32) (r : Fin 512) (e : Fin 1024) :
    k0_pay1 (F := Ideal) z o w x g b (ix2 r e)
      = NormSpec.norm (fun j => NormSpec.resid (x (ix2 r j)) (fun k => o (ix2 r k)) (fun k => z (ix2 r k)) (fun k => w (ix2 k j)))
          (g (ix2 0 e)) (b (ix2 0 e)) e := by
  unfold NormSpec.norm NormSpec.mean NormSpec.resid NormSpec.scale NormSpec.width NormSpec.eps
  pointwise [k0_pay1]

/-- The block stored, from the blocks read. -/
theorem out_eq (x0 x1 : Vec Ideal S512x1024 .bf16) (x2 : Vec Ideal S512x1024 .f32) (x3 : Vec Ideal S1024x1024 .bf16)
    (x4 x5 : Vec Ideal S1x1024 .f32) : out0_6 x0 x1 x2 x3 x4 x5 = k0_pay1 x1 x0 x3 x2 x4 x5 := by
  have hz : (![0, 0] : Fin 2 → ℕ) = fun _ => 0 := by funext a; match a with | ⟨0, _⟩ => rfl | ⟨1, _⟩ => rfl
  unfold out0_6
  refine (View.canon_unit_zero hz _ _).trans ?_
  rw [View.ld_unit_zero hz, View.ld_unit_zero hz, View.ld_unit_zero hz, View.ld_unit_zero hz, View.ld_unit_zero hz,
    View.ld_unit_zero hz]

end Cert.NormIdeal.Block

end
-- ==== Proof.NormArray.lean ====
module

public import proofs.«01_k».proof.Proof.NormBlock
public import proofs.«01_k».proof.Proof.Gen.NormIdeal.Value

@[expose] public section

set_option synthInstance.maxSize 4096
set_option maxRecDepth 16384

/-!
The result array of the output projection's kernel: every element is the layer's formula.
-/

noncomputable section

namespace Cert.NormIdeal.Array

open Idealize.ShloMosaic Idealize.ShloMosaic.TcCoe Idealize.SL.Sem Cert.NormIdeal.Gen Cert.NormIdeal.Value
  Cert.NormIdeal.Block

variable (m : (ℓ : Loc nD τ sig) → Buf (Elt Ideal) ℓ) (c : Dev nD)

/-- Where the attention block lies. -/
theorem idx0 : ∀ t : Fin grid0.N, win0_0.index t 0 = t.val ∧ win0_0.index t 1 = 0 := by decide +kernel
/-- Where the gate block lies. -/
theorem idx1 : ∀ t : Fin grid0.N, win0_1.index t 0 = t.val ∧ win0_1.index t 1 = 3 := by decide +kernel
/-- Where the residual block lies. -/
theorem idx2 : ∀ t : Fin grid0.N, win0_2.index t 0 = t.val ∧ win0_2.index t 1 = 0 := by decide +kernel
/-- Where the weight block lies. -/
theorem idx3 : ∀ t : Fin grid0.N, win0_3.index t 0 = 0 ∧ win0_3.index t 1 = 0 := by decide +kernel
/-- Where the gain block lies. -/
theorem idx4 : ∀ t : Fin grid0.N, win0_4.index t 0 = 0 ∧ win0_4.index t 1 = 0 := by decide +kernel
/-- Where the offset block lies. -/
theorem idx5 : ∀ t : Fin grid0.N, win0_5.index t 0 = 0 ∧ win0_5.index t 1 = 0 := by decide +kernel
/-- Where the result block lies. -/
theorem idx6 : ∀ t : Fin grid0.N, win0_6.index t 0 = t.val ∧ win0_6.index t 1 = 0 := by decide +kernel

/-- The weights the host hands the kernel are the argument's. -/
theorem weight_eq : V m c main_v0 = (truncf .bf16 (m ((c : Thread nD τ).loc main_arg3) : FVec Ideal S1024x1024 .f32) bitsLt_bf16_f32
    : FVec Ideal S1024x1024 .bf16) := by
  unfold V hostOps0
  after_results_simp

/-- The gains the host hands the kernel, as a row. -/
theorem gain_eq : V m c main_v1 = shapeCast S1x1024 (m ((c : Thread nD τ).loc main_arg4)) shapeCasts_S1024_S1x1024 := by
  unfold V hostOps0
  after_results_simp
  rfl

/-- The offsets the host hands the kernel, as a row. -/
theorem offset_eq : V m c main_v2 = shapeCast S1x1024 (m ((c : Thread nD τ).loc main_arg5)) shapeCasts_S1024_S1x1024 := by
  unfold V hostOps0
  after_results_simp
  rfl

/-- A row of 1024 entries, read back from its form with one row. -/
theorem row_apply (v : Vec Ideal S1024 .f32) (e : Fin 1024) :
    (shapeCast S1x1024 v shapeCasts_S1024_S1x1024) (ix2 0 e) = v (ix1 e) := by
  refine shapeCast_apply (s := S1024) (t := S1x1024) _ _ _ _ ?_
  rw [Shape.rowMajor_val_one, Shape.rowMajor_val_two]
  show e.val = 0 * 1024 + e.val
  omega

/-- The grid has 128 points, of 512 rows each. -/
theorem row_lt (t : Fin grid0.N) (r : Fin 512) : 512 * t.val + r.val < 65536 := by
  have h : t.val < 128 := t.isLt
  omega

/-- The block of the attention's output. -/
theorem o_apply (t : Fin grid0.N) (r : Fin 512) (k : Fin 1024) :
    (iblk m c 0 t : Vec Ideal S512x1024 .bf16) (ix2 r k) = ((m ((c : Thread nD τ).loc main_arg0) : Vec Ideal S65536x1024 .bf16) (ix2 ⟨512 * t.val + r.val, row_lt t r⟩ k)) := by
  unfold iblk
  rw [View.read_apply]
  show V m c main_arg0 _ = _
  rw [V_main_arg0]
  congr 1
  funext a
  apply Fin.ext
  match a with
  | ⟨0, _⟩ => show win0_0.index t 0 * 512 + 1 * r.val = _; rw [(idx0 t).1]; show _ = 512 * t.val + r.val; omega
  | ⟨1, _⟩ => show win0_0.index t 1 * 1024 + 1 * k.val = _; rw [(idx0 t).2]; show _ = k.val; omega

/-- The block of the output gate. -/
theorem z_apply (t : Fin grid0.N) (r : Fin 512) (k : Fin 1024) :
    (iblk m c 1 t : Vec Ideal S512x1024 .bf16) (ix2 r k) = ((m ((c : Thread nD τ).loc main_arg1) : Vec Ideal S65536x4096 .bf16) (ix2 ⟨512 * t.val + r.val, row_lt t r⟩ ⟨3072 + k.val, by omega⟩)) := by
  unfold iblk
  rw [View.read_apply]
  show V m c main_arg1 _ = _
  rw [V_main_arg1]
  congr 1
  funext a
  apply Fin.ext
  match a with
  | ⟨0, _⟩ => show win0_1.index t 0 * 512 + 1 * r.val = _; rw [(idx1 t).1]; show _ = 512 * t.val + r.val; omega
  | ⟨1, _⟩ => show win0_1.index t 1 * 1024 + 1 * k.val = _; rw [(idx1 t).2]; show _ = 3072 + k.val; omega

/-- The block of the residual stream. -/
theorem x_apply (t : Fin grid0.N) (r : Fin 512) (k : Fin 1024) :
    (iblk m c 2 t : Vec Ideal S512x1024 .f32) (ix2 r k) = ((m ((c : Thread nD τ).loc main_arg2) : Vec Ideal S65536x1024 .f32) (ix2 ⟨512 * t.val + r.val, row_lt t r⟩ k)) := by
  unfold iblk
  rw [View.read_apply]
  show V m c main_arg2 _ = _
  rw [V_main_arg2]
  congr 1
  funext a
  apply Fin.ext
  match a with
  | ⟨0, _⟩ => show win0_2.index t 0 * 512 + 1 * r.val = _; rw [(idx2 t).1]; show _ = 512 * t.val + r.val; omega
  | ⟨1, _⟩ => show win0_2.index t 1 * 1024 + 1 * k.val = _; rw [(idx2 t).2]; show _ = k.val; omega

/-- The weights. -/
theorem w_apply (t : Fin grid0.N) (k e : Fin 1024) :
    (iblk m c 3 t : Vec Ideal S1024x1024 .bf16) (ix2 k e) = ((m ((c : Thread nD τ).loc main_arg3) : Vec Ideal S1024x1024 .f32) (ix2 k e)) := by
  unfold iblk
  rw [View.read_apply]
  show V m c main_v0 _ = _
  rw [weight_eq]
  show (m ((c : Thread nD τ).loc main_arg3) : Vec Ideal S1024x1024 .f32) _ = _
  congr 1
  funext a
  apply Fin.ext
  match a with
  | ⟨0, _⟩ => show win0_3.index t 0 * 1024 + 1 * k.val = _; rw [(idx3 t).1]; show _ = k.val; omega
  | ⟨1, _⟩ => show win0_3.index t 1 * 1024 + 1 * e.val = _; rw [(idx3 t).2]; show _ = e.val; omega

/-- The gains. -/
theorem gain_apply (t : Fin grid0.N) (e : Fin 1024) :
    (iblk m c 4 t : Vec Ideal S1x1024 .f32) (ix2 0 e) = (m ((c : Thread nD τ).loc main_arg4) : Vec Ideal S1024 .f32) (ix1 e) := by
  refine Eq.trans ?_ (row_apply _ e)
  rw [← gain_eq]
  unfold iblk
  rw [View.read_apply]
  show V m c main_v1 _ = _
  congr 1
  funext a
  apply Fin.ext
  match a with
  | ⟨0, _⟩ => show win0_4.index t 0 * 1 + 1 * 0 = 0; rw [(idx4 t).1]
  | ⟨1, _⟩ => show win0_4.index t 1 * 1024 + 1 * e.val = e.val; rw [(idx4 t).2]; omega

/-- The offsets. -/
theorem offset_apply (t : Fin grid0.N) (e : Fin 1024) :
    (iblk m c 5 t : Vec Ideal S1x1024 .f32) (ix2 0 e) = (m ((c : Thread nD τ).loc main_arg5) : Vec Ideal S1024 .f32) (ix1 e) := by
  refine Eq.trans ?_ (row_apply _ e)
  rw [← offset_eq]
  unfold iblk
  rw [View.read_apply]
  show V m c main_v2 _ = _
  congr 1
  funext a
  apply Fin.ext
  match a with
  | ⟨0, _⟩ => show win0_5.index t 0 * 1 + 1 * 0 = 0; rw [(idx5 t).1]
  | ⟨1, _⟩ => show win0_5.index t 1 * 1024 + 1 * e.val = e.val; rw [(idx5 t).2]; omega

/-- The layer's output on the arguments. -/
def result : Buf (Elt Ideal) ((c : Thread nD τ).loc main_v3) := fun j : S65536x1024.Idx =>
  NormSpec.value (fun n k => (m ((c : Thread nD τ).loc main_arg0) : Vec Ideal S65536x1024 .bf16) (ix2 n k)) (fun n k => (m ((c : Thread nD τ).loc main_arg1) : Vec Ideal S65536x4096 .bf16) (ix2 n k))
    (fun n k => (m ((c : Thread nD τ).loc main_arg2) : Vec Ideal S65536x1024 .f32) (ix2 n k)) (fun k e => (m ((c : Thread nD τ).loc main_arg3) : Vec Ideal S1024x1024 .f32) (ix2 k e))
    (fun e => (m ((c : Thread nD τ).loc main_arg4) : Vec Ideal S1024 .f32) (ix1 e)) (fun e => (m ((c : Thread nD τ).loc main_arg5) : Vec Ideal S1024 .f32) (ix1 e)) (j 0) (j 1)

/-- WHAT A POINT WRITES BACK is its block of the result. -/
theorem flushed_eq (t : Fin cfg0.N) (_ : (cfg0.win 6).flush t = true) :
    (dats m 0 c).flushed 6 t = ((cfg0.win 6).blk t).view.read (Elt Ideal) (result m c) := by
  refine (flushed6 m c t).trans ?_
  refine funext fun (j : S512x1024.Idx) => ?_
  rw [View.read_apply]
  obtain ⟨r, e, rfl⟩ : ∃ (r : Fin 512) (e : Fin 1024), j = ix2 r e := ⟨j 0, j 1, by
    funext a; match a with | ⟨0, _⟩ => rfl | ⟨1, _⟩ => rfl⟩
  have e0 : (((cfg0.win 6).blk t).view.emb (ix2 r e) : S65536x1024.Idx) = ix2 ⟨512 * t.val + r.val, row_lt t r⟩ e := by
    funext a
    apply Fin.ext
    match a with
    | ⟨0, _⟩ => show win0_6.index t 0 * 512 + 1 * r.val = 512 * t.val + r.val; rw [(idx6 t).1]; omega
    | ⟨1, _⟩ => show win0_6.index t 1 * 1024 + 1 * e.val = e.val; rw [(idx6 t).2]; omega
  show out0_6 (iblk m c 0 t) (iblk m c 1 t) (iblk m c 2 t) (iblk m c 3 t) (iblk m c 4 t) (iblk m c 5 t) (ix2 r e)
    = result m c (((cfg0.win 6).blk t).view.emb (ix2 r e) : S65536x1024.Idx)
  rw [e0, out_eq]
  refine (pay_apply _ _ _ _ _ _ r e).trans ?_
  unfold result NormSpec.value
  simp only [o_apply, z_apply, x_apply, w_apply, gain_apply, offset_apply]
  rfl

/-- THE RESULT ARRAY ends holding the layer's output. -/
theorem final : (dats m 0 c).arrAt 6 cfg0.N = result m c :=
  (dats m 0 c).arrAt_eq_of_cover 6 (result m c) (flushed_eq m c) fun i => by
    have h0 : (i 0 : ℕ) < 65536 := (i 0).isLt
    have h1 : (i 1 : ℕ) < 1024 := (i 1).isLt
    obtain ⟨t, ht⟩ : ∃ t : Fin grid0.N, t.val = (i 0 : ℕ) / 512 := ⟨⟨(i 0 : ℕ) / 512, by show _ < 128; omega⟩, rfl⟩
    refine ⟨t, flush0_6 t, ?_⟩
    show i ∈ ((View.whole main_v3).slice (win0_6.rect t)).set
    rw [View.set_slice_whole, Rect.mem_set_unit]
    intro a
    match a with
    | ⟨0, _⟩ =>
      show win0_6.index t 0 * 512 ≤ (i 0 : ℕ) ∧ (i 0 : ℕ) < win0_6.index t 0 * 512 + 512
      rw [(idx6 t).1]; omega
    | ⟨1, _⟩ =>
      show win0_6.index t 1 * 1024 ≤ (i 1 : ℕ) ∧ (i 1 : ℕ) < win0_6.index t 1 * 1024 + 1024
      rw [(idx6 t).2]; omega

end Cert.NormIdeal.Array

end
-- ==== Proof.NormRef.lean ====
module

public import proofs.«01_k».proof.Proof.NormSpec
public import proofs.«01_k».proof.Proof.Gen.NormRefIdeal.Run

@[expose] public section

set_option synthInstance.maxSize 4096
set_option maxRecDepth 16384

/-!
The reference of the output projection, step by step: every element is the layer's formula.
-/

noncomputable section

namespace Cert.NormRefIdeal.Steps

open Idealize.ShloMosaic Idealize.ShloMosaic.TcCoe Idealize.SL.Sem Cert.NormRefIdeal.Gen Cert.NormRefIdeal.Value

/-- The residual stream plus the gated output's projection. -/
def resid (o : FVec Ideal S65536x1024 .bf16) (h : FVec Ideal S65536x4096 .bf16) (x : FVec Ideal S65536x1024 .f32)
    (w : FVec Ideal S1024x1024 .f32) : FVec Ideal S65536x1024 .f32 :=
  (addf (mulf (broadcastInDim S65536x1024 ![] bcast_S_S65536x1024 (constant S_ .f32 0x3FD744FD#32)) x)
    (Host.dotGeneral dot_S65536x1024_S1024x1024_S65536x1024_1_0_0_1_n_n none (mulf (extf .f32 o bitsLt_bf16_f32)
      (mulf (extractStridedSlice S65536x1024 ![0, 3072] (extf .f32 h bitsLt_bf16_f32) slices_S65536x4096_S65536x1024_0_3072)
        (Host.divf (broadcastInDim S65536x1024 ![] bcast_S_S65536x1024 (constant S_ .f32 0x3F800000#32))
          (addf (broadcastInDim S65536x1024 ![] bcast_S_S65536x1024 (constant S_ .f32 0x3F800000#32))
            (Host.exp (Host.negf (extractStridedSlice S65536x1024 ![0, 3072] (extf .f32 h bitsLt_bf16_f32)
              slices_S65536x4096_S65536x1024_0_3072))))))) w))

/-- The mean of each row. -/
def mean (r : FVec Ideal S65536x1024 .f32) : FVec Ideal S65536x1 .f32 :=
  Host.divf (broadcastInDim S65536x1 ![0] bcast_S65536_S65536x1_0 (Host.reduceAdd r (constant S_ .f32 0x00000000#32)
    reducesTo_S65536x1024_S65536_d1 h_S_)) (broadcastInDim S65536x1 ![] bcast_S_S65536x1 (constant S_ .f32 0x44800000#32))

/-- Each row less its mean. -/
def centred (r : FVec Ideal S65536x1024 .f32) : FVec Ideal S65536x1024 .f32 :=
  subf r (broadcastInDim S65536x1024 ![0, 1] bcast_S65536x1_S65536x1024_0_1 (mean r))

/-- The centred rows over their deviations. -/
def scaled (r : FVec Ideal S65536x1024 .f32) : FVec Ideal S65536x1024 .f32 :=
  mulf (centred r) (broadcastInDim S65536x1024 ![0, 1] bcast_S65536x1_S65536x1024_0_1
    (Host.rsqrt (addf (mean (mulf (centred r) (centred r))) (broadcastInDim S65536x1 ![] bcast_S_S65536x1 (constant S_ .f32 0x3727C5AC#32)))))

/-- The rows times the gains, plus the offsets. -/
def affine (r : FVec Ideal S65536x1024 .f32) (g b : FVec Ideal S1024 .f32) : FVec Ideal S65536x1024 .f32 :=
  addf (mulf r (broadcastInDim S65536x1024 ![0, 1] bcast_S1x1024_S65536x1024_0_1 (broadcastInDim S1x1024 ![1] bcast_S1024_S1x1024_1 g)))
    (broadcastInDim S65536x1024 ![0, 1] bcast_S1x1024_S65536x1024_0_1 (broadcastInDim S1x1024 ![1] bcast_S1024_S1x1024_1 b))

/-- The reference's result, in these steps. -/
theorem res_eq (m : (ℓ : Loc nD τ sig) → Buf (Elt Ideal) ℓ) (c : Dev nD) : res_main_v35 m c
    = affine (scaled (resid (m ((c.tc : Thread nD τ).loc main_arg0)) (m ((c.tc : Thread nD τ).loc main_arg1))
        (m ((c.tc : Thread nD τ).loc main_arg2)) (m ((c.tc : Thread nD τ).loc main_arg3))))
      (m ((c.tc : Thread nD τ).loc main_arg4)) (m ((c.tc : Thread nD τ).loc main_arg5)) := rfl

/-- An entry of the row to normalise. -/
theorem resid_apply (o : FVec Ideal S65536x1024 .bf16) (h : FVec Ideal S65536x4096 .bf16) (x : FVec Ideal S65536x1024 .f32)
    (w : FVec Ideal S1024x1024 .f32) (n : Fin 65536) (e : Fin 1024) : resid o h x w (ix2 n e)
      = NormSpec.resid (x (ix2 n e)) (fun k => o (ix2 n k)) (fun k => h (ix2 n ⟨3072 + k.val, by omega⟩)) (fun k => w (ix2 k e)) := by
  unfold NormSpec.resid NormSpec.scale Ideal.logistic
  pointwise [resid]

/-- The mean of a row. -/
theorem mean_apply (r : FVec Ideal S65536x1024 .f32) (n : Fin 65536) : mean r (ix2 n 0) = NormSpec.mean (fun j => r (ix2 n j)) := by
  unfold NormSpec.mean NormSpec.width
  pointwise [mean]

/-- An entry less its row's mean. -/
theorem centred_apply (r : FVec Ideal S65536x1024 .f32) (n : Fin 65536) (e : Fin 1024) :
    centred r (ix2 n e) = r (ix2 n e) - NormSpec.mean (fun j => r (ix2 n j)) := by
  rw [← mean_apply]
  pointwise [centred]

/-- A centred entry over its row's deviation, the mean square given. -/
theorem over_apply (a : FVec Ideal S65536x1024 .f32) (v : FVec Ideal S65536x1 .f32) (n : Fin 65536) (e : Fin 1024) :
    mulf a (broadcastInDim S65536x1024 ![0, 1] bcast_S65536x1_S65536x1024_0_1
      (Host.rsqrt (addf v (broadcastInDim S65536x1 ![] bcast_S_S65536x1 (constant S_ .f32 0x3727C5AC#32))))) (ix2 n e)
      = a (ix2 n e) * Ideal.rsqrt (v (ix2 n 0) + NormSpec.eps) := by
  unfold NormSpec.eps
  pointwise

/-- An entry of the affine map. -/
theorem affine_apply (r : FVec Ideal S65536x1024 .f32) (g b : FVec Ideal S1024 .f32) (n : Fin 65536) (e : Fin 1024) :
    affine r g b (ix2 n e) = r (ix2 n e) * g (ix1 e) + b (ix1 e) := by
  pointwise [affine]

/-- AN ENTRY OF THE REFERENCE'S RESULT is the layer's formula. -/
theorem res_apply (m : (ℓ : Loc nD τ sig) → Buf (Elt Ideal) ℓ) (c : Dev nD) (n : Fin 65536) (e : Fin 1024) :
    (res_main_v35 m c : Vec Ideal S65536x1024 .f32) (ix2 n e)
      = NormSpec.value (fun n k => (m ((c.tc : Thread nD τ).loc main_arg0) : Vec Ideal S65536x1024 .bf16) (ix2 n k)) (fun n k => (m ((c.tc : Thread nD τ).loc main_arg1) : Vec Ideal S65536x4096 .bf16) (ix2 n k)) (fun n k => (m ((c.tc : Thread nD τ).loc main_arg2) : Vec Ideal S65536x1024 .f32) (ix2 n k)) (fun k e => (m ((c.tc : Thread nD τ).loc main_arg3) : Vec Ideal S1024x1024 .f32) (ix2 k e))
          (fun e => (m ((c.tc : Thread nD τ).loc main_arg4) : Vec Ideal S1024 .f32) (ix1 e)) (fun e => (m ((c.tc : Thread nD τ).loc main_arg5) : Vec Ideal S1024 .f32) (ix1 e)) n e := by
  rw [res_eq]
  refine (affine_apply _ _ _ n e).trans ?_
  unfold NormSpec.value NormSpec.norm
  refine congrArg₂ (· + ·) (congrArg₂ (· * ·) ?_ rfl) rfl
  unfold scaled
  refine (over_apply _ _ n e).trans ?_
  have hc : ∀ j : Fin 1024, centred (resid (m ((c.tc : Thread nD τ).loc main_arg0) : Vec Ideal S65536x1024 .bf16) (m ((c.tc : Thread nD τ).loc main_arg1) : Vec Ideal S65536x4096 .bf16) (m ((c.tc : Thread nD τ).loc main_arg2) : Vec Ideal S65536x1024 .f32) (m ((c.tc : Thread nD τ).loc main_arg3) : Vec Ideal S1024x1024 .f32)) (ix2 n j) = _ := fun j => centred_apply _ n j
  simp only [resid_apply] at hc
  refine congrArg₂ (· * ·) (hc e) (congrArg Ideal.rsqrt (congrArg₂ (· + ·) ?_ rfl))
  refine (mean_apply _ n).trans (congrArg NormSpec.mean (funext fun j => ?_))
  exact congrArg₂ (· * ·) (hc j) (hc j)

end Cert.NormRefIdeal.Steps

end
-- ==== Proof.ProjSpec.lean ====
module

public import Idealize.ShloMosaic.Lib.Pointwise

@[expose] public section

set_option synthInstance.maxSize 4096
set_option maxRecDepth 16384

/-!
The input projection, as a formula on extended reals: the product of the activations and the weights, the queries' columns (the
first 1024) times one eighth.
-/

noncomputable section

namespace Cert.ProjSpec

open Idealize.ShloMosaic

/-- The factor of the queries, the value of its printed word. -/
def eighth : EReal := Ideal.ofBits FTy.f32 0x3E000000#32

/-- It is one eighth. -/
theorem eighth_eq : eighth = ((1 / 8 : ℝ) : EReal) := by
  unfold eighth
  simp [Ideal.ofBits, Ideal.ieee, -EReal.coe_mul]
  norm_num

/-- The factor of a column of weights. -/
def factor (e : Fin 4096) : EReal := if e.val < 1024 then eighth else 1

/-- The entry at row `n` and column `e` of the projection. -/
def value (x : Fin 65536 → Fin 1024 → EReal) (w : Fin 1024 → Fin 4096 → EReal) (n : Fin 65536) (e : Fin 4096) : EReal :=
  if e.val < 1024 then (∑ k, x n k * w k e) * eighth else ∑ k, x n k * w k e

/-- A sum of extended reals times one eighth is the sum of their eighths. -/
theorem sum_mul {ι : Type} (s : Finset ι) (f : ι → EReal) : (∑ k ∈ s, f k) * eighth = ∑ k ∈ s, f k * eighth := by
  classical
  induction s using Finset.induction_on with
  | empty => simp
  | insert a s ha ih =>
    rw [Finset.sum_insert ha, Finset.sum_insert ha, ← ih]
    refine EReal.right_distrib_of_nonneg_of_ne_top ?_ ?_ _ _
    · rw [eighth_eq]; exact_mod_cast (by norm_num : (0 : ℝ) ≤ 1 / 8)
    · rw [eighth_eq]; exact EReal.coe_ne_top _

/-- The product with scaled weights is the formula. -/
theorem scaled_eq (x : Fin 65536 → Fin 1024 → EReal) (w : Fin 1024 → Fin 4096 → EReal) (n : Fin 65536) (e : Fin 4096) :
    ∑ k, x n k * (w k e * factor e) = value x w n e := by
  unfold value factor
  by_cases h : e.val < 1024
  · simp only [if_pos h, sum_mul]
    exact Finset.sum_congr rfl fun k _ => (mul_assoc _ _ _).symm
  · simp only [if_neg h, mul_one]

end Cert.ProjSpec

end
-- ==== Proof.ProjBlock.lean ====
module

public import proofs.«01_k».proof.Proof.Gen.ProjIdeal.Frame
public import Idealize.ShloMosaic.Lib.Pointwise
public import Idealize.ShloMosaic.Lib.Pipeline.Value

@[expose] public section

set_option synthInstance.maxSize 4096
set_option maxRecDepth 16384

/-!
What one point of the grid stores: its 512 rows of the projection, in eight pieces of 512 columns.
-/

noncomputable section

namespace Cert.ProjIdeal.Block

open Idealize.ShloMosaic Cert.ProjIdeal.Gen

/-- A tile of the product. -/
theorem tile_apply (x : FVec Ideal S512x1024 .f32) (w : FVec Ideal S1024x512 .bf16) (r e : Fin 512) :
    k0_pay5 (F := Ideal) x w (ix2 r e) = ∑ k : Fin 1024, x (ix2 r k) * w (ix2 k e) := by
  pointwise [k0_pay5, k0_pay4]

/-- The product of a block of rows and all the weights. -/
def prod (x0 : Vec Ideal S512x1024 .f32) (x1 : Vec Ideal S1024x4096 .bf16) : Vec Ideal S512x4096 .bf16 :=
  fun j => ∑ k : Fin 1024, (x0 (ix2 (j 0) k) : EReal) * x1 (ix2 k (j 1))

/-- A piece is its 512 columns of the product. -/
theorem piece (o : ℕ) (inb : ∀ a, (![0, o] : Fin 2 → ℕ) a + S1024x512.size a ≤ S1024x4096.size a)
    (inb' : ∀ a, (![0, o] : Fin 2 → ℕ) a + S512x512.size a ≤ S512x4096.size a)
    (x0 : Vec Ideal S512x1024 .f32) (x1 : Vec Ideal S1024x4096 .bf16) (x : S512x512.Idx) :
    k0_pay5 (F := Ideal) x0 (View.ld x1 (Rect.unit (s := S1024x4096) ![0, o] S1024x512.size inb)) x
      = prod x0 x1 ((Rect.unit (s := S512x4096) ![0, o] S512x512.size inb').emb x) := by
  obtain ⟨r, e, rfl⟩ : ∃ r e : Fin 512, x = ix2 r e := ⟨x 0, x 1, by
    funext a; match a with | ⟨0, _⟩ => rfl | ⟨1, _⟩ => rfl⟩
  refine (tile_apply _ _ r e).trans ?_
  unfold prod
  refine Finset.sum_congr rfl fun k _ => ?_
  refine congrArg₂ (fun a b : EReal => a * b) ?_ ?_
  · refine congrArg x0 ?_
    funext a
    apply Fin.ext
    match a with
    | ⟨0, _⟩ => show r.val = 0 + 1 * r.val; omega
    | ⟨1, _⟩ => rfl
  · show x1 _ = x1 _
    refine congrArg x1 ?_
    funext a
    apply Fin.ext
    match a with
    | ⟨0, _⟩ => show 0 + 1 * k.val = k.val; omega
    | ⟨1, _⟩ => rfl

/-- A piece: 512 columns and what is stored there. -/
def tile (x0 : Vec Ideal S512x1024 .f32) (x1 : Vec Ideal S1024x4096 .bf16) (o : ℕ)
    (inb : ∀ a, (![0, o] : Fin 2 → ℕ) a + S1024x512.size a ≤ S1024x4096.size a)
    (inb' : ∀ a, (![0, o] : Fin 2 → ℕ) a + S512x512.size a ≤ S512x4096.size a) : View.Piece (Elt Ideal) S512x4096 .bf16 :=
  ⟨Rect.unit (s := S512x4096) ![0, o] S512x512.size inb',
    k0_pay5 (F := Ideal) x0 (View.ld x1 (Rect.unit (s := S1024x4096) ![0, o] S1024x512.size inb))⟩

/-- The block stored, as its eight pieces. -/
theorem out_tiles (x0 : Vec Ideal S512x1024 .f32) (x1 : Vec Ideal S1024x4096 .bf16) : out0_2 x0 x1
    = View.canon [tile x0 x1 3584 inb_S1024x4096_S1024x512_0_3584 inb_S512x4096_S512x512_0_3584,
      tile x0 x1 3072 inb_S1024x4096_S1024x512_0_3072 inb_S512x4096_S512x512_0_3072,
      tile x0 x1 2560 inb_S1024x4096_S1024x512_0_2560 inb_S512x4096_S512x512_0_2560,
      tile x0 x1 2048 inb_S1024x4096_S1024x512_0_2048 inb_S512x4096_S512x512_0_2048,
      tile x0 x1 1536 inb_S1024x4096_S1024x512_0_1536 inb_S512x4096_S512x512_0_1536,
      tile x0 x1 1024 inb_S1024x4096_S1024x512_0_1024 inb_S512x4096_S512x512_0_1024,
      tile x0 x1 512 inb_S1024x4096_S1024x512_0_512 inb_S512x4096_S512x512_0_512,
      tile x0 x1 0 inb_S1024x4096_S1024x512_0_0 inb_S512x4096_S512x512_0_0] := by
  have hz : (![0, 0] : Fin 2 → ℕ) = fun _ => 0 := by funext a; match a with | ⟨0, _⟩ => rfl | ⟨1, _⟩ => rfl
  unfold out0_2 k0_pay10
  rw [View.ld_unit_zero hz]
  rfl

/-- THE BLOCK STORED is the product of the blocks read. -/
theorem out_eq (x0 : Vec Ideal S512x1024 .f32) (x1 : Vec Ideal S1024x4096 .bf16) : out0_2 x0 x1 = prod x0 x1 := by
  funext y
  have h0 : (y 0 : ℕ) < 512 := (y 0).isLt
  have h1 : (y 1 : ℕ) < 4096 := (y 1).isLt
  have key : ∀ (o : ℕ) (inb : ∀ a, (![0, o] : Fin 2 → ℕ) a + S512x512.size a ≤ S512x4096.size a), o ≤ (y 1 : ℕ) → (y 1 : ℕ) < o + 512 →
      y ∈ (Rect.unit (s := S512x4096) ![0, o] S512x512.size inb).set := fun o inb hl hu => by
    rw [Rect.mem_set_unit]
    intro a
    match a with
    | ⟨0, _⟩ => show 0 ≤ (y 0 : ℕ) ∧ (y 0 : ℕ) < 0 + 512; omega
    | ⟨1, _⟩ => exact ⟨hl, hu⟩
  rw [out_tiles]
  refine View.canon_apply_of_pieces (prod x0 x1) _ (fun p hp x => ?_) y ?_
  · simp only [List.mem_cons, List.not_mem_nil, or_false] at hp
    rcases hp with rfl | rfl | rfl | rfl | rfl | rfl | rfl | rfl
    · exact piece 3584 inb_S1024x4096_S1024x512_0_3584 inb_S512x4096_S512x512_0_3584 x0 x1 x
    · exact piece 3072 inb_S1024x4096_S1024x512_0_3072 inb_S512x4096_S512x512_0_3072 x0 x1 x
    · exact piece 2560 inb_S1024x4096_S1024x512_0_2560 inb_S512x4096_S512x512_0_2560 x0 x1 x
    · exact piece 2048 inb_S1024x4096_S1024x512_0_2048 inb_S512x4096_S512x512_0_2048 x0 x1 x
    · exact piece 1536 inb_S1024x4096_S1024x512_0_1536 inb_S512x4096_S512x512_0_1536 x0 x1 x
    · exact piece 1024 inb_S1024x4096_S1024x512_0_1024 inb_S512x4096_S512x512_0_1024 x0 x1 x
    · exact piece 512 inb_S1024x4096_S1024x512_0_512 inb_S512x4096_S512x512_0_512 x0 x1 x
    · exact piece 0 inb_S1024x4096_S1024x512_0_0 inb_S512x4096_S512x512_0_0 x0 x1 x
  · by_cases h3584 : 3584 ≤ (y 1 : ℕ)
    · exact ⟨_, .head _, key 3584 inb_S512x4096_S512x512_0_3584 h3584 (by omega)⟩
    by_cases h3072 : 3072 ≤ (y 1 : ℕ)
    · exact ⟨_, .tail _ (.head _), key 3072 inb_S512x4096_S512x512_0_3072 h3072 (by omega)⟩
    by_cases h2560 : 2560 ≤ (y 1 : ℕ)
    · exact ⟨_, .tail _ (.tail _ (.head _)), key 2560 inb_S512x4096_S512x512_0_2560 h2560 (by omega)⟩
    by_cases h2048 : 2048 ≤ (y 1 : ℕ)
    · exact ⟨_, .tail _ (.tail _ (.tail _ (.head _))), key 2048 inb_S512x4096_S512x512_0_2048 h2048 (by omega)⟩
    by_cases h1536 : 1536 ≤ (y 1 : ℕ)
    · exact ⟨_, .tail _ (.tail _ (.tail _ (.tail _ (.head _)))), key 1536 inb_S512x4096_S512x512_0_1536 h1536 (by omega)⟩
    by_cases h1024 : 1024 ≤ (y 1 : ℕ)
    · exact ⟨_, .tail _ (.tail _ (.tail _ (.tail _ (.tail _ (.head _))))), key 1024 inb_S512x4096_S512x512_0_1024 h1024 (by omega)⟩
    by_cases h512 : 512 ≤ (y 1 : ℕ)
    · exact ⟨_, .tail _ (.tail _ (.tail _ (.tail _ (.tail _ (.tail _ (.head _)))))), key 512 inb_S512x4096_S512x512_0_512 h512 (by omega)⟩
    exact ⟨_, .tail _ (.tail _ (.tail _ (.tail _ (.tail _ (.tail _ (.tail _ (.head _))))))), key 0 inb_S512x4096_S512x512_0_0 (by omega) (by omega)⟩

end Cert.ProjIdeal.Block

end
-- ==== Proof.ProjArray.lean ====
module

public import proofs.«01_k».proof.Proof.ProjSpec
public import proofs.«01_k».proof.Proof.ProjBlock
public import proofs.«01_k».proof.Proof.Gen.ProjIdeal.Value

@[expose] public section

set_option synthInstance.maxSize 4096
set_option maxRecDepth 16384

/-!
The result array of the projection's kernel: every element is the projection's formula.
-/

noncomputable section

namespace Cert.ProjIdeal.Array

open Idealize.ShloMosaic Idealize.ShloMosaic.TcCoe Idealize.SL.Sem Cert.ProjIdeal.Gen Cert.ProjIdeal.Value
  Cert.ProjIdeal.Block

variable (m : (ℓ : Loc nD τ sig) → Buf (Elt Ideal) ℓ) (c : Dev nD)

/-- Where the block of activations lies. -/
theorem idx0 : ∀ t : Fin grid0.N, win0_0.index t 0 = t.val ∧ win0_0.index t 1 = 0 := by decide +kernel
/-- Where the weights lie. -/
theorem idx1 : ∀ t : Fin grid0.N, win0_1.index t 0 = 0 ∧ win0_1.index t 1 = 0 := by decide +kernel
/-- Where the block of results lies. -/
theorem idx2 : ∀ t : Fin grid0.N, win0_2.index t 0 = t.val ∧ win0_2.index t 1 = 0 := by decide +kernel

/-- The factors of the columns, as the host lays them out. -/
def factors : FVec Ideal S4096 .f32 :=
  concatenate S4096 0 [⟨S1024, broadcastInDim S1024 ![] bcast_S_S1024 (constant (F := Ideal) S_ .f32 0x3E000000#32)⟩,
    ⟨S3072, broadcastInDim S3072 ![] bcast_S_S3072 (constant (F := Ideal) S_ .f32 0x3F800000#32)⟩] concatenates_S1024_S3072_S4096_d0

/-- A column's factor. -/
theorem factors_apply (e : Fin 4096) : factors (ix1 e) = ProjSpec.factor e := by
  unfold ProjSpec.factor ProjSpec.eighth
  pointwise [factors]
  rfl

/-- The weights times their columns' factors. -/
def scaled (w : FVec Ideal S1024x4096 .f32) : FVec Ideal S1024x4096 .bf16 :=
  truncf .bf16 (mulf w (broadcastInDim S1024x4096 ![0, 1] bcast_S1x4096_S1024x4096_0_1
    (broadcastInDim S1x4096 ![1] bcast_S4096_S1x4096_1 factors))) bitsLt_bf16_f32

/-- A scaled weight. -/
theorem scaled_apply (w : FVec Ideal S1024x4096 .f32) (k : Fin 1024) (e : Fin 4096) :
    scaled w (ix2 k e) = w (ix2 k e) * ProjSpec.factor e := by
  rw [← factors_apply]
  pointwise [scaled]

/-- The argument's weights. -/
def weights : FVec Ideal S1024x4096 .f32 := m ((c : Thread nD τ).loc main_arg1)

/-- The weights the host hands the kernel. -/
theorem weight_eq : V m c main_v6 = scaled (weights m c) := by
  unfold V hostOps0
  after_results_simp
  rfl

/-- The grid has 128 points, of 512 rows each. -/
theorem row_lt (t : Fin grid0.N) (r : Fin 512) : 512 * t.val + r.val < 65536 := by
  have h : t.val < 128 := t.isLt
  omega

/-- The block of activations. -/
theorem x_apply (t : Fin grid0.N) (r : Fin 512) (k : Fin 1024) : (iblk m c 0 t : Vec Ideal S512x1024 .f32) (ix2 r k)
    = (m ((c : Thread nD τ).loc main_arg0) : Vec Ideal S65536x1024 .f32) (ix2 ⟨512 * t.val + r.val, row_lt t r⟩ k) := by
  unfold iblk
  rw [View.read_apply]
  show V m c main_arg0 _ = _
  rw [V_main_arg0]
  congr 1
  funext a
  apply Fin.ext
  match a with
  | ⟨0, _⟩ => show win0_0.index t 0 * 512 + 1 * r.val = _; rw [(idx0 t).1]; show _ = 512 * t.val + r.val; omega
  | ⟨1, _⟩ => show win0_0.index t 1 * 1024 + 1 * k.val = _; rw [(idx0 t).2]; show _ = k.val; omega

/-- The block of weights. -/
theorem w_apply (t : Fin grid0.N) (k : Fin 1024) (e : Fin 4096) : (iblk m c 1 t : Vec Ideal S1024x4096 .bf16) (ix2 k e)
    = weights m c (ix2 k e) * ProjSpec.factor e := by
  refine Eq.trans ?_ (scaled_apply _ k e)
  rw [← weight_eq]
  unfold iblk
  rw [View.read_apply]
  show V m c main_v6 _ = _
  congr 1
  funext a
  apply Fin.ext
  match a with
  | ⟨0, _⟩ => show win0_1.index t 0 * 1024 + 1 * k.val = _; rw [(idx1 t).1]; show _ = k.val; omega
  | ⟨1, _⟩ => show win0_1.index t 1 * 4096 + 1 * e.val = _; rw [(idx1 t).2]; show _ = e.val; omega

/-- The projection of the arguments. -/
def result : Buf (Elt Ideal) ((c : Thread nD τ).loc main_v7) := fun j : S65536x4096.Idx =>
  ProjSpec.value (fun n k => (m ((c : Thread nD τ).loc main_arg0) : Vec Ideal S65536x1024 .f32) (ix2 n k))
    (fun k e => weights m c (ix2 k e)) (j 0) (j 1)

/-- WHAT A POINT WRITES BACK is its block of the projection. -/
theorem flushed_eq (t : Fin cfg0.N) (_ : (cfg0.win 2).flush t = true) :
    (dats m 0 c).flushed 2 t = ((cfg0.win 2).blk t).view.read (Elt Ideal) (result m c) := by
  refine (flushed2 m c t).trans ?_
  refine funext fun (j : S512x4096.Idx) => ?_
  rw [View.read_apply]
  obtain ⟨r, e, rfl⟩ : ∃ (r : Fin 512) (e : Fin 4096), j = ix2 r e := ⟨j 0, j 1, by
    funext a; match a with | ⟨0, _⟩ => rfl | ⟨1, _⟩ => rfl⟩
  have e0 : (((cfg0.win 2).blk t).view.emb (ix2 r e) : S65536x4096.Idx) = ix2 ⟨512 * t.val + r.val, row_lt t r⟩ e := by
    funext a
    apply Fin.ext
    match a with
    | ⟨0, _⟩ => show win0_2.index t 0 * 512 + 1 * r.val = 512 * t.val + r.val; rw [(idx2 t).1]; omega
    | ⟨1, _⟩ => show win0_2.index t 1 * 4096 + 1 * e.val = e.val; rw [(idx2 t).2]; omega
  show out0_2 (iblk m c 0 t) (iblk m c 1 t) (ix2 r e) = result m c (((cfg0.win 2).blk t).view.emb (ix2 r e) : S65536x4096.Idx)
  rw [e0, out_eq]
  unfold result
  refine Eq.trans ?_ (ProjSpec.scaled_eq _ _ _ _)
  unfold prod
  exact Finset.sum_congr rfl fun k _ => congrArg₂ (fun a b : EReal => a * b) (x_apply m c t r k) (w_apply m c t k e)

/-- THE RESULT ARRAY ends holding the projection. -/
theorem final : (dats m 0 c).arrAt 2 cfg0.N = result m c :=
  (dats m 0 c).arrAt_eq_of_cover 2 (result m c) (flushed_eq m c) fun i => by
    have h0 : (i 0 : ℕ) < 65536 := (i 0).isLt
    have h1 : (i 1 : ℕ) < 4096 := (i 1).isLt
    obtain ⟨t, ht⟩ : ∃ t : Fin grid0.N, t.val = (i 0 : ℕ) / 512 := ⟨⟨(i 0 : ℕ) / 512, by show _ < 128; omega⟩, rfl⟩
    refine ⟨t, flush0_2 t, ?_⟩
    show i ∈ ((View.whole main_v7).slice (win0_2.rect t)).set
    rw [View.set_slice_whole, Rect.mem_set_unit]
    intro a
    match a with
    | ⟨0, _⟩ =>
      show win0_2.index t 0 * 512 ≤ (i 0 : ℕ) ∧ (i 0 : ℕ) < win0_2.index t 0 * 512 + 512
      rw [(idx2 t).1]; omega
    | ⟨1, _⟩ =>
      show win0_2.index t 1 * 4096 ≤ (i 1 : ℕ) ∧ (i 1 : ℕ) < win0_2.index t 1 * 4096 + 4096
      rw [(idx2 t).2]; omega

end Cert.ProjIdeal.Array

end
-- ==== Proof.ProjRef.lean ====
module

public import proofs.«01_k».proof.Proof.ProjSpec
public import proofs.«01_k».proof.Proof.Gen.ProjRefIdeal.Run
public import Idealize.ShloMosaic.Lib.Pipeline.Value

@[expose] public section

set_option synthInstance.maxSize 4096
set_option maxRecDepth 16384

/-!
The reference of the projection, step by step: every element is the projection's formula.
-/

noncomputable section

namespace Cert.ProjRefIdeal.Steps

open Idealize.ShloMosaic Idealize.ShloMosaic.TcCoe Idealize.SL.Sem Cert.ProjRefIdeal.Gen Cert.ProjRefIdeal.Value

/-- The product of the activations and the weights. -/
def product (x : FVec Ideal S65536x1024 .f32) (w : FVec Ideal S1024x4096 .f32) : FVec Ideal S65536x4096 .f32 :=
  Host.dotGeneral dot_S65536x1024_S1024x4096_S65536x4096_1_0_0_1_n_n none x w

/-- An entry of the product. -/
theorem product_apply (x : FVec Ideal S65536x1024 .f32) (w : FVec Ideal S1024x4096 .f32) (n : Fin 65536) (e : Fin 4096) :
    product x w (ix2 n e) = ∑ k : Fin 1024, x (ix2 n k) * w (ix2 k e) := by
  pointwise [product]

/-- The queries' columns, scaled. -/
def queries (p : FVec Ideal S65536x4096 .f32) : FVec Ideal S65536x1024 .f32 :=
  mulf (extractStridedSlice S65536x1024 ![0, 0] p slices_S65536x4096_S65536x1024_0_0)
    (broadcastInDim S65536x1024 ![] bcast_S_S65536x1024 (constant S_ .f32 0x3E000000#32))

/-- A scaled query's entry. -/
theorem queries_apply (p : FVec Ideal S65536x4096 .f32) (n : Fin 65536) (e : Fin 1024) :
    queries p (ix2 n e) = p (ix2 n ⟨e.val, by omega⟩) * ProjSpec.eighth := by
  unfold ProjSpec.eighth
  pointwise [queries]

/-- The four parts side by side. -/
def joined (p : FVec Ideal S65536x4096 .f32) : FVec Ideal S65536x4096 .f32 :=
  concatenate S65536x4096 1 [⟨S65536x1024, queries p⟩,
    ⟨S65536x1024, extractStridedSlice S65536x1024 ![0, 1024] p slices_S65536x4096_S65536x1024_0_1024⟩,
    ⟨S65536x1024, extractStridedSlice S65536x1024 ![0, 2048] p slices_S65536x4096_S65536x1024_0_2048⟩,
    ⟨S65536x1024, extractStridedSlice S65536x1024 ![0, 3072] p slices_S65536x4096_S65536x1024_0_3072⟩]
    concatenates_S65536x1024_S65536x1024_S65536x1024_S65536x1024_S65536x4096_d1

/-- An entry of the four parts side by side. -/
theorem joined_apply (p : FVec Ideal S65536x4096 .f32) (n : Fin 65536) (e : Fin 4096) :
    joined p (ix2 n e) = if e.val < 1024 then p (ix2 n e) * ProjSpec.eighth else p (ix2 n e) := by
  have he := e.isLt
  unfold joined
  by_cases h0 : e.val < 1024
  · rw [if_pos h0]
    refine (concatenate_apply_piece _ _ _ (ix2 n e) 0 (by show 0 < 4; omega) S65536x1024 (queries p) rfl rfl 0 rfl
      (ix2 n ⟨e.val, h0⟩) (fun b hb => ?_) ?_).trans (queries_apply p n ⟨e.val, h0⟩)
    · match b with
      | ⟨0, _⟩ => rfl
      | ⟨1, _⟩ => exact absurd rfl hb
    · show 0 + e.val = e.val; omega
  · rw [if_neg h0]
    by_cases h1 : e.val < 2048
    · refine (concatenate_apply_piece _ _ _ (ix2 n e) 1 (by show 1 < 4; omega) S65536x1024
        (extractStridedSlice S65536x1024 ![0, 1024] p slices_S65536x4096_S65536x1024_0_1024) rfl rfl 1024 rfl
        (ix2 n ⟨e.val - 1024, by omega⟩) (fun b hb => ?_) ?_).trans ?_
      · match b with
        | ⟨0, _⟩ => rfl
        | ⟨1, _⟩ => exact absurd rfl hb
      · show 1024 + (e.val - 1024) = e.val; omega
      · show p _ = p _
        refine congrArg p ?_
        funext a
        apply Fin.ext
        match a with
        | ⟨0, _⟩ => show 0 + n.val = n.val; omega
        | ⟨1, _⟩ => show 1024 + (e.val - 1024) = e.val; omega
    · by_cases h2 : e.val < 3072
      · refine (concatenate_apply_piece _ _ _ (ix2 n e) 2 (by show 2 < 4; omega) S65536x1024
          (extractStridedSlice S65536x1024 ![0, 2048] p slices_S65536x4096_S65536x1024_0_2048) rfl rfl 2048 rfl
          (ix2 n ⟨e.val - 2048, by omega⟩) (fun b hb => ?_) ?_).trans ?_
        · match b with
          | ⟨0, _⟩ => rfl
          | ⟨1, _⟩ => exact absurd rfl hb
        · show 2048 + (e.val - 2048) = e.val; omega
        · show p _ = p _
          refine congrArg p ?_
          funext a
          apply Fin.ext
          match a with
          | ⟨0, _⟩ => show 0 + n.val = n.val; omega
          | ⟨1, _⟩ => show 2048 + (e.val - 2048) = e.val; omega
      · refine (concatenate_apply_piece _ _ _ (ix2 n e) 3 (by show 3 < 4; omega) S65536x1024
          (extractStridedSlice S65536x1024 ![0, 3072] p slices_S65536x4096_S65536x1024_0_3072) rfl rfl 3072 rfl
          (ix2 n ⟨e.val - 3072, by omega⟩) (fun b hb => ?_) ?_).trans ?_
        · match b with
          | ⟨0, _⟩ => rfl
          | ⟨1, _⟩ => exact absurd rfl hb
        · show 3072 + (e.val - 3072) = e.val; omega
        · show p _ = p _
          refine congrArg p ?_
          funext a
          apply Fin.ext
          match a with
          | ⟨0, _⟩ => show 0 + n.val = n.val; omega
          | ⟨1, _⟩ => show 3072 + (e.val - 3072) = e.val; omega

/-- The reference's result, in these steps: an entry is the projection's formula. -/
theorem res_apply (x : FVec Ideal S65536x1024 .f32) (w : FVec Ideal S1024x4096 .f32) (n : Fin 65536) (e : Fin 4096) :
    (truncf .bf16 (joined (product x w)) bitsLt_bf16_f32 : FVec Ideal S65536x4096 .bf16) (ix2 n e) = ProjSpec.value (fun n k => x (ix2 n k)) (fun k e => w (ix2 k e)) n e := by
  refine (joined_apply _ n e).trans ?_
  rw [product_apply]
  rfl

end Cert.ProjRefIdeal.Steps

end
-- ==== Proof.GateWords.lean ====
module

public import proofs.«01_k».proof.Proof.Gen.GateIdeal.Frame
public import Idealize.ShloMosaic.Lib.Pointwise
public import Idealize.ShloMosaic.Lib.Pipeline.Value

@[expose] public section

set_option synthInstance.maxSize 4096
set_option maxRecDepth 16384

/-!
What a point of the grid stores, as terms of the blocks it reads and the row it finds carried.
-/

noncomputable section

namespace Cert.GateIdeal.Words

open Idealize.ShloMosaic Cert.GateIdeal.Gen

variable (c : Dev nD) (i : grid0.Coords) (arg1 : Memref sig .tc .vmem S512x1024 .f32) (harg1 : arg1.IsWhole)
  (arg2 : Memref sig .tc .vmem S1024x4096 .bf16) (harg2 : arg2.IsWhole) (arg3 : Memref sig .tc .vmem S1024x32 .bf16) (harg3 : arg3.IsWhole)
  (arg4 : Memref sig .tc .vmem S1x16 .f32) (harg4 : arg4.IsWhole) (arg5 : Memref sig .tc .vmem S512x512 .bf16) (harg5 : arg5.IsWhole)
  (arg6 : Memref sig .tc .vmem S512x4096 .bf16) (harg6 : arg6.IsWhole) (arg7 : Memref sig .tc .vmem S512x16 .f32) (harg7 : arg7.IsWhole)
  (arg8 : Memref sig .tc .vmem S1x16 .f32) (harg8 : arg8.IsWhole)
  (x0 : Vec Ideal S512x1024 .f32) (x1 : Vec Ideal S1024x4096 .bf16) (x2 : Vec Ideal S1024x32 .bf16) (x3 : Vec Ideal S1x16 .f32)
  (x4 : Vec Ideal S512x512 .bf16)

/-- The running sums a point computes from its blocks and the row carried into it. -/
def sums (xs : FVec Ideal S1x16 .f32) : FVec Ideal S512x16 .f32 :=
  k0_pay13 (F := Ideal) (k0_pay3 x0) (k0_pay12 x0 (k0_pay3 x0)) x2 x2 x3 x4 xs

/-- A load of a whole buffer reads its contents. -/
theorem whole_read {s : Shape} {e : EltTy} (X : s.Idx → Elt Ideal e) {arg : Memref sig .tc .vmem s e} (harg : arg.IsWhole) {off : Fin s.rank → ℕ}
    (h : off = fun _ => 0) (inb : ∀ a, off a + s.size a ≤ s.size a) :
    arg.view.readAt (Elt Ideal) (Rect.unit off s.size inb).toLoadRect (harg.unread X) = X := by
  rw [View.readAt_eq_ld, harg.read_unread]
  exact View.ld_unit_zero h inb X

/-- The zero offsets. -/
theorem zeros : (![0, 0] : Fin 2 → ℕ) = fun _ => 0 := by funext a; match a with | ⟨0, _⟩ => rfl | ⟨1, _⟩ => rfl

/-- What a point that starts a sequence computes: its running sums. -/
theorem run_A : kernelRun0_A.sl.r_3 c arg1 harg1 arg3 harg3 arg4 harg4 arg5 harg5 arg8 x0 x2 x3 x4 = sums x0 x2 x3 x4 (k0_pay2 (F := Ideal)) := by
  have hz := zeros
  unfold kernelRun0_A.sl.r_3 sums kernelRun0_A.sl.r_2 kernelRun0_A.sl.r_1
  unfold kernelRun0_A.sl.v96 kernelRun0_A.sl.HS0_1
  rw [View.readCov_unit_zero _ hz]
  rw [whole_read x2 harg3 hz, whole_read x3 harg4 hz, whole_read x4 harg5 hz]
  try unfold kernelRun0_A.sl.r
  try unfold kernelRun0_A.sl.r_1
  rw [whole_read x0 harg1 hz]

/-- A point that starts a sequence stores its running sums. -/
theorem out6_A (hc0 : cond0_0 i) : out0_A_6 (F := Ideal) c i arg1 harg1 arg2 harg2 arg3 harg3 arg4 harg4 arg5 harg5 arg6 harg6 arg7 harg7 arg8 harg8 hc0 x0 x1 x2 x3 x4 = sums x0 x2 x3 x4 (k0_pay2 (F := Ideal)) := by
  have hz := zeros
  unfold out0_A_6
  rw [View.read_writes_eq_canon _ _ _ (cover0_A_6 c i arg1 harg1 arg2 harg2 arg3 harg3 arg4 harg4 arg5 harg5 arg6 harg6 arg7 harg7 arg8 harg8 hc0 x0 x1 x2 x3 x4)]
  unfold kernelRun0_A
  dsimp only
  exact (View.canon_unit_zero hz _ _).trans (run_A _ _ _ _ _ _ _ _ _ _ _ _ _ _ )

/-- A point that starts a sequence carries on the last row of its running sums. -/
theorem carry_A (hc0 : cond0_0 i) : sout0_A_0 (F := Ideal) c i arg1 harg1 arg2 harg2 arg3 harg3 arg4 harg4 arg5 harg5 arg6 harg6 arg7 harg7 arg8 harg8 hc0 x0 x1 x2 x3 x4 = k0_pay1 (sums x0 x2 x3 x4 (k0_pay2 (F := Ideal))) := by
  have hz := zeros
  unfold sout0_A_0
  rw [View.read_writes_eq_canon _ _ _ (scover0_A_0 c i arg1 harg1 arg2 harg2 arg3 harg3 arg4 harg4 arg5 harg5 arg6 harg6 arg7 harg7 arg8 harg8 hc0 x0 x1 x2 x3 x4)]
  unfold kernelRun0_A
  dsimp only
  exact (View.canon_cons_unit_zero hz _ _ _).trans (congrArg k0_pay1 (run_A _ _ _ _ _ _ _ _ _ _ _ _ _ _ ))

/-- What a point that continues a sequence computes: its running sums. -/
theorem run_B (xs : Vec Ideal S1x16 .f32) : kernelRun0_B.sl.r_3 c arg1 harg1 arg3 harg3 arg4 harg4 arg5 harg5 arg8 harg8 x0 x2 x3 x4 xs = sums x0 x2 x3 x4 xs := by
  have hz := zeros
  unfold kernelRun0_B.sl.r_3 sums kernelRun0_B.sl.r_2 kernelRun0_B.sl.r_1
  rw [whole_read x2 harg3 hz, whole_read x3 harg4 hz, whole_read x4 harg5 hz]
  try unfold kernelRun0_B.sl.r
  try unfold kernelRun0_B.sl.r_1
  rw [whole_read x0 harg1 hz]
  rw [whole_read xs harg8 hz]

/-- A point that continues a sequence stores its running sums. -/
theorem out6_B (hc0 : ¬cond0_0 i) (xs : Vec Ideal S1x16 .f32) : out0_B_6 (F := Ideal) c i arg1 harg1 arg2 harg2 arg3 harg3 arg4 harg4 arg5 harg5 arg6 harg6 arg7 harg7 arg8 harg8 hc0 x0 x1 x2 x3 x4 xs = sums x0 x2 x3 x4 xs := by
  have hz := zeros
  unfold out0_B_6
  rw [View.read_writes_eq_canon _ _ _ (cover0_B_6 c i arg1 harg1 arg2 harg2 arg3 harg3 arg4 harg4 arg5 harg5 arg6 harg6 arg7 harg7 arg8 harg8 hc0 x0 x1 x2 x3 x4 xs)]
  unfold kernelRun0_B
  dsimp only
  exact (View.canon_unit_zero hz _ _).trans (run_B _ _ _ _ _ _ _ _ _ _ _ _ _ _ _ _)

/-- A point that continues a sequence carries on the last row of its running sums. -/
theorem carry_B (hc0 : ¬cond0_0 i) (xs : Vec Ideal S1x16 .f32) : sout0_B_0 (F := Ideal) c i arg1 harg1 arg2 harg2 arg3 harg3 arg4 harg4 arg5 harg5 arg6 harg6 arg7 harg7 arg8 harg8 hc0 x0 x1 x2 x3 x4 xs = k0_pay1 (sums x0 x2 x3 x4 xs) := by
  have hz := zeros
  unfold sout0_B_0
  rw [View.read_writes_eq_canon _ _ _ (scover0_B_0 c i arg1 harg1 arg2 harg2 arg3 harg3 arg4 harg4 arg5 harg5 arg6 harg6 arg7 harg7 arg8 harg8 hc0 x0 x1 x2 x3 x4 xs)]
  unfold kernelRun0_B
  dsimp only
  exact (View.canon_cons_unit_zero hz _ _ _).trans (congrArg k0_pay1 (run_B _ _ _ _ _ _ _ _ _ _ _ _ _ _ _ _))

end Cert.GateIdeal.Words

end
-- ==== Proof.GateSpec.lean ====
module

public import proofs.«01_k».proof.Proof.Rows
public import Idealize.ShloMosaic.Lib.Pointwise

@[expose] public section

set_option synthInstance.maxSize 4096
set_option maxRecDepth 16384

/-!
The gates: the logarithm of the logistic function and its running sums within a sequence, and the forms in which the kernel and the
reference write them. The activations and the weights are real numbers, the biases may be infinite.
-/

noncomputable section

namespace Cert.GateSpec

open Idealize.ShloMosaic

/-- The logarithm of the logistic function. -/
def logSig (u : ℝ) : ℝ := min u 0 - Real.log (1 + Real.exp (-|u|))

/-- It is what its name says. -/
theorem logSig_eq (u : ℝ) : logSig u = Real.log (1 / (1 + Real.exp (-u))) := by
  have hp : ∀ x : ℝ, 0 < 1 + Real.exp x := fun x => by positivity
  rw [one_div, Real.log_inv]
  unfold logSig
  rcases le_total 0 u with h | h
  · rw [min_eq_right h, abs_of_nonneg h]; ring
  · rw [min_eq_left h, abs_of_nonpos h, neg_neg]
    have e : 1 + Real.exp (-u) = Real.exp (-u) * (1 + Real.exp u) := by
      rw [mul_add, mul_one, ← Real.exp_add, neg_add_cancel, Real.exp_zero]; ring
    rw [e, Real.log_mul (Real.exp_ne_zero _) (hp _).ne', Real.log_exp]; ring

/-- The larger of two reals, read in the extended reals. -/
theorem coe_max (a b : ℝ) : max (a : EReal) (b : EReal) = ((max a b : ℝ) : EReal) :=
  (EReal.coe_strictMono.monotone.map_max).symm

/-- The smaller of two reals, read in the extended reals. -/
theorem coe_min (a b : ℝ) : min (a : EReal) (b : EReal) = ((min a b : ℝ) : EReal) :=
  (EReal.coe_strictMono.monotone.map_min).symm

/-- The logarithm of one more than an exponential of a real. -/
theorem log_one_exp (x : ℝ) : Ideal.log (1 + Ideal.exp (x : EReal)) = ((Real.log (1 + Real.exp x) : ℝ) : EReal) := by
  have hp : ¬ (1 + Real.exp x ≤ 0) := not_le.2 (by positivity)
  have e : (1 : EReal) + Ideal.exp (x : EReal) = ((1 + Real.exp x : ℝ) : EReal) := by
    rw [EReal.coe_add]; rfl
  rw [e]
  show (if 1 + Real.exp x ≤ 0 then (⊥ : EReal) else ((Real.log (1 + Real.exp x) : ℝ) : EReal)) = _
  rw [if_neg hp]

/-- The kernel's form on a real. -/
theorem kernel_real (u : ℝ) :
    min (u : EReal) 0 - Ideal.log (1 + Ideal.exp (0 - max (u : EReal) (-(u : EReal)))) = ((logSig u : ℝ) : EReal) := by
  have e : (0 : EReal) - max (u : EReal) (-(u : EReal)) = ((-|u| : ℝ) : EReal) := by
    rw [← EReal.coe_neg, coe_max, ← EReal.coe_zero, ← EReal.coe_sub]
    congr 1
    rw [abs_eq_max_neg]; ring
  rw [e, log_one_exp, ← EReal.coe_zero, coe_min, ← EReal.coe_sub]
  rfl

/-- The reference's form on a real. -/
theorem reference_real (u : ℝ) :
    -(max (-(u : EReal)) 0 + Ideal.log1p (Ideal.exp (-(max (-(u : EReal) - 0) (-(-(u : EReal) - 0)))))) = ((logSig u : ℝ) : EReal) := by
  have e : -(max (-(u : EReal) - 0) (-(-(u : EReal) - 0))) = ((-|u| : ℝ) : EReal) := by
    rw [← EReal.coe_neg, ← EReal.coe_zero, ← EReal.coe_sub, ← EReal.coe_neg, coe_max, ← EReal.coe_neg]
    congr 1
    rw [sub_zero, neg_neg, max_comm, abs_eq_max_neg]
  unfold Ideal.log1p
  rw [e, log_one_exp, ← EReal.coe_neg, ← EReal.coe_zero, coe_max, ← EReal.coe_add, ← EReal.coe_neg]
  congr 1
  unfold logSig
  rcases le_total 0 u with h | h
  · rw [min_eq_right h, max_eq_right (neg_nonpos.2 h)]; ring
  · rw [min_eq_left h, max_eq_left (neg_nonneg.2 h)]; ring

/-- The logarithm of the logistic function on the extended reals: minus infinity at minus infinity, zero at infinity. -/
def logGate (u : EReal) : EReal := if u = ⊥ then ⊥ else if u = ⊤ then 0 else ((logSig u.toReal : ℝ) : EReal)

/-- At minus infinity. -/
theorem logGate_bot : logGate ⊥ = ⊥ := if_pos rfl

/-- At infinity. -/
theorem logGate_top : logGate ⊤ = 0 := by
  unfold logGate; rw [if_neg top_ne_bot, if_pos rfl]

/-- At a real. -/
theorem logGate_coe (u : ℝ) : logGate (u : EReal) = ((logSig u : ℝ) : EReal) := by
  unfold logGate; rw [if_neg (EReal.coe_ne_bot u), if_neg (EReal.coe_ne_top u), EReal.toReal_coe]

/-- The logarithm of one more than the exponential of minus infinity. -/
theorem log_one_exp_bot : Ideal.log (1 + Ideal.exp (⊥ : EReal)) = (0 : EReal) := by
  have e : (1 : EReal) + Ideal.exp (⊥ : EReal) = ((1 : ℝ) : EReal) := by
    show (1 : EReal) + 0 = _
    rw [add_zero]; rfl
  rw [e]
  show (if (1 : ℝ) ≤ 0 then (⊥ : EReal) else ((Real.log 1 : ℝ) : EReal)) = _
  rw [if_neg (by norm_num), Real.log_one, EReal.coe_zero]

/-- The kernel's form. -/
theorem kernel_form (u : EReal) : min u 0 - Ideal.log (1 + Ideal.exp (0 - max u (-u))) = logGate u := by
  induction u using EReal.rec with
  | bot =>
    have e : (0 : EReal) - max (⊥ : EReal) (-⊥) = ⊥ := by simp
    rw [e, log_one_exp_bot, logGate_bot]; simp
  | coe v => rw [kernel_real, logGate_coe]
  | top =>
    have e : (0 : EReal) - max (⊤ : EReal) (-⊤) = ⊥ := by simp
    rw [e, log_one_exp_bot, logGate_top]; simp

/-- The reference's form. -/
theorem reference_form (u : EReal) :
    -(max (-u) 0 + Ideal.log1p (Ideal.exp (-(max (-u - 0) (-(-u - 0)))))) = logGate u := by
  induction u using EReal.rec with
  | bot =>
    have e : -(max (-(⊥ : EReal) - 0) (-(-(⊥ : EReal) - 0))) = ⊥ := by simp
    unfold Ideal.log1p
    rw [e, log_one_exp_bot, logGate_bot]; simp
  | coe v => rw [reference_real, logGate_coe]
  | top =>
    have e : -(max (-(⊤ : EReal) - 0) (-(-(⊤ : EReal) - 0))) = ⊥ := by simp
    unfold Ideal.log1p
    rw [e, log_one_exp_bot, logGate_top]; simp

/-- With one bias, which may be infinite, the logarithms are all real numbers or all minus infinity. -/
theorem column (y : ℕ → ℝ) (b : EReal) :
    (∃ v : ℕ → ℝ, ∀ n, logGate ((y n : EReal) + b) = ((v n : ℝ) : EReal)) ∨ ∀ n, logGate ((y n : EReal) + b) = ⊥ := by
  induction b using EReal.rec with
  | bot => exact .inr fun n => by rw [EReal.add_bot, logGate_bot]
  | coe v => exact .inl ⟨fun n => logSig (y n + v), fun n => by rw [← EReal.coe_add, logGate_coe]⟩
  | top => exact .inl ⟨fun _ => 0, fun n => by rw [EReal.coe_add_top, logGate_top, EReal.coe_zero]⟩

/-- The sum of a sequence's numbers up to and with position `n`, sequences being 8192 long. -/
def running (l : ℕ → EReal) (n : ℕ) : EReal := ∑ i ∈ Finset.range (n % 8192 + 1), l (8192 * (n / 8192) + i)

/-- The sum of a sequence's numbers before block `t`, blocks being 512 long. -/
def before (l : ℕ → EReal) (t : ℕ) : EReal := ∑ i ∈ Finset.range (512 * (t % 16)), l (8192 * (t / 16) + i)

/-- Before a sequence's first block there is nothing. -/
theorem before_first (l : ℕ → EReal) (t : ℕ) (h : t % 16 = 0) : before l t = 0 := by
  unfold before; rw [h]; rfl

/-- A block's numbers up to and with its row `r`, after what went before the block, are the running sum. -/
theorem running_block (l : ℕ → EReal) (t r : ℕ) (hr : r < 512) :
    before l t + ∑ j ∈ Finset.range (r + 1), l (512 * t + j) = running l (512 * t + r) := by
  unfold before running
  have e1 : (512 * t + r) % 8192 + 1 = 512 * (t % 16) + (r + 1) := by omega
  have e2 : (512 * t + r) / 8192 = t / 16 := by omega
  rw [e1, e2, Finset.sum_range_add (fun i => l (8192 * (t / 16) + i)) (512 * (t % 16)) (r + 1)]
  congr 1
  refine Finset.sum_congr rfl fun j _ => congrArg l ?_
  omega

/-- What goes before a block that continues a sequence is the running sum at the last row of the block before it. -/
theorem before_next (l : ℕ → EReal) (t : ℕ) (h : ¬ t % 16 = 0) : before l t = running l (512 * (t - 1) + 511) := by
  unfold before running
  have e1 : (512 * (t - 1) + 511) % 8192 + 1 = 512 * (t % 16) := by omega
  have e2 : (512 * (t - 1) + 511) / 8192 = t / 16 := by omega
  rw [e1, e2]

/-- Row `n`'s entry of the gates before the logistic function, on real activations and weights. -/
def logit (x : ℕ → ℕ → ℝ) (w : ℕ → ℕ → ℝ) (b : ℕ → EReal) (n h : ℕ) : EReal := ((∑ k : Fin 1024, x n k.val * w k.val h : ℝ) : EReal) + b h

/-- The running sums of the gates' logarithms. -/
def value (x : ℕ → ℕ → ℝ) (w : ℕ → ℕ → ℝ) (b : ℕ → EReal) (n h : ℕ) : EReal := running (fun n => logGate (logit x w b n h)) n

end Cert.GateSpec

end
-- ==== Proof.GateSums.lean ====
module

public import proofs.«01_k».proof.Proof.GateWords
public import proofs.«01_k».proof.Proof.GateSpec
public import Idealize.ShloMosaic.Lib.Pointwise

@[expose] public section

set_option synthInstance.maxSize 4096
set_option maxRecDepth 16384

/-!
What a point of the grid computes of the gates, on blocks of real activations and weights: the logarithms' sums over its rows, after what it finds carried.
-/

noncomputable section

namespace Cert.GateIdeal.Sums

open Idealize.ShloMosaic Cert.GateIdeal.Gen

/-- The gates before the logistic function: two products, each with both halves of the weights, the halves added, and the bias. -/
def pre (a d : FVec Ideal S512x1024 .bf16) (w : FVec Ideal S1024x32 .bf16) (b : FVec Ideal S1x16 .f32) : FVec Ideal S512x16 .f32 :=
  have p : FVec Ideal S512x32 .f32 := addf
    (matmul dot_S512x1024_S1024x32_S512x32_1_0_0_1_n_n none a (shapeCast S1024x32 w shapeCasts_S1024x32_S1024x32) (constant S512x32 .f32 0x00000000#32))
    (matmul dot_S512x1024_S1024x32_S512x32_1_0_0_1_n_n none d (shapeCast S1024x32 w shapeCasts_S1024x32_S1024x32) (constant S512x32 .f32 0x00000000#32))
  addf (addf (extractStridedSlice S512x16 ![0, 0] p slices_S512x32_o0_0_S512x16) (extractStridedSlice S512x16 ![0, 16] p slices_S512x32_o0_16_S512x16))
    (broadcastTo S512x16 (shapeCast S1x16 b shapeCasts_S1x16_S1x16) broadcasts_S1x16_S512x16)

/-- An entry of it. -/
theorem pre_apply (a d : FVec Ideal S512x1024 .bf16) (w : FVec Ideal S1024x32 .bf16) (b : FVec Ideal S1x16 .f32) (r : Fin 512) (h : Fin 16) :
    pre a d w b (ix2 r h) = ((∑ k : Fin 1024, a (ix2 r k) * w (ix2 k ⟨h.val, by omega⟩)) + (∑ k : Fin 1024, d (ix2 r k) * w (ix2 k ⟨h.val, by omega⟩)))
      + ((∑ k : Fin 1024, a (ix2 r k) * w (ix2 k ⟨16 + h.val, by omega⟩)) + (∑ k : Fin 1024, d (ix2 r k) * w (ix2 k ⟨16 + h.val, by omega⟩)))
      + b (ix2 0 h) := by
  pointwise [pre]

/-- The gates' logarithms. -/
def logs (u : FVec Ideal S512x16 .f32) : FVec Ideal S512x16 .f32 :=
  subf (minimumf u (broadcast S512x16 (Scalar.ofBits .f32 0x00000000#32 : Ideal .f32)))
    (log (addf (broadcast S512x16 (Scalar.ofBits .f32 0x3F800000#32 : Ideal .f32))
      (exp (subf (broadcast S512x16 (Scalar.ofBits .f32 0x00000000#32 : Ideal .f32)) (absf u)))))

/-- An entry of them. -/
theorem logs_apply (u : FVec Ideal S512x16 .f32) (r : Fin 512) (h : Fin 16) :
    logs u (ix2 r h) = GateSpec.logGate (u (ix2 r h)) := by
  refine Eq.trans ?_ (GateSpec.kernel_form (u (ix2 r h)))
  have e0 : (Scalar.ofBits .f32 0x00000000#32 : Ideal .f32) = (0 : EReal) := by
    show Ideal.ofBits FTy.f32 0x00000000#32 = 0
    simp [Ideal.ofBits, Ideal.ieee]
  have e1 : (Scalar.ofBits .f32 0x3F800000#32 : Ideal .f32) = (1 : EReal) := by
    show Ideal.ofBits FTy.f32 0x3F800000#32 = 1
    simp [Ideal.ofBits, Ideal.ieee, -EReal.coe_mul]
    norm_num
  show min (u (ix2 r h)) (Scalar.ofBits .f32 0x00000000#32 : Ideal .f32)
    - Ideal.log ((Scalar.ofBits .f32 0x3F800000#32 : Ideal .f32) + Ideal.exp ((Scalar.ofBits .f32 0x00000000#32 : Ideal .f32) - max (u (ix2 r h)) (-(u (ix2 r h))))) = _
  rw [e0, e1]

/-- The sums: a triangle of ones times the logarithms, in three parts, and the row carried. -/
def tot (l : FVec Ideal S512x16 .f32) (t : FVec Ideal S512x512 .bf16) (xs : FVec Ideal S1x16 .f32) : FVec Ideal S512x16 .f32 :=
  have hi : FVec Ideal S512x16 .bf16 := truncf .bf16 l bitsLt_bf16_f32
  have rest : FVec Ideal S512x16 .f32 := subf l (extf .f32 hi bitsLt_bf16_f32)
  have mid : FVec Ideal S512x16 .bf16 := truncf .bf16 rest bitsLt_bf16_f32
  have lo : FVec Ideal S512x16 .bf16 := truncf .bf16 (subf rest (extf .f32 mid bitsLt_bf16_f32)) bitsLt_bf16_f32
  have t' : FVec Ideal S512x512 .bf16 := shapeCast S512x512 t shapeCasts_S512x512_S512x512
  addf (addf (addf (matmul dot_S512x512_S512x16_S512x16_1_0_0_1_n_n none t' hi (constant S512x16 .f32 0x00000000#32))
      (matmul dot_S512x512_S512x16_S512x16_1_0_0_1_n_n none t' mid (constant S512x16 .f32 0x00000000#32)))
    (matmul dot_S512x512_S512x16_S512x16_1_0_0_1_n_n none t' lo (constant S512x16 .f32 0x00000000#32)))
    (broadcastTo S512x16 xs broadcasts_S1x16_S512x16)

/-- An entry of them. -/
theorem tot_apply (l : FVec Ideal S512x16 .f32) (t : FVec Ideal S512x512 .bf16) (xs : FVec Ideal S1x16 .f32) (r : Fin 512) (h : Fin 16) :
    tot l t xs (ix2 r h) = (∑ j : Fin 512, t (ix2 r j) * l (ix2 j h)) + (∑ j : Fin 512, t (ix2 r j) * (l (ix2 j h) - l (ix2 j h)))
      + (∑ j : Fin 512, t (ix2 r j) * ((l (ix2 j h) - l (ix2 j h)) - (l (ix2 j h) - l (ix2 j h)))) + xs (ix2 0 h) := by
  pointwise [tot]

/-- A point's sums are these steps, one after another. -/
theorem sums_eq (x0 : Vec Ideal S512x1024 .f32) (x2 : Vec Ideal S1024x32 .bf16) (x3 : Vec Ideal S1x16 .f32) (x4 : Vec Ideal S512x512 .bf16)
    (xs : FVec Ideal S1x16 .f32) :
    Words.sums x0 x2 x3 x4 xs = tot (logs (pre (k0_pay3 (F := Ideal) x0) (k0_pay12 (F := Ideal) x0 (k0_pay3 x0)) x2 x3)) x4 xs := rfl

/-- A real less itself. -/
theorem sub_self_coe (v : ℝ) : (v : EReal) - (v : EReal) = 0 := by
  rw [← EReal.coe_sub, sub_self, EReal.coe_zero]

/-- A triangle's row times a column of reals is the sum of the column's first numbers. -/
theorem tri_sum (l : ℕ → ℝ) (r : Fin 512) : (∑ j : Fin 512, (if j.val ≤ r.val then (1 : EReal) else 0) * ((l j.val : ℝ) : EReal))
    = ((∑ j ∈ Finset.range (r.val + 1), l j : ℝ) : EReal) := by
  have e := KernelIdeal.Rows.sum_block 512 l 0 (r.val + 1) (by have := r.isLt; omega)
  simp only [Nat.zero_add] at e
  rw [← e, KernelIdeal.Rows.coe_sum]
  refine Finset.sum_congr rfl fun j _ => ?_
  by_cases hj : j.val ≤ r.val
  · rw [if_pos hj, if_pos (by omega), one_mul]
  · rw [if_neg hj, if_neg (by omega), zero_mul, EReal.coe_zero]

/-- A sum of at least one minus infinity. -/
theorem sum_bot (r : ℕ) : (∑ _j ∈ Finset.range (r + 1), (⊥ : EReal)) = ⊥ := by
  rw [Finset.sum_range_succ, EReal.add_bot]

/-- A triangle's row times a column of minus infinities: the row holds at least one one. -/
theorem tri_sum_bot (r : Fin 512) : (∑ j : Fin 512, (if j.val ≤ r.val then (1 : EReal) else 0) * (⊥ : EReal)) = ⊥ := by
  rw [← Finset.add_sum_erase Finset.univ _ (Finset.mem_univ r), if_pos le_rfl, one_mul, EReal.bot_add]

/-- WHAT A POINT COMPUTES OF THE GATES, on blocks of real activations and weights. -/
theorem sums_apply (x0 : FVec Ideal S512x1024 .f32) (x2 : FVec Ideal S1024x32 .bf16) (x3 : FVec Ideal S1x16 .f32) (x4 : FVec Ideal S512x512 .bf16)
    (xs : FVec Ideal S1x16 .f32) (x w : ℕ → ℕ → ℝ) (b c : ℕ → EReal)
    (hx : ∀ (r : Fin 512) (k : Fin 1024), x0 (ix2 r k) = ((x r.val k.val : ℝ) : EReal))
    (hw : ∀ (k : Fin 1024) (h : Fin 16), x2 (ix2 k ⟨h.val, by omega⟩) = ((w k.val h.val : ℝ) : EReal))
    (hz : ∀ (k : Fin 1024) (h : Fin 16), x2 (ix2 k ⟨16 + h.val, by omega⟩) = 0)
    (hb : ∀ h : Fin 16, x3 (ix2 0 h) = b h.val)
    (ht : ∀ r j : Fin 512, x4 (ix2 r j) = if j.val ≤ r.val then (1 : EReal) else 0)
    (hc : ∀ h : Fin 16, xs (ix2 0 h) = c h.val) (r : Fin 512) (h : Fin 16) :
    Words.sums x0 x2 x3 x4 xs (ix2 r h)
      = c h.val + ∑ j ∈ Finset.range (r.val + 1), GateSpec.logGate (GateSpec.logit x w b j h.val) := by
  have hp : ∀ j : Fin 512, pre (k0_pay3 (F := Ideal) x0) (k0_pay12 (F := Ideal) x0 (k0_pay3 x0)) x2 x3 (ix2 j h)
      = GateSpec.logit x w b j.val h.val := fun j => by
    have ha : ∀ k : Fin 1024, k0_pay3 (F := Ideal) x0 (ix2 j k) = ((x j.val k.val : ℝ) : EReal) := fun k => hx j k
    have hd : ∀ k : Fin 1024, k0_pay12 (F := Ideal) x0 (k0_pay3 x0) (ix2 j k) = (0 : EReal) := fun k => by
      show x0 (ix2 j k) - x0 (ix2 j k) = (0 : EReal)
      rw [hx]; exact sub_self_coe _
    refine (pre_apply _ _ _ _ j h).trans ?_
    simp only [ha, hd, hw, hz, hb, zero_mul, mul_zero, Finset.sum_const_zero, add_zero]
    unfold GateSpec.logit
    rw [KernelIdeal.Rows.coe_sum]
    simp only [EReal.coe_mul]
  have hl : ∀ j : Fin 512, logs (pre (k0_pay3 (F := Ideal) x0) (k0_pay12 (F := Ideal) x0 (k0_pay3 x0)) x2 x3) (ix2 j h)
      = GateSpec.logGate (GateSpec.logit x w b j.val h.val) := fun j => (logs_apply _ j h).trans (congrArg GateSpec.logGate (hp j))
  rw [sums_eq]
  refine (tot_apply _ _ _ r h).trans ?_
  simp only [hl, ht, hc]
  rcases GateSpec.column (fun n => ∑ k : Fin 1024, x n k.val * w k.val h.val) (b h.val) with ⟨v, hv⟩ | hv
  · have hv' : ∀ n : ℕ, GateSpec.logGate (GateSpec.logit x w b n h.val) = ((v n : ℝ) : EReal) := hv
    simp only [hv', sub_self_coe, sub_zero, mul_zero, Finset.sum_const_zero, add_zero]
    rw [tri_sum v r, add_comm, KernelIdeal.Rows.coe_sum]
  · have hv' : ∀ n : ℕ, GateSpec.logGate (GateSpec.logit x w b n h.val) = ⊥ := hv
    simp only [hv', show (⊥ : EReal) - ⊥ = ⊥ from EReal.bot_add _]
    rw [tri_sum_bot, sum_bot, EReal.bot_add, EReal.bot_add, EReal.bot_add, EReal.add_bot]

/-- The row a point carries on is its last. -/
theorem last_apply (v : FVec Ideal S512x16 .f32) (h : Fin 16) : k0_pay1 (F := Ideal) v (ix2 0 h) = v (ix2 ⟨511, by omega⟩ h) := by
  pointwise [k0_pay1]

/-- A sequence starts from zeros. -/
theorem zeros_apply (h : Fin 16) : k0_pay2 (F := Ideal) (ix2 0 h) = (0 : EReal) := by
  pointwise [k0_pay2]

end Cert.GateIdeal.Sums

end
-- ==== Proof.GateBlock.lean ====
module

public import proofs.«01_k».proof.Proof.GateWords
public import Idealize.ShloMosaic.Lib.Pointwise
public import Idealize.ShloMosaic.Lib.Pipeline.Value

@[expose] public section

set_option synthInstance.maxSize 4096
set_option maxRecDepth 16384

/-!
What one point of the grid stores of the projection: its 512 rows, in eight pieces of 512 columns.
-/

noncomputable section

namespace Cert.GateIdeal.Block

open Idealize.ShloMosaic Cert.GateIdeal.Gen

variable (c : Dev nD) (i : grid0.Coords) (arg1 : Memref sig .tc .vmem S512x1024 .f32) (harg1 : arg1.IsWhole)
  (arg2 : Memref sig .tc .vmem S1024x4096 .bf16) (harg2 : arg2.IsWhole) (arg3 : Memref sig .tc .vmem S1024x32 .bf16) (harg3 : arg3.IsWhole)
  (arg4 : Memref sig .tc .vmem S1x16 .f32) (harg4 : arg4.IsWhole) (arg5 : Memref sig .tc .vmem S512x512 .bf16) (harg5 : arg5.IsWhole)
  (arg6 : Memref sig .tc .vmem S512x4096 .bf16) (harg6 : arg6.IsWhole) (arg7 : Memref sig .tc .vmem S512x16 .f32) (harg7 : arg7.IsWhole)
  (arg8 : Memref sig .tc .vmem S1x16 .f32) (harg8 : arg8.IsWhole)
  (x0 : Vec Ideal S512x1024 .f32) (x1 : Vec Ideal S1024x4096 .bf16) (x2 : Vec Ideal S1024x32 .bf16) (x3 : Vec Ideal S1x16 .f32)
  (x4 : Vec Ideal S512x512 .bf16)

/-- A tile of the product. -/
theorem tile_apply (x : FVec Ideal S512x1024 .f32) (w : FVec Ideal S1024x512 .bf16) (r e : Fin 512) :
    k0_pay5 (F := Ideal) x w (ix2 r e) = ∑ k : Fin 1024, x (ix2 r k) * w (ix2 k e) := by
  pointwise [k0_pay5, k0_pay3]

/-- The product of a block of rows and all the weights. -/
def prod (x0 : Vec Ideal S512x1024 .f32) (x1 : Vec Ideal S1024x4096 .bf16) : Vec Ideal S512x4096 .bf16 :=
  fun j => ∑ k : Fin 1024, (x0 (ix2 (j 0) k) : EReal) * x1 (ix2 k (j 1))

/-- A piece is its 512 columns of the product. -/
theorem piece (o : ℕ) (inb : ∀ a, (![0, o] : Fin 2 → ℕ) a + S1024x512.size a ≤ S1024x4096.size a)
    (inb' : ∀ a, (![0, o] : Fin 2 → ℕ) a + S512x512.size a ≤ S512x4096.size a)
    (x0 : Vec Ideal S512x1024 .f32) (x1 : Vec Ideal S1024x4096 .bf16) (x : S512x512.Idx) :
    k0_pay5 (F := Ideal) x0 (View.ld x1 (Rect.unit (s := S1024x4096) ![0, o] S1024x512.size inb)) x
      = prod x0 x1 ((Rect.unit (s := S512x4096) ![0, o] S512x512.size inb').emb x) := by
  obtain ⟨r, e, rfl⟩ : ∃ r e : Fin 512, x = ix2 r e := ⟨x 0, x 1, by
    funext a; match a with | ⟨0, _⟩ => rfl | ⟨1, _⟩ => rfl⟩
  refine (tile_apply _ _ r e).trans ?_
  unfold prod
  refine Finset.sum_congr rfl fun k _ => ?_
  refine congrArg₂ (fun a b : EReal => a * b) ?_ ?_
  · refine congrArg x0 ?_
    funext a
    apply Fin.ext
    match a with
    | ⟨0, _⟩ => show r.val = 0 + 1 * r.val; omega
    | ⟨1, _⟩ => rfl
  · show x1 _ = x1 _
    refine congrArg x1 ?_
    funext a
    apply Fin.ext
    match a with
    | ⟨0, _⟩ => show 0 + 1 * k.val = k.val; omega
    | ⟨1, _⟩ => rfl

/-- A piece: 512 columns and what is stored there. -/
def tile (x0 : Vec Ideal S512x1024 .f32) (x1 : Vec Ideal S1024x4096 .bf16) (o : ℕ)
    (inb : ∀ a, (![0, o] : Fin 2 → ℕ) a + S1024x512.size a ≤ S1024x4096.size a)
    (inb' : ∀ a, (![0, o] : Fin 2 → ℕ) a + S512x512.size a ≤ S512x4096.size a) : View.Piece (Elt Ideal) S512x4096 .bf16 :=
  ⟨Rect.unit (s := S512x4096) ![0, o] S512x512.size inb',
    k0_pay5 (F := Ideal) x0 (View.ld x1 (Rect.unit (s := S1024x4096) ![0, o] S1024x512.size inb))⟩

/-- The projection stored by a point that starts a sequence, as its eight pieces. -/
theorem tiles_A (hc0 : cond0_0 i) : out0_A_5 (F := Ideal) c i arg1 harg1 arg2 harg2 arg3 harg3 arg4 harg4 arg5 harg5 arg6 harg6 arg7 harg7 arg8 harg8 hc0 x0 x1 x2 x3 x4
    = View.canon [tile x0 x1 3584 inb_S1024x4096_S1024x512_0_3584 inb_S512x4096_S512x512_0_3584,
      tile x0 x1 3072 inb_S1024x4096_S1024x512_0_3072 inb_S512x4096_S512x512_0_3072,
      tile x0 x1 2560 inb_S1024x4096_S1024x512_0_2560 inb_S512x4096_S512x512_0_2560,
      tile x0 x1 2048 inb_S1024x4096_S1024x512_0_2048 inb_S512x4096_S512x512_0_2048,
      tile x0 x1 1536 inb_S1024x4096_S1024x512_0_1536 inb_S512x4096_S512x512_0_1536,
      tile x0 x1 1024 inb_S1024x4096_S1024x512_0_1024 inb_S512x4096_S512x512_0_1024,
      tile x0 x1 512 inb_S1024x4096_S1024x512_0_512 inb_S512x4096_S512x512_0_512,
      tile x0 x1 0 inb_S1024x4096_S1024x512_0_0 inb_S512x4096_S512x512_0_0] := by
  have hz := Words.zeros
  unfold out0_A_5
  rw [View.read_writes_eq_canon _ _ _ (cover0_A_5 c i arg1 harg1 arg2 harg2 arg3 harg3 arg4 harg4 arg5 harg5 arg6 harg6 arg7 harg7 arg8 harg8 hc0 x0 x1 x2 x3 x4)]
  unfold kernelRun0_A
  dsimp only
  unfold kernelRun0_A.sl.r_1
  try unfold kernelRun0_A.sl.r
  rw [Words.whole_read x0 harg1 hz]
  simp only [View.readAt_eq_ld, harg2.read_unread]
  rfl

/-- The projection stored by a point that continues a sequence, as its eight pieces. -/
theorem tiles_B (hc0 : ¬cond0_0 i) (xs : Vec Ideal S1x16 .f32) : out0_B_5 (F := Ideal) c i arg1 harg1 arg2 harg2 arg3 harg3 arg4 harg4 arg5 harg5 arg6 harg6 arg7 harg7 arg8 harg8 hc0 x0 x1 x2 x3 x4 xs
    = View.canon [tile x0 x1 3584 inb_S1024x4096_S1024x512_0_3584 inb_S512x4096_S512x512_0_3584,
      tile x0 x1 3072 inb_S1024x4096_S1024x512_0_3072 inb_S512x4096_S512x512_0_3072,
      tile x0 x1 2560 inb_S1024x4096_S1024x512_0_2560 inb_S512x4096_S512x512_0_2560,
      tile x0 x1 2048 inb_S1024x4096_S1024x512_0_2048 inb_S512x4096_S512x512_0_2048,
      tile x0 x1 1536 inb_S1024x4096_S1024x512_0_1536 inb_S512x4096_S512x512_0_1536,
      tile x0 x1 1024 inb_S1024x4096_S1024x512_0_1024 inb_S512x4096_S512x512_0_1024,
      tile x0 x1 512 inb_S1024x4096_S1024x512_0_512 inb_S512x4096_S512x512_0_512,
      tile x0 x1 0 inb_S1024x4096_S1024x512_0_0 inb_S512x4096_S512x512_0_0] := by
  have hz := Words.zeros
  unfold out0_B_5
  rw [View.read_writes_eq_canon _ _ _ (cover0_B_5 c i arg1 harg1 arg2 harg2 arg3 harg3 arg4 harg4 arg5 harg5 arg6 harg6 arg7 harg7 arg8 harg8 hc0 x0 x1 x2 x3 x4 xs)]
  unfold kernelRun0_B
  dsimp only
  unfold kernelRun0_B.sl.r_1
  try unfold kernelRun0_B.sl.r
  rw [Words.whole_read x0 harg1 hz]
  simp only [View.readAt_eq_ld, harg2.read_unread]
  rfl

/-- Eight such pieces hold the product. -/
theorem tiles_eq : View.canon [tile x0 x1 3584 inb_S1024x4096_S1024x512_0_3584 inb_S512x4096_S512x512_0_3584,
      tile x0 x1 3072 inb_S1024x4096_S1024x512_0_3072 inb_S512x4096_S512x512_0_3072,
      tile x0 x1 2560 inb_S1024x4096_S1024x512_0_2560 inb_S512x4096_S512x512_0_2560,
      tile x0 x1 2048 inb_S1024x4096_S1024x512_0_2048 inb_S512x4096_S512x512_0_2048,
      tile x0 x1 1536 inb_S1024x4096_S1024x512_0_1536 inb_S512x4096_S512x512_0_1536,
      tile x0 x1 1024 inb_S1024x4096_S1024x512_0_1024 inb_S512x4096_S512x512_0_1024,
      tile x0 x1 512 inb_S1024x4096_S1024x512_0_512 inb_S512x4096_S512x512_0_512,
      tile x0 x1 0 inb_S1024x4096_S1024x512_0_0 inb_S512x4096_S512x512_0_0] = prod x0 x1 := by
  funext y
  have h0 : (y 0 : ℕ) < 512 := (y 0).isLt
  have h1 : (y 1 : ℕ) < 4096 := (y 1).isLt
  have key : ∀ (o : ℕ) (inb : ∀ a, (![0, o] : Fin 2 → ℕ) a + S512x512.size a ≤ S512x4096.size a), o ≤ (y 1 : ℕ) → (y 1 : ℕ) < o + 512 →
      y ∈ (Rect.unit (s := S512x4096) ![0, o] S512x512.size inb).set := fun o inb hl hu => by
    rw [Rect.mem_set_unit]
    intro a
    match a with
    | ⟨0, _⟩ => show 0 ≤ (y 0 : ℕ) ∧ (y 0 : ℕ) < 0 + 512; omega
    | ⟨1, _⟩ => exact ⟨hl, hu⟩
  refine View.canon_apply_of_pieces (prod x0 x1) _ (fun p hp x => ?_) y ?_
  · simp only [List.mem_cons, List.not_mem_nil, or_false] at hp
    rcases hp with rfl | rfl | rfl | rfl | rfl | rfl | rfl | rfl
    · exact piece 3584 inb_S1024x4096_S1024x512_0_3584 inb_S512x4096_S512x512_0_3584 x0 x1 x
    · exact piece 3072 inb_S1024x4096_S1024x512_0_3072 inb_S512x4096_S512x512_0_3072 x0 x1 x
    · exact piece 2560 inb_S1024x4096_S1024x512_0_2560 inb_S512x4096_S512x512_0_2560 x0 x1 x
    · exact piece 2048 inb_S1024x4096_S1024x512_0_2048 inb_S512x4096_S512x512_0_2048 x0 x1 x
    · exact piece 1536 inb_S1024x4096_S1024x512_0_1536 inb_S512x4096_S512x512_0_1536 x0 x1 x
    · exact piece 1024 inb_S1024x4096_S1024x512_0_1024 inb_S512x4096_S512x512_0_1024 x0 x1 x
    · exact piece 512 inb_S1024x4096_S1024x512_0_512 inb_S512x4096_S512x512_0_512 x0 x1 x
    · exact piece 0 inb_S1024x4096_S1024x512_0_0 inb_S512x4096_S512x512_0_0 x0 x1 x
  · by_cases h3584 : 3584 ≤ (y 1 : ℕ)
    · exact ⟨_, .head _, key 3584 inb_S512x4096_S512x512_0_3584 h3584 (by omega)⟩
    by_cases h3072 : 3072 ≤ (y 1 : ℕ)
    · exact ⟨_, .tail _ (.head _), key 3072 inb_S512x4096_S512x512_0_3072 h3072 (by omega)⟩
    by_cases h2560 : 2560 ≤ (y 1 : ℕ)
    · exact ⟨_, .tail _ (.tail _ (.head _)), key 2560 inb_S512x4096_S512x512_0_2560 h2560 (by omega)⟩
    by_cases h2048 : 2048 ≤ (y 1 : ℕ)
    · exact ⟨_, .tail _ (.tail _ (.tail _ (.head _))), key 2048 inb_S512x4096_S512x512_0_2048 h2048 (by omega)⟩
    by_cases h1536 : 1536 ≤ (y 1 : ℕ)
    · exact ⟨_, .tail _ (.tail _ (.tail _ (.tail _ (.head _)))), key 1536 inb_S512x4096_S512x512_0_1536 h1536 (by omega)⟩
    by_cases h1024 : 1024 ≤ (y 1 : ℕ)
    · exact ⟨_, .tail _ (.tail _ (.tail _ (.tail _ (.tail _ (.head _))))), key 1024 inb_S512x4096_S512x512_0_1024 h1024 (by omega)⟩
    by_cases h512 : 512 ≤ (y 1 : ℕ)
    · exact ⟨_, .tail _ (.tail _ (.tail _ (.tail _ (.tail _ (.tail _ (.head _)))))), key 512 inb_S512x4096_S512x512_0_512 h512 (by omega)⟩
    exact ⟨_, .tail _ (.tail _ (.tail _ (.tail _ (.tail _ (.tail _ (.tail _ (.head _))))))), key 0 inb_S512x4096_S512x512_0_0 (by omega) (by omega)⟩

/-- A point that starts a sequence stores the product of its rows and the weights. -/
theorem out5_A (hc0 : cond0_0 i) : out0_A_5 (F := Ideal) c i arg1 harg1 arg2 harg2 arg3 harg3 arg4 harg4 arg5 harg5 arg6 harg6 arg7 harg7 arg8 harg8 hc0 x0 x1 x2 x3 x4 = prod x0 x1 :=
  (tiles_A c i arg1 harg1 arg2 harg2 arg3 harg3 arg4 harg4 arg5 harg5 arg6 harg6 arg7 harg7 arg8 harg8 x0 x1 x2 x3 x4 hc0 ).trans (tiles_eq x0 x1)

/-- A point that continues a sequence stores the product of its rows and the weights. -/
theorem out5_B (hc0 : ¬cond0_0 i) (xs : Vec Ideal S1x16 .f32) : out0_B_5 (F := Ideal) c i arg1 harg1 arg2 harg2 arg3 harg3 arg4 harg4 arg5 harg5 arg6 harg6 arg7 harg7 arg8 harg8 hc0 x0 x1 x2 x3 x4 xs = prod x0 x1 :=
  (tiles_B c i arg1 harg1 arg2 harg2 arg3 harg3 arg4 harg4 arg5 harg5 arg6 harg6 arg7 harg7 arg8 harg8 x0 x1 x2 x3 x4 hc0 xs).trans (tiles_eq x0 x1)

end Cert.GateIdeal.Block

end
-- ==== Proof.GateArray.lean ====
module

public import proofs.«01_k».proof.Proof.GateSums
public import proofs.«01_k».proof.Proof.GateBlock
public import proofs.«01_k».proof.Proof.ProjSpec
public import proofs.«01_k».proof.Proof.Gen.GateIdeal.Value

@[expose] public section

set_option synthInstance.maxSize 4096
set_option maxRecDepth 16384

/-!
The result arrays of the kernel that projects and gates: every element of the first is the projection's formula, every element of the
second the running sum of the gates' logarithms.
-/

noncomputable section

namespace Cert.GateIdeal.Array

open Idealize.ShloMosaic Idealize.ShloMosaic.TcCoe Idealize.SL.Sem Cert.GateIdeal.Gen Cert.GateIdeal.Value
  Cert.GateIdeal.Block

variable (m : (ℓ : Loc nD τ sig) → Buf (Elt Ideal) ℓ) (c : Dev nD)

/-- Where the block of activations lies. -/
theorem idx0 : ∀ t : Fin grid0.N, win0_0.index t 0 = t.val ∧ win0_0.index t 1 = 0 := by decide +kernel
/-- Where the weights of the projection lie. -/
theorem idx1 : ∀ t : Fin grid0.N, win0_1.index t 0 = 0 ∧ win0_1.index t 1 = 0 := by decide +kernel
/-- Where the weights of the gates lie. -/
theorem idx2 : ∀ t : Fin grid0.N, win0_2.index t 0 = 0 ∧ win0_2.index t 1 = 0 := by decide +kernel
/-- Where the bias lies. -/
theorem idx3 : ∀ t : Fin grid0.N, win0_3.index t 0 = 0 ∧ win0_3.index t 1 = 0 := by decide +kernel
/-- Where the triangle lies. -/
theorem idx4 : ∀ t : Fin grid0.N, win0_4.index t 0 = 0 ∧ win0_4.index t 1 = 0 := by decide +kernel
/-- Where the block of projections lies. -/
theorem idx5 : ∀ t : Fin grid0.N, win0_5.index t 0 = t.val ∧ win0_5.index t 1 = 0 := by decide +kernel
/-- Where the block of running sums lies. -/
theorem idx6 : ∀ t : Fin grid0.N, win0_6.index t 0 = t.val ∧ win0_6.index t 1 = 0 := by decide +kernel

/-- The factors of the columns, as the host lays them out. -/
def factors : FVec Ideal S4096 .f32 :=
  concatenate S4096 0 [⟨S1024, broadcastInDim S1024 ![] bcast_S_S1024 (constant (F := Ideal) S_ .f32 0x3E000000#32)⟩,
    ⟨S3072, broadcastInDim S3072 ![] bcast_S_S3072 (constant (F := Ideal) S_ .f32 0x3F800000#32)⟩] concatenates_S1024_S3072_S4096_d0

/-- A column's factor. -/
theorem factors_apply (e : Fin 4096) : factors (ix1 e) = ProjSpec.factor e := by
  unfold ProjSpec.factor ProjSpec.eighth
  pointwise [factors]
  rfl

/-- The weights times their columns' factors. -/
def scaled (w : FVec Ideal S1024x4096 .f32) : FVec Ideal S1024x4096 .bf16 :=
  truncf .bf16 (mulf w (broadcastInDim S1024x4096 ![0, 1] bcast_S1x4096_S1024x4096_0_1
    (broadcastInDim S1x4096 ![1] bcast_S4096_S1x4096_1 factors))) bitsLt_bf16_f32

/-- A scaled weight. -/
theorem scaled_apply (w : FVec Ideal S1024x4096 .f32) (k : Fin 1024) (e : Fin 4096) :
    scaled w (ix2 k e) = w (ix2 k e) * ProjSpec.factor e := by
  rw [← factors_apply]
  pointwise [scaled]

/-- The gates' weights rounded, and beside them what the rounding left. -/
def halves (w : FVec Ideal S1024x16 .f32) : FVec Ideal S1024x32 .bf16 :=
  concatenate S1024x32 1 [⟨S1024x16, truncf .bf16 w bitsLt_bf16_f32⟩,
    ⟨S1024x16, truncf .bf16 (subf w (extf .f32 (truncf .bf16 w bitsLt_bf16_f32) bitsLt_bf16_f32)) bitsLt_bf16_f32⟩]
    concatenates_S1024x16_S1024x16_S1024x32_d1

/-- The first half holds the weights. -/
theorem halves_high (w : FVec Ideal S1024x16 .f32) (k : Fin 1024) (h : Fin 16) : halves w (ix2 k ⟨h.val, by omega⟩) = w (ix2 k h) := by
  unfold halves
  refine (concatenate_apply_piece _ _ _ (ix2 k (⟨h.val, by omega⟩ : Fin 32)) 0 (by show 0 < 2; omega) S1024x16 (truncf .bf16 w bitsLt_bf16_f32) rfl rfl 0 rfl
    (ix2 k h) (fun b hb => ?_) ?_).trans ?_
  · match b with
    | ⟨0, _⟩ => rfl
    | ⟨1, _⟩ => exact absurd rfl hb
  · show 0 + h.val = h.val; omega
  · rfl

/-- The second half holds the weights less themselves. -/
theorem halves_low (w : FVec Ideal S1024x16 .f32) (k : Fin 1024) (h : Fin 16) : halves w (ix2 k ⟨16 + h.val, by omega⟩) = w (ix2 k h) - w (ix2 k h) := by
  unfold halves
  refine (concatenate_apply_piece _ _ _ (ix2 k (⟨16 + h.val, by omega⟩ : Fin 32)) 1 (by show 1 < 2; omega) S1024x16
    (truncf .bf16 (subf w (extf .f32 (truncf .bf16 w bitsLt_bf16_f32) bitsLt_bf16_f32)) bitsLt_bf16_f32) rfl rfl 16 rfl
    (ix2 k h) (fun b hb => ?_) ?_).trans ?_
  · match b with
    | ⟨0, _⟩ => rfl
    | ⟨1, _⟩ => exact absurd rfl hb
  · rfl
  · rfl

/-- The bias as a row. -/
def row (b : FVec Ideal S16 .f32) : FVec Ideal S1x16 .f32 := shapeCast S1x16 b shapeCasts_S16_S1x16

/-- An entry of the row. -/
theorem row_apply (b : FVec Ideal S16 .f32) (h : Fin 16) : row b (ix2 0 h) = b (ix1 h) := by
  pointwise [row]

/-- The triangle of ones: a row's positions up to its own. -/
def triangle : FVec Ideal S512x512 .bf16 :=
  uitofp (F := Ideal) .bf16 (cmpi .sge (broadcastInDim S512x512 ![0, 1] bcast_S512x1_S512x512_0_1 (broadcastInDim S512x1 ![0] bcast_S512_S512x1_0 (iotaInDim S512 32 0)))
    (broadcastInDim S512x512 ![0, 1] bcast_S1x512_S512x512_0_1 (broadcastInDim S1x512 ![1] bcast_S512_S1x512_1 (iotaInDim S512 32 0))))

/-- An entry of the triangle. -/
theorem triangle_apply (r j : Fin 512) : triangle (ix2 r j) = if j.val ≤ r.val then (1 : EReal) else 0 := by
  have hr := r.isLt
  have hj := j.isLt
  have e : triangle (ix2 r j) = (((IntOp.cmpi .sge (BitVec.ofNat 32 r.val) (BitVec.ofNat 32 j.val)).toNat : ℝ) : EReal) := by
    rfl
  rw [e]
  by_cases h : j.val ≤ r.val
  · rw [if_pos h, (WordCmp.cmpi_sge_ofNat_eq_one_iff (w := 32) (by omega) (by omega)).2 h]
    simp
  · rw [if_neg h, (WordCmp.cmpi_sge_ofNat_eq_zero_iff (w := 32) (by omega) (by omega)).2 h]
    simp

/-- The argument's weights. -/
def weights : FVec Ideal S1024x4096 .f32 := m ((c : Thread nD τ).loc main_arg1)

/-- The weights the host hands the kernel. -/
theorem weight_eq : V m c main_v18 = scaled (weights m c) := by
  unfold V hostOps0
  after_results_simp
  rfl

/-- The gates' weights the host hands the kernel. -/
theorem halves_eq : V m c main_v19 = halves (m ((c : Thread nD τ).loc main_arg2)) := by
  unfold V hostOps0
  after_results_simp
  rfl

/-- The bias the host hands the kernel. -/
theorem row_eq : V m c main_v20 = row (m ((c : Thread nD τ).loc main_arg3)) := by
  unfold V hostOps0
  after_results_simp
  rfl

/-- The triangle the host hands the kernel. -/
theorem triangle_eq : V m c main_v7 = triangle := by
  unfold V hostOps0
  after_results_simp
  rfl

/-- The grid has 128 points, of 512 rows each. -/
theorem row_lt (t : Fin grid0.N) (r : Fin 512) : 512 * t.val + r.val < 65536 := by
  have h : t.val < 128 := t.isLt
  omega

/-- The block of activations. -/
theorem x_apply (t : Fin grid0.N) (r : Fin 512) (k : Fin 1024) : (iblk m c 0 t : Vec Ideal S512x1024 .f32) (ix2 r k)
    = (m ((c : Thread nD τ).loc main_arg0) : Vec Ideal S65536x1024 .f32) (ix2 ⟨512 * t.val + r.val, row_lt t r⟩ k) := by
  skip
  unfold iblk
  rw [View.read_apply]
  show V m c main_arg0 _ = _
  rw [V_main_arg0]
  congr 1
  funext a
  apply Fin.ext
  match a with
  | ⟨0, _⟩ => show win0_0.index t 0 * 512 + 1 * r.val = _; rw [(idx0 t).1]; show _ = 512 * t.val + r.val; omega
  | ⟨1, _⟩ => show win0_0.index t 1 * 1024 + 1 * k.val = _; rw [(idx0 t).2]; show _ = k.val; omega

/-- The block of weights. -/
theorem w_apply (t : Fin grid0.N) (k : Fin 1024) (e : Fin 4096) : (iblk m c 1 t : Vec Ideal S1024x4096 .bf16) (ix2 k e)
    = weights m c (ix2 k e) * ProjSpec.factor e := by
  refine Eq.trans ?_ (scaled_apply _ k e)
  rw [← weight_eq]
  unfold iblk
  rw [View.read_apply]
  show V m c main_v18 _ = _
  skip
  congr 1
  funext a
  apply Fin.ext
  match a with
  | ⟨0, _⟩ => show win0_1.index t 0 * 1024 + 1 * k.val = _; rw [(idx1 t).1]; show _ = k.val; omega
  | ⟨1, _⟩ => show win0_1.index t 1 * 4096 + 1 * e.val = _; rw [(idx1 t).2]; show _ = e.val; omega

/-- The block of the gates' weights. -/
theorem wf_apply (t : Fin grid0.N) (k : Fin 1024) (e : Fin 32) : (iblk m c 2 t : Vec Ideal S1024x32 .bf16) (ix2 k e)
    = halves (m ((c : Thread nD τ).loc main_arg2)) (ix2 k e) := by
  rw [← halves_eq]
  unfold iblk
  rw [View.read_apply]
  show V m c main_v19 _ = _
  skip
  congr 1
  funext a
  apply Fin.ext
  match a with
  | ⟨0, _⟩ => show win0_2.index t 0 * 1024 + 1 * k.val = _; rw [(idx2 t).1]; show _ = k.val; omega
  | ⟨1, _⟩ => show win0_2.index t 1 * 32 + 1 * e.val = _; rw [(idx2 t).2]; show _ = e.val; omega

/-- The block of the bias. -/
theorem b_apply (t : Fin grid0.N) (z : Fin 1) (h : Fin 16) : (iblk m c 3 t : Vec Ideal S1x16 .f32) (ix2 z h)
    = row (m ((c : Thread nD τ).loc main_arg3)) (ix2 z h) := by
  rw [← row_eq]
  unfold iblk
  rw [View.read_apply]
  show V m c main_v20 _ = _
  skip
  congr 1
  funext a
  apply Fin.ext
  match a with
  | ⟨0, _⟩ => show win0_3.index t 0 * 1 + 1 * z.val = _; rw [(idx3 t).1]; show _ = z.val; omega
  | ⟨1, _⟩ => show win0_3.index t 1 * 16 + 1 * h.val = _; rw [(idx3 t).2]; show _ = h.val; omega

/-- The block of the triangle. -/
theorem t_apply (t : Fin grid0.N) (r j : Fin 512) : (iblk m c 4 t : Vec Ideal S512x512 .bf16) (ix2 r j)
    = triangle (ix2 r j) := by
  rw [← triangle_eq m c]
  unfold iblk
  rw [View.read_apply]
  show V m c main_v7 _ = _
  skip
  congr 1
  funext a
  apply Fin.ext
  match a with
  | ⟨0, _⟩ => show win0_4.index t 0 * 512 + 1 * r.val = _; rw [(idx4 t).1]; show _ = r.val; omega
  | ⟨1, _⟩ => show win0_4.index t 1 * 512 + 1 * j.val = _; rw [(idx4 t).2]; show _ = j.val; omega

/-- The projection of the arguments. -/
def result : Buf (Elt Ideal) ((c : Thread nD τ).loc main_v21_0) := fun j : S65536x4096.Idx =>
  ProjSpec.value (fun n k => (m ((c : Thread nD τ).loc main_arg0) : Vec Ideal S65536x1024 .f32) (ix2 n k))
    (fun k e => weights m c (ix2 k e)) (j 0) (j 1)

/-- What a point stores of the projection. -/
theorem stored5 (t : Fin cfg0.N) : (dats m 0 c).flushed 5 t = (cfg0.win 5).cut (grid0.coords t) (prod (iblk m c 0 t) (iblk m c 1 t)) := by
  by_cases h0 : t.val % 16 = 0
  · refine (flushed5_A m c t h0).trans ?_
    rw [out5_A]
  · refine (flushed5_B m c t h0).trans ?_
    rw [out5_B]

/-- WHAT A POINT WRITES BACK of the projection is its block of it. -/
theorem flushed5_eq' (t : Fin cfg0.N) (_ : (cfg0.win 5).flush t = true) :
    (dats m 0 c).flushed 5 t = ((cfg0.win 5).blk t).view.read (Elt Ideal) (result m c) := by
  refine (stored5 m c t).trans ?_
  refine funext fun (j : S512x4096.Idx) => ?_
  rw [View.read_apply]
  obtain ⟨r, e, rfl⟩ : ∃ (r : Fin 512) (e : Fin 4096), j = ix2 r e := ⟨j 0, j 1, by
    funext a; match a with | ⟨0, _⟩ => rfl | ⟨1, _⟩ => rfl⟩
  have e0 : (((cfg0.win 5).blk t).view.emb (ix2 r e) : S65536x4096.Idx) = ix2 ⟨512 * t.val + r.val, row_lt t r⟩ e := by
    funext a
    apply Fin.ext
    match a with
    | ⟨0, _⟩ => show win0_5.index t 0 * 512 + 1 * r.val = 512 * t.val + r.val; rw [(idx5 t).1]; omega
    | ⟨1, _⟩ => show win0_5.index t 1 * 4096 + 1 * e.val = e.val; rw [(idx5 t).2]; omega
  show prod (iblk m c 0 t) (iblk m c 1 t) (ix2 r e) = result m c (((cfg0.win 5).blk t).view.emb (ix2 r e) : S65536x4096.Idx)
  rw [e0]
  unfold result
  refine Eq.trans ?_ (ProjSpec.scaled_eq _ _ _ _)
  unfold prod
  exact Finset.sum_congr rfl fun k _ => congrArg₂ (fun a b : EReal => a * b) (x_apply m c t r k) (w_apply m c t k e)

/-- THE FIRST RESULT ARRAY ends holding the projection. -/
theorem final5 : (dats m 0 c).arrAt 5 cfg0.N = result m c :=
  (dats m 0 c).arrAt_eq_of_cover 5 (result m c) (flushed5_eq' m c) fun i => by
    have h0 : (i 0 : ℕ) < 65536 := (i 0).isLt
    have h1 : (i 1 : ℕ) < 4096 := (i 1).isLt
    obtain ⟨t, ht⟩ : ∃ t : Fin grid0.N, t.val = (i 0 : ℕ) / 512 := ⟨⟨(i 0 : ℕ) / 512, by show _ < 128; omega⟩, rfl⟩
    refine ⟨t, flush0_5 t, ?_⟩
    show i ∈ ((View.whole main_v21_0).slice (win0_5.rect t)).set
    rw [View.set_slice_whole, Rect.mem_set_unit]
    intro a
    match a with
    | ⟨0, _⟩ =>
      show win0_5.index t 0 * 512 ≤ (i 0 : ℕ) ∧ (i 0 : ℕ) < win0_5.index t 0 * 512 + 512
      rw [(idx5 t).1]; omega
    | ⟨1, _⟩ =>
      show win0_5.index t 1 * 4096 ≤ (i 1 : ℕ) ∧ (i 1 : ℕ) < win0_5.index t 1 * 4096 + 4096
      rw [(idx5 t).2]; omega

/-- The activations, the gates' weights are the real numbers `x` and `w`; the bias is `b`. -/
def ArgsReal (x w : ℕ → ℕ → ℝ) (b : ℕ → EReal) : Prop :=
  (∀ (n : Fin 65536) (k : Fin 1024), (m ((c : Thread nD τ).loc main_arg0) : FVec Ideal S65536x1024 .f32) (ix2 n k) = ((x n.val k.val : ℝ) : EReal))
    ∧ (∀ (k : Fin 1024) (h : Fin 16), (m ((c : Thread nD τ).loc main_arg2) : FVec Ideal S1024x16 .f32) (ix2 k h) = ((w k.val h.val : ℝ) : EReal))
    ∧ ∀ h : Fin 16, (m ((c : Thread nD τ).loc main_arg3) : FVec Ideal S16 .f32) (ix1 h) = b h.val

variable (x w : ℕ → ℕ → ℝ) (b : ℕ → EReal) (H : ArgsReal m c x w b)

/-- The gate's logarithm at a row. -/
abbrev ell (h : ℕ) : ℕ → EReal := fun n => GateSpec.logGate (GateSpec.logit x w b n h)

include H in
/-- A point that finds carried the sum of the sequence's rows before its own computes the running sums. -/
theorem point (t : Fin grid0.N) (xs : FVec Ideal S1x16 .f32) (hc : ∀ h : Fin 16, xs (ix2 0 h) = GateSpec.before (ell x w b h.val) t.val)
    (r : Fin 512) (h : Fin 16) :
    Words.sums (iblk m c 0 t) (iblk m c 2 t) (iblk m c 3 t) (iblk m c 4 t) xs (ix2 r h) = GateSpec.value x w b (512 * t.val + r.val) h.val := by
  refine (Sums.sums_apply (iblk m c 0 t) (iblk m c 2 t) (iblk m c 3 t) (iblk m c 4 t) xs (fun i k => x (512 * t.val + i) k) w b
    (fun h => GateSpec.before (ell x w b h) t.val) (fun r k => (x_apply m c t r k).trans (H.1 _ _))
    (fun k h => (wf_apply m c t k _).trans ((halves_high _ k h).trans (H.2.1 k h)))
    (fun k h => (wf_apply m c t k _).trans ((halves_low _ k h).trans ?_))
    (fun h => (b_apply m c t 0 h).trans ((row_apply _ h).trans (H.2.2 h)))
    (fun r j => (t_apply m c t r j).trans (triangle_apply r j)) hc r h).trans ?_
  · rw [H.2.1 k h]; exact Sums.sub_self_coe _
  · exact (GateSpec.running_block (ell x w b h.val) t.val r.val r.isLt)

/-- What a point finds carried: zeros if it starts a sequence. -/
theorem start (t : Fin grid0.N) (h0 : t.val % 16 = 0) (h : Fin 16) :
    k0_pay2 (F := Ideal) (ix2 0 h) = GateSpec.before (ell x w b h.val) t.val := by
  rw [Sums.zeros_apply, GateSpec.before_first _ _ h0]

include H in
/-- WHAT IS CARRIED after a point: the running sums at its last row. -/
theorem carried : ∀ (n : ℕ) (hn : n < cfg0.N) (h : Fin 16),
    ((outsAt0 m c n hn).2.2 : FVec Ideal S1x16 .f32) (ix2 0 h) = GateSpec.value x w b (512 * n + 511) h.val := by
  intro n
  induction n with
  | zero =>
    intro hn h
    let t : Fin cfg0.N := ⟨0, hn⟩
    have e : (outsAt0 m c 0 hn).2.2 = k0_pay1 (Words.sums (iblk m c 0 t) (iblk m c 2 t) (iblk m c 3 t) (iblk m c 4 t) (k0_pay2 (F := Ideal))) := by
      have e := congrArg (fun p => p.2.2) (outsAt0_A m c t rfl)
      exact e.trans (Words.carry_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t) ((hcond0_0 t).mpr rfl))
    rw [e]
    exact (Sums.last_apply _ h).trans (point m c x w b H t _ (start x w b t rfl) _ h)
  | succ n ih =>
    intro hn h
    let t : Fin cfg0.N := ⟨n + 1, hn⟩
    by_cases h0 : (n + 1) % 16 = 0
    · have e : (outsAt0 m c (n + 1) hn).2.2 = k0_pay1 (Words.sums (iblk m c 0 t) (iblk m c 2 t) (iblk m c 3 t) (iblk m c 4 t) (k0_pay2 (F := Ideal))) := by
        have e := congrArg (fun p => p.2.2) (outsAt0_A m c t h0)
        exact e.trans (Words.carry_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t) ((hcond0_0 t).mpr h0))
      rw [e]
      exact (Sums.last_apply _ h).trans (point m c x w b H t _ (start x w b t h0) _ h)
    · have e : (outsAt0 m c (n + 1) hn).2.2 = k0_pay1 (Words.sums (iblk m c 0 t) (iblk m c 2 t) (iblk m c 3 t) (iblk m c 4 t)
          (outsAt0 m c n (Nat.lt_of_succ_lt hn)).2.2) := by
        have e := congrArg (fun p => p.2.2) (outsAt0_B m c t h0)
        exact e.trans (Words.carry_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t) (fun h => h0 ((hcond0_0 t).mp h)) _)
      rw [e]
      refine (Sums.last_apply _ h).trans (point m c x w b H t _ (fun h => (ih _ h).trans ?_) _ h)
      exact (GateSpec.before_next (ell x w b h.val) (n + 1) h0).symm

/-- The running sums. -/
def running : Buf (Elt Ideal) ((c : Thread nD τ).loc main_v21_1) := fun j : S65536x16.Idx =>
  GateSpec.value x w b (j 0).val (j 1).val

include H in
/-- What a point stores of the running sums. -/
theorem stored6 (t : Fin cfg0.N) : ∃ xs : FVec Ideal S1x16 .f32, (∀ h : Fin 16, xs (ix2 0 h) = GateSpec.before (ell x w b h.val) t.val)
    ∧ (dats m 0 c).flushed 6 t = (cfg0.win 6).cut (grid0.coords t) (Words.sums (iblk m c 0 t) (iblk m c 2 t) (iblk m c 3 t) (iblk m c 4 t) xs) := by
  by_cases h0 : t.val % 16 = 0
  · refine ⟨k0_pay2 (F := Ideal), start x w b t h0, (flushed6_A m c t h0).trans ?_⟩
    rw [Words.out6_A]
  · refine ⟨(outsAt0 m c (t.val - 1) (Nat.lt_of_le_of_lt (Nat.sub_le _ _) t.isLt)).2.2, fun h => (carried m c x w b H _ _ h).trans ?_, (flushed6_B m c t h0).trans ?_⟩
    · exact (GateSpec.before_next (ell x w b h.val) t.val h0).symm
    · rw [Words.out6_B]

include H in
/-- WHAT A POINT WRITES BACK of the running sums is its block of them. -/
theorem flushed6_eq' (t : Fin cfg0.N) (_ : (cfg0.win 6).flush t = true) :
    (dats m 0 c).flushed 6 t = ((cfg0.win 6).blk t).view.read (Elt Ideal) (running c x w b) := by
  obtain ⟨xs, hxs, hf⟩ := stored6 m c x w b H t
  refine hf.trans ?_
  refine funext fun (j : S512x16.Idx) => ?_
  rw [View.read_apply]
  obtain ⟨r, h, rfl⟩ : ∃ (r : Fin 512) (h : Fin 16), j = ix2 r h := ⟨j 0, j 1, by
    funext a; match a with | ⟨0, _⟩ => rfl | ⟨1, _⟩ => rfl⟩
  have e0 : (((cfg0.win 6).blk t).view.emb (ix2 r h) : S65536x16.Idx) = ix2 ⟨512 * t.val + r.val, row_lt t r⟩ h := by
    funext a
    apply Fin.ext
    match a with
    | ⟨0, _⟩ => show win0_6.index t 0 * 512 + 1 * r.val = 512 * t.val + r.val; rw [(idx6 t).1]; omega
    | ⟨1, _⟩ => show win0_6.index t 1 * 16 + 1 * h.val = h.val; rw [(idx6 t).2]; omega
  show Words.sums (iblk m c 0 t) (iblk m c 2 t) (iblk m c 3 t) (iblk m c 4 t) xs (ix2 r h)
    = running c x w b (((cfg0.win 6).blk t).view.emb (ix2 r h) : S65536x16.Idx)
  rw [e0]
  exact point m c x w b H t xs hxs r h

include H in
/-- THE SECOND RESULT ARRAY ends holding the running sums. -/
theorem final6 : (dats m 0 c).arrAt 6 cfg0.N = running c x w b :=
  (dats m 0 c).arrAt_eq_of_cover 6 (running c x w b) (flushed6_eq' m c x w b H) fun i => by
    have h0 : (i 0 : ℕ) < 65536 := (i 0).isLt
    have h1 : (i 1 : ℕ) < 16 := (i 1).isLt
    obtain ⟨t, ht⟩ : ∃ t : Fin grid0.N, t.val = (i 0 : ℕ) / 512 := ⟨⟨(i 0 : ℕ) / 512, by show _ < 128; omega⟩, rfl⟩
    refine ⟨t, flush0_6 t, ?_⟩
    show i ∈ ((View.whole main_v21_1).slice (win0_6.rect t)).set
    rw [View.set_slice_whole, Rect.mem_set_unit]
    intro a
    match a with
    | ⟨0, _⟩ =>
      show win0_6.index t 0 * 512 ≤ (i 0 : ℕ) ∧ (i 0 : ℕ) < win0_6.index t 0 * 512 + 512
      rw [(idx6 t).1]; omega
    | ⟨1, _⟩ =>
      show win0_6.index t 1 * 16 ≤ (i 1 : ℕ) ∧ (i 1 : ℕ) < win0_6.index t 1 * 16 + 16
      rw [(idx6 t).2]; omega

end Cert.GateIdeal.Array

end
-- ==== Proof.GateRef.lean ====
module

public import proofs.«01_k».proof.Proof.ProjSpec
public import proofs.«01_k».proof.Proof.GateSpec
public import proofs.«01_k».proof.Proof.Gen.GateRefIdeal.Run
public import Idealize.ShloMosaic.Lib.Pipeline.Value

@[expose] public section

set_option synthInstance.maxSize 4096
set_option maxRecDepth 16384

/-!
The reference of the projection and the gates, step by step.
-/

noncomputable section

namespace Cert.GateRefIdeal.Steps

open Idealize.ShloMosaic Idealize.ShloMosaic.TcCoe Idealize.SL.Sem Cert.GateRefIdeal.Gen Cert.GateRefIdeal.Value

/-- The product of the activations and the weights. -/
def product (x : FVec Ideal S65536x1024 .f32) (w : FVec Ideal S1024x4096 .f32) : FVec Ideal S65536x4096 .f32 :=
  Host.dotGeneral dot_S65536x1024_S1024x4096_S65536x4096_1_0_0_1_n_n none x w

/-- An entry of the product. -/
theorem product_apply (x : FVec Ideal S65536x1024 .f32) (w : FVec Ideal S1024x4096 .f32) (n : Fin 65536) (e : Fin 4096) :
    product x w (ix2 n e) = ∑ k : Fin 1024, x (ix2 n k) * w (ix2 k e) := by
  pointwise [product]

/-- The queries' columns, scaled. -/
def queries (p : FVec Ideal S65536x4096 .f32) : FVec Ideal S65536x1024 .f32 :=
  mulf (extractStridedSlice S65536x1024 ![0, 0] p slices_S65536x4096_S65536x1024_0_0)
    (broadcastInDim S65536x1024 ![] bcast_S_S65536x1024 (constant S_ .f32 0x3E000000#32))

/-- A scaled query's entry. -/
theorem queries_apply (p : FVec Ideal S65536x4096 .f32) (n : Fin 65536) (e : Fin 1024) :
    queries p (ix2 n e) = p (ix2 n ⟨e.val, by omega⟩) * ProjSpec.eighth := by
  unfold ProjSpec.eighth
  pointwise [queries]

/-- The four parts side by side. -/
def joined (p : FVec Ideal S65536x4096 .f32) : FVec Ideal S65536x4096 .f32 :=
  concatenate S65536x4096 1 [⟨S65536x1024, queries p⟩,
    ⟨S65536x1024, extractStridedSlice S65536x1024 ![0, 1024] p slices_S65536x4096_S65536x1024_0_1024⟩,
    ⟨S65536x1024, extractStridedSlice S65536x1024 ![0, 2048] p slices_S65536x4096_S65536x1024_0_2048⟩,
    ⟨S65536x1024, extractStridedSlice S65536x1024 ![0, 3072] p slices_S65536x4096_S65536x1024_0_3072⟩]
    concatenates_S65536x1024_S65536x1024_S65536x1024_S65536x1024_S65536x4096_d1

/-- An entry of the four parts side by side. -/
theorem joined_apply (p : FVec Ideal S65536x4096 .f32) (n : Fin 65536) (e : Fin 4096) :
    joined p (ix2 n e) = if e.val < 1024 then p (ix2 n e) * ProjSpec.eighth else p (ix2 n e) := by
  have he := e.isLt
  unfold joined
  by_cases h0 : e.val < 1024
  · rw [if_pos h0]
    refine (concatenate_apply_piece _ _ _ (ix2 n e) 0 (by show 0 < 4; omega) S65536x1024 (queries p) rfl rfl 0 rfl
      (ix2 n ⟨e.val, h0⟩) (fun b hb => ?_) ?_).trans (queries_apply p n ⟨e.val, h0⟩)
    · match b with
      | ⟨0, _⟩ => rfl
      | ⟨1, _⟩ => exact absurd rfl hb
    · show 0 + e.val = e.val; omega
  · rw [if_neg h0]
    by_cases h1 : e.val < 2048
    · refine (concatenate_apply_piece _ _ _ (ix2 n e) 1 (by show 1 < 4; omega) S65536x1024
        (extractStridedSlice S65536x1024 ![0, 1024] p slices_S65536x4096_S65536x1024_0_1024) rfl rfl 1024 rfl
        (ix2 n ⟨e.val - 1024, by omega⟩) (fun b hb => ?_) ?_).trans ?_
      · match b with
        | ⟨0, _⟩ => rfl
        | ⟨1, _⟩ => exact absurd rfl hb
      · show 1024 + (e.val - 1024) = e.val; omega
      · show p _ = p _
        refine congrArg p ?_
        funext a
        apply Fin.ext
        match a with
        | ⟨0, _⟩ => show 0 + n.val = n.val; omega
        | ⟨1, _⟩ => show 1024 + (e.val - 1024) = e.val; omega
    · by_cases h2 : e.val < 3072
      · refine (concatenate_apply_piece _ _ _ (ix2 n e) 2 (by show 2 < 4; omega) S65536x1024
          (extractStridedSlice S65536x1024 ![0, 2048] p slices_S65536x4096_S65536x1024_0_2048) rfl rfl 2048 rfl
          (ix2 n ⟨e.val - 2048, by omega⟩) (fun b hb => ?_) ?_).trans ?_
        · match b with
          | ⟨0, _⟩ => rfl
          | ⟨1, _⟩ => exact absurd rfl hb
        · show 2048 + (e.val - 2048) = e.val; omega
        · show p _ = p _
          refine congrArg p ?_
          funext a
          apply Fin.ext
          match a with
          | ⟨0, _⟩ => show 0 + n.val = n.val; omega
          | ⟨1, _⟩ => show 2048 + (e.val - 2048) = e.val; omega
      · refine (concatenate_apply_piece _ _ _ (ix2 n e) 3 (by show 3 < 4; omega) S65536x1024
          (extractStridedSlice S65536x1024 ![0, 3072] p slices_S65536x4096_S65536x1024_0_3072) rfl rfl 3072 rfl
          (ix2 n ⟨e.val - 3072, by omega⟩) (fun b hb => ?_) ?_).trans ?_
        · match b with
          | ⟨0, _⟩ => rfl
          | ⟨1, _⟩ => exact absurd rfl hb
        · show 3072 + (e.val - 3072) = e.val; omega
        · show p _ = p _
          refine congrArg p ?_
          funext a
          apply Fin.ext
          match a with
          | ⟨0, _⟩ => show 0 + n.val = n.val; omega
          | ⟨1, _⟩ => show 3072 + (e.val - 3072) = e.val; omega

/-- The reference's result, in these steps: an entry is the projection's formula. -/
theorem res_apply (x : FVec Ideal S65536x1024 .f32) (w : FVec Ideal S1024x4096 .f32) (n : Fin 65536) (e : Fin 4096) :
    (truncf .bf16 (joined (product x w)) bitsLt_bf16_f32 : FVec Ideal S65536x4096 .bf16) (ix2 n e) = ProjSpec.value (fun n k => x (ix2 n k)) (fun k e => w (ix2 k e)) n e := by
  refine (joined_apply _ n e).trans ?_
  rw [product_apply]
  rfl

/-- A left fold that adds is its starting value plus a sum. -/
theorem foldl_add {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- The positions of a window one wide, `N` long and one wide are the numbers below `N`. -/
def spots (N : ℕ) : Fin N ≃ (⟨3, ![1, N, 1]⟩ : Shape).Idx where
  toFun i := ix3 0 i 0
  invFun w := w 1
  left_inv i := rfl
  right_inv w := by
    funext a
    match a with
    | ⟨0, _⟩ => exact (Subsingleton.elim (α := Fin 1) _ _)
    | ⟨1, _⟩ => rfl
    | ⟨2, _⟩ => exact (Subsingleton.elim (α := Fin 1) _ _)

/-- A window's sum, the window reaching back past the start, is the sum of the positions up to its own. -/
theorem back_sum (N L s : ℕ) (hN : L + 1 = N) (hs : s < N) (g : ℕ → EReal) :
    (∑ i : Fin N, if L ≤ s + i.val then g (s + i.val - L) else 0) = ∑ k ∈ Finset.range (s + 1), g k := by
  rw [Fin.sum_univ_eq_sum_range (fun i => if L ≤ s + i then g (s + i - L) else 0) N]
  have e : N = (L - s) + (s + 1) := by omega
  rw [e, Finset.sum_range_add]
  rw [Finset.sum_eq_zero (s := Finset.range (L - s)) (fun i hi => if_neg (by have := Finset.mem_range.1 hi; omega)), zero_add]
  refine Finset.sum_congr rfl fun k _ => ?_
  rw [if_pos (by omega)]
  exact congrArg g (by omega)

/-- What one position of a window adds: the entry it falls on, or nothing before the start. -/
def spotTerm {A N C : ℕ} (L : ℕ) (x : (⟨3, ![A, N, C]⟩ : Shape).Idx → EReal) (b : Fin A) (s : Fin N) (c : Fin C) (w : (⟨3, ![1, N, 1]⟩ : Shape).Idx) : EReal :=
  if hin : ∀ a : Fin 3, (![0, L, 0] : Fin 3 → ℕ) a ≤ ((ix3 b s c : (⟨3, ![A, N, C]⟩ : Shape).Idx) a).val * (![1, 1, 1] : Fin 3 → ℕ) a + (w a).val
      ∧ ((ix3 b s c : (⟨3, ![A, N, C]⟩ : Shape).Idx) a).val * (![1, 1, 1] : Fin 3 → ℕ) a + (w a).val - (![0, L, 0] : Fin 3 → ℕ) a < (![A, N, C] : Fin 3 → ℕ) a
  then x (fun a => ⟨((ix3 b s c : (⟨3, ![A, N, C]⟩ : Shape).Idx) a).val * (![1, 1, 1] : Fin 3 → ℕ) a + (w a).val - (![0, L, 0] : Fin 3 → ℕ) a, (hin a).2⟩) else 0

/-- A sum over windows that reach back along the middle axis is the running sum along it. -/
theorem window_sum {A N C L : ℕ} (hN : L + 1 = N)
    (hw : (⟨3, ![A, N, C]⟩ : Shape).ReduceWindows ![1, N, 1] ![1, 1, 1] ![0, L, 0] ![0, 0, 0] ⟨3, ![A, N, C]⟩)
    (x : (⟨3, ![A, N, C]⟩ : Shape).Idx → EReal) (g : ℕ → EReal) (b : Fin A) (s : Fin N) (c : Fin C)
    (hg : ∀ i : Fin N, x (ix3 b i c) = g i.val) :
    Ideal.hostReduceWindowAdd ![1, N, 1] ![1, 1, 1] ![0, L, 0] ![0, 0, 0] hw x 0 (ix3 b s c) = ∑ k ∈ Finset.range (s.val + 1), g k := by
  unfold Ideal.hostReduceWindowAdd Host.reduceWindow
  dsimp only
  rw [foldl_add, zero_add, ← Fin.sum_univ_def]
  rw [← back_sum N L s.val hN s.isLt g]
  refine (Finset.sum_congr rfl fun n _ => ?_ : _ = ∑ n, spotTerm L x b s c ((⟨3, ![1, N, 1]⟩ : Shape).rowMajor.symm n)).trans ?_
  · by_cases hin : ∀ a : Fin 3, (![0, L, 0] : Fin 3 → ℕ) a ≤ ((ix3 b s c : (⟨3, ![A, N, C]⟩ : Shape).Idx) a).val * (![1, 1, 1] : Fin 3 → ℕ) a + ((⟨3, ![1, N, 1]⟩ : Shape).rowMajor.symm n a).val
        ∧ ((ix3 b s c : (⟨3, ![A, N, C]⟩ : Shape).Idx) a).val * (![1, 1, 1] : Fin 3 → ℕ) a + ((⟨3, ![1, N, 1]⟩ : Shape).rowMajor.symm n a).val - (![0, L, 0] : Fin 3 → ℕ) a < (![A, N, C] : Fin 3 → ℕ) a
    · refine (dif_pos hin).trans ?_
      unfold spotTerm
      rw [dif_pos hin]
      rfl
    · refine (dif_neg hin).trans ?_
      unfold spotTerm
      rw [dif_neg hin]
  refine (Equiv.sum_comp (⟨3, ![1, N, 1]⟩ : Shape).rowMajor.symm (spotTerm L x b s c)).trans ?_
  refine (Equiv.sum_comp (spots N) (spotTerm L x b s c)).symm.trans ?_
  refine Finset.sum_congr rfl fun i _ => ?_
  have hb := b.isLt
  have hs := s.isLt
  have hc := c.isLt
  have hi := i.isLt
  by_cases h : L ≤ s.val + i.val
  · rw [if_pos h]
    have hin : ∀ a : Fin 3, (![0, L, 0] : Fin 3 → ℕ) a ≤ ((ix3 b s c : (⟨3, ![A, N, C]⟩ : Shape).Idx) a).val * (![1, 1, 1] : Fin 3 → ℕ) a + (spots N i a).val
        ∧ ((ix3 b s c : (⟨3, ![A, N, C]⟩ : Shape).Idx) a).val * (![1, 1, 1] : Fin 3 → ℕ) a + (spots N i a).val - (![0, L, 0] : Fin 3 → ℕ) a < (![A, N, C] : Fin 3 → ℕ) a := fun a => by
      match a with
      | ⟨0, _⟩ => exact ⟨Nat.zero_le _, by show b.val * 1 + 0 - 0 < A; omega⟩
      | ⟨1, _⟩ => exact ⟨by show L ≤ s.val * 1 + i.val; omega, by show s.val * 1 + i.val - L < N; omega⟩
      | ⟨2, _⟩ => exact ⟨Nat.zero_le _, by show c.val * 1 + 0 - 0 < C; omega⟩
    unfold spotTerm
    refine (dif_pos hin).trans ?_
    refine Eq.trans ?_ (hg ⟨s.val + i.val - L, by omega⟩)
    refine congrArg x ?_
    funext a
    apply Fin.ext
    match a with
    | ⟨0, _⟩ => show b.val * 1 + 0 - 0 = b.val; omega
    | ⟨1, _⟩ => show s.val * 1 + i.val - L = s.val + i.val - L; omega
    | ⟨2, _⟩ => show c.val * 1 + 0 - 0 = c.val; omega
  · rw [if_neg h]
    unfold spotTerm
    refine dif_neg fun hin => h ?_
    have h1 := (hin 1).1
    have h2 : L ≤ s.val * 1 + i.val := h1
    omega

/-- The gates before the logistic function. -/
def gates (x : FVec Ideal S65536x1024 .f32) (w : FVec Ideal S1024x16 .f32) (b : FVec Ideal S16 .f32) : FVec Ideal S65536x16 .f32 :=
  addf (Host.dotGeneral dot_S65536x1024_S1024x16_S65536x16_1_0_0_1_n_n none x w)
    (broadcastInDim S65536x16 ![0, 1] bcast_S1x16_S65536x16_0_1 (broadcastInDim S1x16 ![1] bcast_S16_S1x16_1 b))

/-- An entry of the gates. -/
theorem gates_apply (x : FVec Ideal S65536x1024 .f32) (w : FVec Ideal S1024x16 .f32) (b : FVec Ideal S16 .f32) (n : Fin 65536) (h : Fin 16) :
    gates x w b (ix2 n h) = (∑ k : Fin 1024, x (ix2 n k) * w (ix2 k h)) + b (ix1 h) := by
  pointwise [gates]

/-- Zeros. -/
def nought : FVec Ideal S65536x16 .f32 := broadcastInDim S65536x16 ![] bcast_S_S65536x16 (constant S_ .f32 0x00000000#32)

/-- The value of the printed zero. -/
theorem zero_word : Ideal.ofBits FTy.f32 0x00000000#32 = (0 : EReal) := by
  simp [Ideal.ofBits, Ideal.ieee]

/-- An entry of them. -/
theorem nought_apply (j : S65536x16.Idx) : nought j = (0 : EReal) := zero_word

/-- The logarithm of the logistic function, as the reference writes it. -/
def logs (u : FVec Ideal S65536x16 .f32) : FVec Ideal S65536x16 .f32 :=
  Host.negf (select (cmpf .une (subf (Host.negf u) nought) (subf (Host.negf u) nought)) (addf (Host.negf u) nought)
    (addf (maximumf (Host.negf u) nought) (Host.log1p (Host.exp (Host.negf (Host.absf (subf (Host.negf u) nought)))))))

/-- An entry of it. -/
theorem logs_apply (u : FVec Ideal S65536x16 .f32) (j : S65536x16.Idx) :
    logs u j = GateSpec.logGate (u j) := by
  refine Eq.trans ?_ (GateSpec.reference_form (u j))
  have hn := nought_apply j
  show -(Scalar.select (FloatOps.cmpf (F := Ideal) (φ := .f32) .une (-(u j) - nought j) (-(u j) - nought j)) (-(u j) + nought j)
    (max (-(u j)) (nought j) + Ideal.log1p (Ideal.exp (-(max (-(u j) - nought j) (-(-(u j) - nought j))))))) = _
  rw [hn]
  have hc : FloatOps.cmpf (F := Ideal) (φ := .f32) .une (-(u j) - (0 : EReal)) (-(u j) - (0 : EReal)) = 0#1 := by
    show Ideal.cmp .une _ _ = _
    simp [Ideal.cmp]
  rw [hc]
  rfl

/-- The running sums along a sequence, the sequences 8192 long. -/
def summed (l : FVec Ideal S65536x16 .f32) : FVec Ideal S65536x16 .f32 :=
  shapeCast S65536x16 (Host.reduceWindowAdd ![1, 8192, 1] ![1, 1, 1] ![0, 8191, 0] ![0, 0, 0] (shapeCast S8x8192x16 l shapeCasts_S65536x16_S8x8192x16)
    (broadcastInDim S_ ![] bcast_S_S_ (constant (F := Ideal) S_ .f32 0x00000000#32))
    reduceWindows_S8x8192x16_S8x8192x16_w1s1p0_0_w8192s1p8191_0_w1s1p0_0 h_S_) shapeCasts_S8x8192x16_S65536x16

/-- An entry of the running sums. -/
theorem summed_apply (l : FVec Ideal S65536x16 .f32) (g : ℕ → EReal) (n : Fin 65536) (h : Fin 16)
    (hl : ∀ n : Fin 65536, l (ix2 n h) = g n.val) : summed l (ix2 n h) = GateSpec.running g n.val := by
  have hn := n.isLt
  unfold summed
  refine (shapeCast_apply (s := S8x8192x16) (t := S65536x16) _ _ _ (ix3 ⟨n.val / 8192, by omega⟩ ⟨n.val % 8192, by omega⟩ h) ?_).trans ?_
  · rw [Shape.rowMajor_val_two, Shape.rowMajor_val_three]
    show (n.val / 8192 * 8192 + n.val % 8192) * 16 + h.val = n.val * 16 + h.val
    omega
  · unfold Host.reduceWindowAdd
    rw [Ideal.hostReduceWindowAdd_def]
    have hz : (broadcastInDim S_ ![] bcast_S_S_ (constant (F := Ideal) S_ .f32 0x00000000#32)) (Shape.Idx.first h_S_) = (0 : EReal) := zero_word
    rw [hz]
    refine (window_sum (A := 8) (N := 8192) (C := 16) (L := 8191) (by omega) _ _ (fun i => g (8192 * (n.val / 8192) + i)) _ _ _ (fun i => ?_)).trans ?_
    · have hi := i.isLt
      refine (shapeCast_apply (s := S65536x16) (t := S8x8192x16) _ _ _ (ix2 ⟨8192 * (n.val / 8192) + i.val, by omega⟩ h) ?_).trans (hl _)
      rw [Shape.rowMajor_val_two, Shape.rowMajor_val_three]
      show (8192 * (n.val / 8192) + i.val) * 16 + h.val = (n.val / 8192 * 8192 + i.val) * 16 + h.val
      omega
    · rfl

/-- THE REFERENCE'S RUNNING SUMS, on real activations and weights. -/
theorem sums_apply (X : FVec Ideal S65536x1024 .f32) (W : FVec Ideal S1024x16 .f32) (B : FVec Ideal S16 .f32) (x w : ℕ → ℕ → ℝ) (b : ℕ → EReal)
    (hx : ∀ (n : Fin 65536) (k : Fin 1024), X (ix2 n k) = ((x n.val k.val : ℝ) : EReal))
    (hw : ∀ (k : Fin 1024) (h : Fin 16), W (ix2 k h) = ((w k.val h.val : ℝ) : EReal))
    (hb : ∀ h : Fin 16, B (ix1 h) = b h.val) (n : Fin 65536) (h : Fin 16) :
    summed (logs (gates X W B)) (ix2 n h) = GateSpec.value x w b n.val h.val := by
  refine summed_apply _ (fun n => GateSpec.logGate (GateSpec.logit x w b n h.val)) n h fun n => ?_
  refine (logs_apply _ _).trans (congrArg GateSpec.logGate ?_)
  refine (gates_apply _ _ _ n h).trans ?_
  unfold GateSpec.logit
  rw [KernelIdeal.Rows.coe_sum, hb]
  refine congrArg (fun v : EReal => v + b h.val) (Finset.sum_congr rfl fun k _ => ?_)
  rw [hx, hw, EReal.coe_mul]

end Cert.GateRefIdeal.Steps

end
-- ==== Proof.ChunkWords.lean ====
module

public import proofs.«01_k».proof.Proof.Gen.ChunkIdeal.Frame
public import Idealize.ShloMosaic.Lib.Pointwise
public import Idealize.ShloMosaic.Lib.Pipeline.Value

@[expose] public section

set_option synthInstance.maxSize 4096
set_option maxRecDepth 16384

noncomputable section

namespace Cert.ChunkIdeal.Words

open Idealize.ShloMosaic Cert.ChunkIdeal.Gen

variable (c : Dev nD) (i : grid0.Coords) (arg3 : Memref sig .tc .vmem S256x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S256x128 .bf16) (harg9 : arg9.IsWhole) (arg10 : Memref sig .tc .vmem S1x2x4x256x256 .f32) (harg10 : arg10.IsWhole) (arg11 : Memref sig .tc .vmem S256x128 .bf16) (harg11 : arg11.IsWhole)
    (x0 : Vec Ideal S256x128 .bf16) (x1 : Vec Ideal S256x128 .bf16) (x2 : Vec Ideal S256x128 .bf16) (x3 : Vec Ideal S256x128 .bf16) (x4 : Vec Ideal S256x128 .bf16) (x5 : Vec Ideal S256x128 .bf16) (x6 : Vec Ideal S256x128 .bf16) (x7 : Vec Ideal S1x2x4x256x256 .f32)

/-- The bias of the first head that the kernel adds to the scores of the key block `j`. -/
def bias0 (j : Fin 3) : Vec Ideal S1x1x1x256x256 .f32 :=
  View.ld x7 (Rect.unit (s := S1x2x4x256x256) (k0_off1 i (k0_off1_at j).1 (k0_off1_at j).2) S1x1x1x256x256.size (k0_off1_inb i j))

/-- The bias of the second head that the kernel adds to the scores of the key block `j`. -/
def bias1 (j : Fin 3) : Vec Ideal S1x1x1x256x256 .f32 :=
  View.ld x7 (Rect.unit (s := S1x2x4x256x256) (k0_off2 i (k0_off2_at j).1 (k0_off2_at j).2) S1x1x1x256x256.size (k0_off2_inb i j))

/-- The first head's result of a block, before the lanes of the two heads are put together. -/
def first (b0 b1 b2 : FVec Ideal S1x1x1x256x256 .f32) : FVec Ideal S256x128 .f32 :=
  k0_pay15 (F := Ideal) (k0_pay7 (k0_pay3 x0) x3 b2) (k0_pay8 (k0_pay3 x0) (k0_pay4 x0 x1 b0) (k0_pay5 x0 x2) b1 x3 b2)
    (k0_pay10 (k0_pay3 x0) (k0_pay4 x0 x1 b0) (k0_pay5 x0 x2) b1 x3 b2) (k0_pay11 (k0_pay3 x0) (k0_pay4 x0 x1 b0) (k0_pay5 x0 x2) b1 x3 b2 x4)
    (k0_pay13 (k0_pay3 x0) (k0_pay4 x0 x1 b0) (k0_pay5 x0 x2) b1 x3 b2) (k0_pay14 (k0_pay3 x0) (k0_pay4 x0 x1 b0) (k0_pay5 x0 x2) b1 x3 b2)
    x5 (constant S256x128 .f32 0x00000000#32) x6

/-- A block's result: the second head's in its lanes, the first head's (`n`) in the others. -/
def both (n : FVec Ideal S256x128 .f32) (b0 b1 b2 : FVec Ideal S1x1x1x256x256 .f32) : FVec Ideal S256x128 .bf16 :=
  k0_pay1 (F := Ideal) k0_pay2 n (k0_pay20 (k0_pay16 x0 k0_pay2) x3 b2)
    (k0_pay21 (k0_pay16 x0 k0_pay2) (k0_pay17 x0 k0_pay2 x1 b0) (k0_pay18 x0 k0_pay2 x2) b1 x3 b2)
    (k0_pay23 (k0_pay16 x0 k0_pay2) (k0_pay17 x0 k0_pay2 x1 b0) (k0_pay18 x0 k0_pay2 x2) b1 x3 b2)
    (k0_pay25 (k0_pay16 x0 k0_pay2) (k0_pay17 x0 k0_pay2 x1 b0) (k0_pay18 x0 k0_pay2 x2) b1 x3 b2)
    (k0_pay26 (k0_pay16 x0 k0_pay2) (k0_pay17 x0 k0_pay2 x1 b0) (k0_pay18 x0 k0_pay2 x2) b1 x3 b2 x4 x5) x6

/-- A load of a whole buffer reads its contents. -/
theorem whole_read {s : Shape} {e : EltTy} (X : s.Idx → Elt Ideal e) {arg : Memref sig .tc .vmem s e} (harg : arg.IsWhole) {off : Fin s.rank → ℕ}
    (h : off = fun _ => 0) (inb : ∀ a, off a + s.size a ≤ s.size a) :
    arg.view.readAt (Elt Ideal) (Rect.unit off s.size inb).toLoadRect (harg.unread X) = X := by
  rw [View.readAt_eq_ld, harg.read_unread]
  exact View.ld_unit_zero h inb X

/-- A load of a part of a buffer reads that part. -/
theorem part_read {s : Shape} {e : EltTy} (X : s.Idx → Elt Ideal e) {arg : Memref sig .tc .vmem s e} (harg : arg.IsWhole) (R : Rect s) :
    arg.view.readAt (Elt Ideal) R.toLoadRect (harg.unread X) = View.ld X R := by
  rw [View.readAt_eq_ld, harg.read_unread]

/-- The block a point stores, from the blocks it reads. -/
theorem out_eq : out0_A_8 (F := Ideal) c i arg3 harg3 arg4 harg4 arg5 harg5 arg6 harg6 arg7 harg7 arg8 harg8 arg9 harg9 arg10 harg10 arg11 harg11 x0 x1 x2 x3 x4 x5 x6 x7
    = both x0 x1 x2 x3 x4 x5 x6 (first x0 x1 x2 x3 x4 x5 x6 (bias0 i x7 0) (bias0 i x7 1) (bias0 i x7 2)) (bias1 i x7 0) (bias1 i x7 1) (bias1 i x7 2) := by
  have hz : (![0, 0] : Fin 2 → ℕ) = fun _ => 0 := by funext a; match a with | ⟨0, _⟩ => rfl | ⟨1, _⟩ => rfl
  unfold out0_A_8
  rw [View.read_writes_eq_canon _ _ _ (cover0_A_8 c i arg3 harg3 arg4 harg4 arg5 harg5 arg6 harg6 arg7 harg7 arg8 harg8 arg9 harg9 arg10 harg10 arg11 harg11 x0 x1 x2 x3 x4 x5 x6 x7)]
  unfold kernelRun0_A
  dsimp only
  refine (View.canon_unit_zero hz _ _).trans ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.cst_42]
  simp only [whole_read x0 harg3 hz, whole_read x1 harg4 hz, whole_read x2 harg5 hz, whole_read x3 harg6 hz, whole_read x4 harg7 hz,
    whole_read x5 harg8 hz, whole_read x6 harg9 hz, part_read x7 harg10]
  unfold both first bias0 bias1
  rfl

end Cert.ChunkIdeal.Words

end
-- ==== Proof.ChunkSpec.lean ====
module

public import proofs.«01_k».proof.Proof.Rows
public import Idealize.ShloMosaic.Lib.Pointwise

@[expose] public section

/-!
The chunked attention over the reals, as a formula on the two argument arrays, and one row of a softmax over the positions that are seen:
`x s` is the row's score at position `s`, `v s` the value there, `P s` says whether the position is seen. A position that is not seen has
the score minus infinity.
-/

noncomputable section

namespace Cert.ChunkSpec

open Idealize.ShloMosaic Cert.KernelIdeal.Rows

/-- The sum over the positions below `n` that are seen. -/
def over (P : ℕ → Prop) [DecidablePred P] (f : ℕ → ℝ) (n : ℕ) : ℝ := ∑ s ∈ Finset.range n, if P s then f s else 0

/-- The mean of the values of the positions seen, weighted by the exponentials of the scores. -/
def mean (P : ℕ → Prop) [DecidablePred P] (x v : ℕ → ℝ) (n : ℕ) : ℝ :=
  over P (fun s => Real.exp (x s) * v s) n / over P (fun s => Real.exp (x s)) n

/-- A position sees its own chunk of 64 and the 8 before. -/
def Seen (t s : ℕ) : Prop := s / 64 ≤ t / 64 ∧ t / 64 ≤ s / 64 + 8

instance (t s : ℕ) : Decidable (Seen t s) := inferInstanceAs (Decidable (_ ∧ _))

/-- The column of the table of biases for two positions: their distance, kept between -128 and 128, plus 128. -/
def column (t s : ℕ) : ℕ := min (t + 128 - s) 256

/-- The score of position `t` with position `s`: query times key, plus the bias. -/
def score (h r : ℕ → ℕ → ℝ) (b a t s : ℕ) : ℝ :=
  (∑ d : Fin 64, h (8192 * b + t) (64 * a + d.val) * h (8192 * b + s) (1024 + 64 * a + d.val)) + r a (column t s)

/-- The attention's result at row `8192 * b + t` and column `c`. -/
def value (h r : ℕ → ℕ → ℝ) (b t c : ℕ) : ℝ :=
  mean (Seen t) (score h r b (c / 64) t) (fun s => h (8192 * b + s) (2048 + c)) 8192

variable (P : ℕ → Prop) [DecidablePred P]

/-- A factor goes out of such a sum. -/
theorem over_mul (f : ℕ → ℝ) (k : ℝ) (n : ℕ) : over P (fun s => k * f s) n = k * over P f n := by
  unfold over
  rw [Finset.mul_sum]
  refine Finset.sum_congr rfl fun s _ => ?_
  split <;> simp

/-- The sum of weights is positive if a position is seen. -/
theorem over_pos (x : ℕ → ℝ) (n k : ℕ) (hk : k < n) (hP : P k) : 0 < over P (fun s => Real.exp (x s)) n := by
  unfold over
  refine Finset.sum_pos' (fun s _ => ?_) ⟨k, Finset.mem_range.2 hk, ?_⟩
  · split
    · exact (Real.exp_pos _).le
    · exact le_rfl
  · rw [if_pos hP]; exact Real.exp_pos _

/-- The quotient of the two sums does not depend on the number taken from the scores. -/
theorem quotient (x v : ℕ → ℝ) (n : ℕ) (M : ℝ) :
    over P (fun s => Real.exp (x s - M) * v s) n / over P (fun s => Real.exp (x s - M)) n = mean P x v n := by
  have e1 : (fun s => Real.exp (x s - M) * v s) = fun s => Real.exp (-M) * (Real.exp (x s) * v s) := by
    funext s; rw [← mul_assoc, ← Real.exp_add]; congr 2; ring
  have e2 : (fun s => Real.exp (x s - M)) = fun s => Real.exp (-M) * Real.exp (x s) := by
    funext s; rw [← Real.exp_add]; congr 1; ring
  rw [e1, e2, over_mul, over_mul]
  exact mul_div_mul_left _ _ (Real.exp_ne_zero _)

/-- The largest of finitely many entries, each real or minus infinity, is real or minus infinity. -/
theorem fold_max (n : ℕ) (s : Fin n → EReal) (hs : ∀ j, s j = ⊥ ∨ ∃ r : ℝ, s j = r) :
    Finset.univ.fold max ⊥ s = ⊥ ∨ ∃ S : ℝ, Finset.univ.fold max ⊥ s = S := by
  by_cases h : ∃ j, ∃ r : ℝ, s j = r
  · obtain ⟨j, r, hr⟩ := h
    exact .inr (fold_max_real s hs j r hr)
  · refine .inl ?_
    have hsup : Finset.univ.fold max ⊥ s = Finset.univ.sup s := rfl
    rw [hsup, Finset.sup_eq_bot_iff]
    intro j _
    rcases hs j with e | e
    · exact e
    · exact absurd ⟨j, e⟩ h

/-- An entry is at most the largest. -/
theorem le_fold (n : ℕ) (s : Fin n → EReal) (j : Fin n) : s j ≤ Finset.univ.fold max ⊥ s := by
  have hsup : Finset.univ.fold max ⊥ s = Finset.univ.sup s := rfl
  rw [hsup]
  exact Finset.le_sup (Finset.mem_univ j)

/-- The weight of a position. -/
theorem weight (x : ℕ → ℝ) (k : ℕ) (M : ℝ) (s : EReal) (hs : s = if P k then ((x k : ℝ) : EReal) else ⊥) :
    Ideal.exp (s - (M : EReal)) = ((if P k then Real.exp (x k - M) else 0 : ℝ) : EReal) := by
  rw [hs]
  split
  · rw [← EReal.coe_sub, Ideal.exp_coe]
  · rw [EReal.bot_sub, Ideal.exp_bot]; rfl

/-- A block's sum of weights. -/
theorem block_weights {B : ℕ} (x : ℕ → ℝ) (o : ℕ) (M : ℝ) (s : Fin B → EReal)
    (hs : ∀ j, s j = if P (o + j.val) then ((x (o + j.val) : ℝ) : EReal) else ⊥) :
    (∑ j, Ideal.exp (s j - (M : EReal)))
      = ((∑ k ∈ Finset.range B, if P (o + k) then Real.exp (x (o + k) - M) else 0 : ℝ) : EReal) := by
  rw [← Fin.sum_univ_eq_sum_range (fun k => if P (o + k) then Real.exp (x (o + k) - M) else 0) B, coe_sum]
  exact Finset.sum_congr rfl fun j _ => weight P x _ M _ (hs j)

/-- A block's sum of weighted values. -/
theorem block_values {B : ℕ} (x v : ℕ → ℝ) (o : ℕ) (M : ℝ) (s w : Fin B → EReal)
    (hs : ∀ j, s j = if P (o + j.val) then ((x (o + j.val) : ℝ) : EReal) else ⊥) (hw : ∀ j, w j = ((v (o + j.val) : ℝ) : EReal)) :
    (∑ j, Ideal.exp (s j - (M : EReal)) * w j)
      = ((∑ k ∈ Finset.range B, if P (o + k) then Real.exp (x (o + k) - M) * v (o + k) else 0 : ℝ) : EReal) := by
  rw [← Fin.sum_univ_eq_sum_range (fun k => if P (o + k) then Real.exp (x (o + k) - M) * v (o + k) else 0) B, coe_sum]
  refine Finset.sum_congr rfl fun j _ => ?_
  rw [weight P x _ M _ (hs j), hw, ← EReal.coe_mul]
  congr 1
  split <;> simp

/-- Three blocks one after another. -/
theorem over_three (B : ℕ) (f : ℕ → ℝ) : over P f (B + B + B)
    = (∑ k ∈ Finset.range B, if P (0 + k) then f (0 + k) else 0) + (∑ k ∈ Finset.range B, if P (B + k) then f (B + k) else 0)
      + ∑ k ∈ Finset.range B, if P (B + B + k) then f (B + B + k) else 0 := by
  unfold over
  rw [Finset.sum_range_add, Finset.sum_range_add]
  simp only [Nat.zero_add]

/-- THREE BLOCKS of a row: weights taken relative to the largest of the three blocks' scores; the sum of the weighted values divided by
    the sum of the weights is the mean. -/
theorem three_blocks {B : ℕ} (x v : ℕ → ℝ) (s0 s1 s2 w0 w1 w2 : Fin B → EReal)
    (h0 : ∀ j, s0 j = if P (0 + j.val) then ((x (0 + j.val) : ℝ) : EReal) else ⊥)
    (h1 : ∀ j, s1 j = if P (B + j.val) then ((x (B + j.val) : ℝ) : EReal) else ⊥)
    (h2 : ∀ j, s2 j = if P (B + B + j.val) then ((x (B + B + j.val) : ℝ) : EReal) else ⊥)
    (g0 : ∀ j, w0 j = ((v (0 + j.val) : ℝ) : EReal)) (g1 : ∀ j, w1 j = ((v (B + j.val) : ℝ) : EReal))
    (g2 : ∀ j, w2 j = ((v (B + B + j.val) : ℝ) : EReal)) (k : Fin B) (hk : P (B + B + k.val)) (m : EReal)
    (hm : m = max (max (Finset.univ.fold max ⊥ s0) (Finset.univ.fold max ⊥ s1)) (Finset.univ.fold max ⊥ s2)) :
    Ideal.div ((∑ j, Ideal.exp (s0 j - m) * w0 j) + (∑ j, Ideal.exp (s1 j - m) * w1 j) + (∑ j, Ideal.exp (s2 j - m) * w2 j))
      ((∑ j, Ideal.exp (s0 j - m)) + (∑ j, Ideal.exp (s1 j - m)) + (∑ j, Ideal.exp (s2 j - m))) = ((mean P x v (B + B + B) : ℝ) : EReal) := by
  have hor : ∀ (Q : Prop) [Decidable Q] (y : ℝ), (if Q then ((y : ℝ) : EReal) else ⊥) = ⊥ ∨ ∃ r : ℝ, (if Q then ((y : ℝ) : EReal) else ⊥) = r := by
    intro Q _ y; split
    · exact .inr ⟨_, rfl⟩
    · exact .inl rfl
  obtain ⟨S, hS⟩ : ∃ S : ℝ, m = S := by
    obtain ⟨S2, e2⟩ := fold_max_real s2 (fun j => by rw [h2]; exact hor _ _) k _ (by rw [h2, if_pos hk])
    rw [hm, e2]
    have hM : ∀ y z : ℝ, max (y : EReal) (z : EReal) = ((max y z : ℝ) : EReal) := fun y z => (EReal.coe_strictMono.monotone.map_max).symm
    rcases fold_max B s0 (fun j => by rw [h0]; exact hor _ _) with e0 | ⟨S0, e0⟩ <;>
      rcases fold_max B s1 (fun j => by rw [h1]; exact hor _ _) with e1 | ⟨S1, e1⟩ <;> rw [e0, e1]
    · exact ⟨S2, by simp⟩
    · exact ⟨max S1 S2, by rw [← hM]; simp⟩
    · exact ⟨max S0 S2, by rw [← hM]; simp⟩
    · exact ⟨max (max S0 S1) S2, by rw [← hM, ← hM]⟩
  rw [hS, block_weights P x 0 S s0 h0, block_weights P x B S s1 h1, block_weights P x (B + B) S s2 h2,
    block_values P x v 0 S s0 w0 h0 g0, block_values P x v B S s1 w1 h1 g1, block_values P x v (B + B) S s2 w2 h2 g2]
  simp only [← EReal.coe_add]
  have hp := over_pos P (fun s => x s - S) (B + B + B) (B + B + k.val) (by have := k.isLt; omega) hk
  rw [← over_three P B (fun s => Real.exp (x s - S) * v s), ← over_three P B (fun s => Real.exp (x s - S)), Ideal.div_coe hp.ne', ← EReal.coe_mul,
    ← quotient P x v (B + B + B) S]
  congr 1
  ring

/-- A ROW TAKEN WHOLE: dividing each weight, taken relative to the row's largest score, by the sum of weights and then summing with the
    values gives the mean. -/
theorem whole_row {N : ℕ} (x v : ℕ → ℝ) (s w : Fin N → EReal)
    (hs : ∀ j, s j = if P j.val then ((x j.val : ℝ) : EReal) else ⊥) (hw : ∀ j, w j = ((v j.val : ℝ) : EReal)) (k : Fin N) (hk : P k.val) :
    ∑ j, Ideal.div (Ideal.exp (s j - max ⊥ (Finset.univ.fold max ⊥ s)))
        (∑ j', Ideal.exp (s j' - max ⊥ (Finset.univ.fold max ⊥ s))) * w j = ((mean P x v N : ℝ) : EReal) := by
  obtain ⟨S, hS⟩ := fold_max_real s (fun j => by rw [hs]; split <;> simp) k (x k.val) (by rw [hs, if_pos hk])
  have hS' : max ⊥ (Finset.univ.fold max ⊥ s) = ((S : ℝ) : EReal) := by rw [hS]; simp
  rw [hS']
  have hL := block_weights P x 0 S s (fun j => by rw [Nat.zero_add]; exact hs j)
  simp only [Nat.zero_add] at hL
  have hp := over_pos P (fun s => x s - S) N k.val k.isLt hk
  rw [hL, ← quotient P x v N S]
  unfold over at hp ⊢
  have hT := Fin.sum_univ_eq_sum_range (fun k => (if P k then Real.exp (x k - S) * v k else 0)
    / ∑ k ∈ Finset.range N, if P k then Real.exp (x k - S) else 0) N
  rw [Finset.sum_div, ← hT, coe_sum Finset.univ]
  refine Finset.sum_congr rfl fun j _ => ?_
  rw [weight P x _ S _ (hs j), hw, Ideal.div_coe hp.ne', ← EReal.coe_mul, ← EReal.coe_mul]
  congr 1
  split <;> simp [div_eq_mul_inv]
  ring

/-- The three blocks of 256 positions that end with the block `i` hold every position that a row of block `i` sees. -/
theorem over_near (t i : ℕ) (hi : t / 256 = i) (ht : t < 8192) (f : ℕ → ℝ) :
    over (fun k => 512 ≤ 256 * i + k ∧ Seen t (256 * i + k - 512)) (fun k => f (256 * i + k - 512)) 768 = over (Seen t) f 8192 := by
  unfold over
  rw [← Finset.sum_filter, ← Finset.sum_filter]
  refine Finset.sum_nbij (fun k => 256 * i + k - 512) ?_ ?_ ?_ (fun _ _ => rfl)
  · intro k hk
    rw [Finset.mem_filter, Finset.mem_range] at hk ⊢
    unfold Seen at hk ⊢
    omega
  · intro k hk k' hk' e
    rw [Finset.mem_coe, Finset.mem_filter, Finset.mem_range] at hk hk'
    dsimp only at e
    omega
  · intro s hs
    rw [Finset.mem_coe, Finset.mem_filter, Finset.mem_range] at hs
    have hs' := hs.2
    unfold Seen at hs'
    have e : 256 * i + (s + 512 - 256 * i) - 512 = s := by omega
    refine ⟨s + 512 - 256 * i, ?_, e⟩
    rw [Finset.mem_coe, Finset.mem_filter, Finset.mem_range, e]
    exact ⟨by omega, by omega, hs.2⟩

/-- So the mean over them is the mean over all positions. -/
theorem mean_near (t i : ℕ) (hi : t / 256 = i) (ht : t < 8192) (x v : ℕ → ℝ) :
    mean (fun k => 512 ≤ 256 * i + k ∧ Seen t (256 * i + k - 512)) (fun k => x (256 * i + k - 512)) (fun k => v (256 * i + k - 512)) 768
      = mean (Seen t) x v 8192 := by
  unfold mean
  rw [over_near t i hi ht (fun s => Real.exp (x s) * v s), over_near t i hi ht (fun s => Real.exp (x s))]

end Cert.ChunkSpec

end
-- ==== Proof.ChunkBlock.lean ====
module

public import proofs.«01_k».proof.Proof.ChunkWords
public import proofs.«01_k».proof.Proof.ChunkSpec
public import Idealize.ShloMosaic.Lib.Pointwise

@[expose] public section

set_option synthInstance.maxSize 4096
set_option maxRecDepth 16384

/-!
A block's result of the chunked attention, element by element.
-/

noncomputable section

namespace Cert.ChunkIdeal.Block

open Idealize.ShloMosaic Cert.ChunkIdeal.Gen Cert.ChunkIdeal.Words

/-- The lanes of the first head, as words. -/
theorem low_word : ∀ d : Fin 128, IntOp.andi (IntOp.cmpi .sge (BitVec.ofNat 32 d.val) 0#32)
    (IntOp.cmpi .slt (BitVec.ofNat 32 d.val) 64#32) = 1 ↔ d.val < 64 := by decide +kernel

/-- The lanes of the second head, as words. -/
theorem high_word : ∀ d : Fin 128, IntOp.andi (IntOp.cmpi .sge (BitVec.ofNat 32 d.val) 64#32)
    (IntOp.cmpi .slt (BitVec.ofNat 32 d.val) 128#32) = 1 ↔ 64 ≤ d.val := by decide +kernel

/-- The word of minus infinity reads as minus infinity. -/
theorem ninf : Ideal.ofBits .f32 0xFF800000#32 = (⊥ : EReal) := by
  simp [Ideal.ofBits, Ideal.ieee]

/-- A score. -/
def sc (q k : FVec Ideal S256x128 .bf16) (b : FVec Ideal S1x1x1x256x256 .f32) (r j : Fin 256) : EReal :=
  (∑ d : Fin 128, q (ix2 r d) * k (ix2 j d)) + b (ix5 0 0 0 r j)

/-- The first head's queries. -/
theorem low_apply (q : FVec Ideal S256x128 .bf16) (r : Fin 256) (d : Fin 128) :
    k0_pay3 (F := Ideal) q (ix2 r d) = if d.val < 64 then q (ix2 r d) else 0 := by
  pointwise [k0_pay3]
  exact if_congr (low_word d) rfl rfl

/-- The second head's queries. -/
theorem high_apply (q : FVec Ideal S256x128 .bf16) (r : Fin 256) (d : Fin 128) :
    k0_pay16 (F := Ideal) q k0_pay2 (ix2 r d) = if 64 ≤ d.val then q (ix2 r d) else 0 := by
  pointwise [k0_pay16, k0_pay2]
  exact if_congr (high_word d) rfl rfl

/-- The first head's scores with the first block of keys. -/
theorem pay4_apply (q k : FVec Ideal S256x128 .bf16) (b : FVec Ideal S1x1x1x256x256 .f32) (r j : Fin 256) :
    k0_pay4 (F := Ideal) q k b (ix2 r j) = sc (k0_pay3 (F := Ideal) q) k b r j := by
  unfold sc
  pointwise [k0_pay4]

/-- The first head's scores with the second block of keys. -/
theorem pay6_apply (q k : FVec Ideal S256x128 .bf16) (b : FVec Ideal S1x1x1x256x256 .f32) (r j : Fin 256) :
    k0_pay6 (F := Ideal) (k0_pay5 q k) b (ix2 r j) = sc (k0_pay3 (F := Ideal) q) k b r j := by
  unfold sc
  pointwise [k0_pay6, k0_pay5]

/-- The first head's scores with the third block of keys. -/
theorem pay7_apply (q k : FVec Ideal S256x128 .bf16) (b : FVec Ideal S1x1x1x256x256 .f32) (r j : Fin 256) :
    k0_pay7 (F := Ideal) q k b (ix2 r j) = sc q k b r j := by
  unfold sc
  pointwise [k0_pay7]

/-- The second head's scores with the first block of keys. -/
theorem pay17_apply (q k : FVec Ideal S256x128 .bf16) (b : FVec Ideal S1x1x1x256x256 .f32) (r j : Fin 256) :
    k0_pay17 (F := Ideal) q k0_pay2 k b (ix2 r j) = sc (k0_pay16 (F := Ideal) q k0_pay2) k b r j := by
  unfold sc
  pointwise [k0_pay17]

/-- The second head's scores with the second block of keys. -/
theorem pay19_apply (q k : FVec Ideal S256x128 .bf16) (b : FVec Ideal S1x1x1x256x256 .f32) (r j : Fin 256) :
    k0_pay19 (F := Ideal) (k0_pay18 q k0_pay2 k) b (ix2 r j) = sc (k0_pay16 (F := Ideal) q k0_pay2) k b r j := by
  unfold sc
  pointwise [k0_pay19, k0_pay18]

/-- The second head's scores with the third block of keys. -/
theorem pay20_apply (q k : FVec Ideal S256x128 .bf16) (b : FVec Ideal S1x1x1x256x256 .f32) (r j : Fin 256) :
    k0_pay20 (F := Ideal) q k b (ix2 r j) = sc q k b r j := by
  unfold sc
  pointwise [k0_pay20]

/-- The maximum of a row of three blocks of scores. -/
def top (s0 s1 s2 : Fin 256 → EReal) : EReal :=
  max (max (Finset.univ.fold max ⊥ s0) (Finset.univ.fold max ⊥ s1)) (Finset.univ.fold max ⊥ s2)

/-- The softmax of three blocks of scores, times the values. -/
def soft (s0 s1 s2 w0 w1 w2 : Fin 256 → EReal) : EReal :=
  Ideal.div ((∑ j, Ideal.exp (s0 j - top s0 s1 s2) * w0 j) + (∑ j, Ideal.exp (s1 j - top s0 s1 s2) * w1 j) + (∑ j, Ideal.exp (s2 j - top s0 s1 s2) * w2 j))
    ((∑ j, Ideal.exp (s0 j - top s0 s1 s2)) + (∑ j, Ideal.exp (s1 j - top s0 s1 s2)) + (∑ j, Ideal.exp (s2 j - top s0 s1 s2)))

variable (x0 x1 x2 x3 x4 x5 x6 : FVec Ideal S256x128 .bf16) (b0 b1 b2 : FVec Ideal S1x1x1x256x256 .f32)

/-- The first head's maximum of a row. -/
theorem pay8_apply (r : Fin 256) : k0_pay8 (F := Ideal) (k0_pay3 x0) (k0_pay4 x0 x1 b0) (k0_pay5 x0 x2) b1 x3 b2 (ix2 r 0)
    = top (sc (k0_pay3 (F := Ideal) x0) x1 b0 r) (sc (k0_pay3 (F := Ideal) x0) x2 b1 r) (sc (k0_pay3 (F := Ideal) x0) x3 b2 r) := by
  unfold top
  pointwise [k0_pay8]
  simp only [pay4_apply, pay6_apply, pay7_apply, ninf]

/-- The second head's maximum of a row. -/
theorem pay21_apply (r : Fin 256) :
    k0_pay21 (F := Ideal) (k0_pay16 x0 k0_pay2) (k0_pay17 x0 k0_pay2 x1 b0) (k0_pay18 x0 k0_pay2 x2) b1 x3 b2 (ix2 r 0)
    = top (sc (k0_pay16 (F := Ideal) x0 k0_pay2) x1 b0 r) (sc (k0_pay16 (F := Ideal) x0 k0_pay2) x2 b1 r) (sc (k0_pay16 (F := Ideal) x0 k0_pay2) x3 b2 r) := by
  unfold top
  pointwise [k0_pay21]
  simp only [pay17_apply, pay19_apply, pay20_apply, ninf]

/-- The first head's result. -/
theorem first_apply (r : Fin 256) (d : Fin 128) : first x0 x1 x2 x3 x4 x5 x6 b0 b1 b2 (ix2 r d)
    = soft (sc (k0_pay3 (F := Ideal) x0) x1 b0 r) (sc (k0_pay3 (F := Ideal) x0) x2 b1 r) (sc (k0_pay3 (F := Ideal) x0) x3 b2 r)
        (fun j => x4 (ix2 j d)) (fun j => x5 (ix2 j d)) (fun j => x6 (ix2 j d)) := by
  unfold soft
  pointwise [first, k0_pay15, k0_pay10, k0_pay11, k0_pay13, k0_pay14, k0_pay9, k0_pay12]
  simp only [pay4_apply, pay6_apply, pay7_apply, pay8_apply]

/-- A block's result: the second head's in its lanes, the first head's in the others. -/
theorem both_apply (n : FVec Ideal S256x128 .f32) (r : Fin 256) (d : Fin 128) : both x0 x1 x2 x3 x4 x5 x6 n b0 b1 b2 (ix2 r d)
    = if 64 ≤ d.val then soft (sc (k0_pay16 (F := Ideal) x0 k0_pay2) x1 b0 r) (sc (k0_pay16 (F := Ideal) x0 k0_pay2) x2 b1 r) (sc (k0_pay16 (F := Ideal) x0 k0_pay2) x3 b2 r)
        (fun j => x4 (ix2 j d)) (fun j => x5 (ix2 j d)) (fun j => x6 (ix2 j d)) else n (ix2 r d) := by
  unfold soft
  pointwise [both, k0_pay1, k0_pay23, k0_pay25, k0_pay26, k0_pay22, k0_pay24]
  simp only [pay17_apply, pay19_apply, pay20_apply, pay21_apply]
  pointwise [k0_pay2]
  exact if_congr (high_word d) rfl rfl

end Cert.ChunkIdeal.Block

end
-- ==== Proof.ChunkIdx.lean ====
module

public import proofs.«01_k».proof.Proof.ChunkSpec
public import Idealize.ShloMosaic.Lib.Pointwise
public import Idealize.ShloMosaic.Lib.WordCmp

@[expose] public section

set_option synthInstance.maxSize 4096
set_option maxRecDepth 16384

/-!
The integer words from which both programs compute the chunk of a position and the column of the table of biases, and the gather that reads
that table.
-/

noncomputable section

namespace Cert.ChunkIdx

open Idealize.ShloMosaic

/-! ## The gather -/

section Take
variable {α : Type}

/-- The dimension numbers of reading, of a table with 16 rows and `N` columns, whole columns at an array of column numbers. -/
abbrev colDims (N A B : Nat) (wf : GatherDims.WF ⟨2, ![16, N]⟩ ⟨3, ![A, B, 1]⟩ ⟨3, ![16, A, B]⟩ [0] [1] [] [1] [] 2 ![16, 1]) :
    GatherDims ⟨2, ![16, N]⟩ ⟨3, ![A, B, 1]⟩ ⟨3, ![16, A, B]⟩ where
  offsetDims := [0]
  collapsedSliceDims := [1]
  operandBatchingDims := []
  startIndicesBatchingDims := []
  startIndexMap := [1]
  indexVectorDim := 2
  sliceSizes := ![16, 1]
  wf := wf

/-- An entry of what is gathered: the table's at its row and at the column the array of numbers names, kept inside the table. -/
theorem columns_apply {N A B : Nat} (hN : 0 < N)
    (wf : GatherDims.WF ⟨2, ![16, N]⟩ ⟨3, ![A, B, 1]⟩ ⟨3, ![16, A, B]⟩ [0] [1] [] [1] [] 2 ![16, 1])
    (x : (⟨2, ![16, N]⟩ : Shape).Idx → α) (idx : IVec ⟨3, ![A, B, 1]⟩ 32) (h : Fin 16) (r : Fin A) (s : Fin B) :
    Host.gather (colDims N A B wf) x idx (ix3 h r s) = x (ix2 h ⟨min (idx (ix3 r s 0)).toInt.toNat (N - 1), by omega⟩) := by
  unfold Host.gather
  congr 1
  funext a
  refine Fin.ext ?_
  show (colDims N A B wf).start (ix3 h r s) idx a + (colDims N A B wf).batchCoord (ix3 h r s) a + (colDims N A B wf).offCoord (ix3 h r s) a = _
  rw [GatherDims.batchCoord_eq_zero _ _ _ List.not_mem_nil]
  match a with
  | ⟨0, _⟩ =>
    have hs : (colDims N A B wf).start (ix3 h r s) idx 0 = 0 := by
      unfold GatherDims.start
      rw [dif_neg (show ¬(0 : Fin 2) ∈ (colDims N A B wf).startIndexMap from by simp)]
    have ho : (colDims N A B wf).offCoord (ix3 h r s) 0 = h.val := rfl
    show (colDims N A B wf).start (ix3 h r s) idx 0 + 0 + (colDims N A B wf).offCoord (ix3 h r s) 0 = h.val
    rw [hs, ho]; omega
  | ⟨1, _⟩ =>
    have ho : (colDims N A B wf).offCoord (ix3 h r s) 1 = 0 :=
      GatherDims.offCoord_eq_zero _ _ _ (fun h => ((GatherDims.mem_sKept _ _).mp h).1 (List.mem_singleton.mpr rfl))
    show (colDims N A B wf).start (ix3 h r s) idx 1 + 0 + (colDims N A B wf).offCoord (ix3 h r s) 1 = _
    rw [ho, Nat.add_zero]
    unfold GatherDims.start
    rw [dif_pos (show (1 : Fin 2) ∈ (colDims N A B wf).startIndexMap from List.mem_singleton.mpr rfl)]
    have hsi : (colDims N A B wf).siIdx (ix3 h r s) ⟨List.idxOf (1 : Fin 2) (colDims N A B wf).startIndexMap,
        List.idxOf_lt_length_iff.2 (List.mem_singleton.mpr rfl)⟩ = ix3 r s 0 := by
      funext b; refine Fin.ext ?_
      match b with
      | ⟨0, _⟩ => rfl
      | ⟨1, _⟩ => rfl
      | ⟨2, _⟩ => rfl
    rw [hsi]
    rfl

end Take

/-! ## The words -/

/-- The word of a word's sign. -/
def sign (x : BitVec 32) : BitVec 32 := if x = 0 then 0 else if x.msb then -1 else 1

/-- The word of a position's chunk: the quotient by 64, rounded down. -/
def chunk (x : BitVec 32) : BitVec 32 :=
  Scalar.select (IntOp.andi (IntOp.cmpi .ne (sign x) (sign 64#32)) (IntOp.cmpi .ne (IntOp.remsi .host x 64#32) 0#32))
    (IntOp.subi (IntOp.divsi .host x 64#32) 1#32) (IntOp.divsi .host x 64#32)

/-- The word that says whether a distance of chunks is one that is seen. -/
def near (x : BitVec 32) : BitVec 1 := IntOp.andi (IntOp.cmpi .sge x 0#32) (IntOp.cmpi .sle x 8#32)

/-- The word of a distance's column before a negative one is wrapped round. -/
def col0 (x : BitVec 32) : BitVec 32 := IntOp.addi (IntOp.minsi 128#32 (IntOp.maxsi 4294967168#32 x)) 128#32

/-- The word of a distance's column. -/
def col (x : BitVec 32) : BitVec 32 := Scalar.select (IntOp.cmpi .slt (col0 x) 0#32) (IntOp.addi (col0 x) 257#32) (col0 x)

/-- The chunk of a position, by its chunk and its place there. -/
theorem chunk_split : ∀ (a : Fin 128) (b : Fin 64), chunk (BitVec.ofNat 32 (64 * a.val + b.val)) = BitVec.ofNat 32 a.val := by
  decide +kernel

/-- The chunk of a position is its quotient by 64. -/
theorem chunk_pos (t : ℕ) (ht : t < 8192) : chunk (BitVec.ofNat 32 t) = BitVec.ofNat 32 (t / 64) := by
  have h := chunk_split ⟨t / 64, by omega⟩ ⟨t % 64, Nat.mod_lt _ (by decide)⟩
  dsimp only at h
  rwa [Nat.div_add_mod] at h

/-- The chunk of a position counted from 512 before. -/
theorem chunk_back_split : ∀ (a : Fin 12) (b : Fin 64), chunk (BitVec.ofNat 32 (64 * a.val + b.val) - 512#32) = BitVec.ofNat 32 a.val - 8#32 := by
  decide +kernel

/-- The chunk of a position counted from 512 before is 8 less than its quotient by 64. -/
theorem chunk_back (k : ℕ) (hk : k < 768) : chunk (BitVec.ofNat 32 k - 512#32) = BitVec.ofNat 32 (k / 64) - 8#32 := by
  have h := chunk_back_split ⟨k / 64, by omega⟩ ⟨k % 64, Nat.mod_lt _ (by decide)⟩
  dsimp only at h
  rwa [Nat.div_add_mod] at h

/-- Which distances of chunks are seen. -/
theorem near_split : ∀ a b : Fin 128, near (BitVec.ofNat 32 a.val - BitVec.ofNat 32 b.val) = 1 ↔ b.val ≤ a.val ∧ a.val ≤ b.val + 8 := by
  decide +kernel

/-- Two positions' chunks are near if the one sees the other. -/
theorem near_pos (t s : ℕ) (ht : t < 8192) (hs : s < 8192) :
    near (chunk (BitVec.ofNat 32 t) - chunk (BitVec.ofNat 32 s)) = 1 ↔ ChunkSpec.Seen t s := by
  rw [chunk_pos t ht, chunk_pos s hs]
  exact near_split ⟨t / 64, by omega⟩ ⟨s / 64, by omega⟩

/-- The same for a row of a block and a place in the three blocks that end with it. -/
theorem near_back_split : ∀ (a : Fin 4) (b : Fin 12), near (BitVec.ofNat 32 a.val - (BitVec.ofNat 32 b.val - 8#32)) = 1
    ↔ b.val ≤ a.val + 8 ∧ a.val ≤ b.val := by decide +kernel

/-- A row of block `i` and a place in the three blocks that end with it. -/
theorem near_back (i r k : ℕ) (hr : r < 256) (hk : k < 768) (hik : 512 ≤ 256 * i + k) :
    near (chunk (BitVec.ofNat 32 r) - chunk (BitVec.ofNat 32 k - 512#32)) = 1 ↔ ChunkSpec.Seen (256 * i + r) (256 * i + k - 512) := by
  rw [chunk_pos r (by omega), chunk_back k hk]
  refine (near_back_split ⟨r / 64, by omega⟩ ⟨k / 64, by omega⟩).trans ?_
  unfold ChunkSpec.Seen
  dsimp only
  omega

/-- The column of a distance forward. -/
theorem col_split : ∀ (a : Fin 128) (b : Fin 64), (col (BitVec.ofNat 32 (64 * a.val + b.val))).toInt.toNat = min (64 * a.val + b.val + 128) 256 := by
  decide +kernel

/-- The column of a distance backward. -/
theorem col_neg_split : ∀ (a : Fin 128) (b : Fin 64), (col (0#32 - BitVec.ofNat 32 (64 * a.val + b.val))).toInt.toNat = 128 - (64 * a.val + b.val) := by
  decide +kernel

/-- The column for two positions. -/
theorem col_pos (t s : ℕ) (ht : t < 8192) (hs : s < 8192) :
    (col (BitVec.ofNat 32 t - BitVec.ofNat 32 s)).toInt.toNat = ChunkSpec.column t s := by
  unfold ChunkSpec.column
  by_cases h : s ≤ t
  · have e : BitVec.ofNat 32 t - BitVec.ofNat 32 s = BitVec.ofNat 32 (t - s) := by bv_omega
    have k := col_split ⟨(t - s) / 64, by omega⟩ ⟨(t - s) % 64, Nat.mod_lt _ (by decide)⟩
    dsimp only at k
    rw [Nat.div_add_mod] at k
    rw [e, k]
    omega
  · have e : BitVec.ofNat 32 t - BitVec.ofNat 32 s = 0#32 - BitVec.ofNat 32 (s - t) := by bv_omega
    have k := col_neg_split ⟨(s - t) / 64, by omega⟩ ⟨(s - t) % 64, Nat.mod_lt _ (by decide)⟩
    dsimp only at k
    rw [Nat.div_add_mod] at k
    rw [e, k]
    omega

/-- The column for a row of block `i` and a place in the three blocks that end with it. -/
theorem col_back (i r k : ℕ) (hr : r < 256) (hk : k < 768) (hik : 512 ≤ 256 * i + k) :
    (col (BitVec.ofNat 32 r - (BitVec.ofNat 32 k - 512#32))).toInt.toNat = ChunkSpec.column (256 * i + r) (256 * i + k - 512) := by
  have e : BitVec.ofNat 32 r - (BitVec.ofNat 32 k - 512#32) = BitVec.ofNat 32 (r + 512) - BitVec.ofNat 32 k := by bv_omega
  rw [e, col_pos (r + 512) k (by omega) (by omega)]
  unfold ChunkSpec.column
  omega

end Cert.ChunkIdx

end
-- ==== Proof.ChunkBias.lean ====
module

public import proofs.«01_k».proof.Proof.ChunkIdx
public import proofs.«01_k».proof.Proof.Gen.ChunkIdeal.Value

@[expose] public section

set_option synthInstance.maxSize 4096
set_option maxRecDepth 16384

/-!
The array of biases the host hands the kernel of the chunked attention, element by element.
-/

noncomputable section

namespace Cert.ChunkIdeal.Bias

open Idealize.ShloMosaic Idealize.ShloMosaic.TcCoe Idealize.SL.Sem Cert.ChunkIdeal.Gen Cert.ChunkIdeal.Value

/-- The rows of a block, by their numbers. -/
def rows : IVec S256x1 32 := broadcastInDim S256x1 ![0] bcast_S256_S256x1_0 (iotaInDim S256 32 0)

/-- The places in the three blocks, by their numbers counted from the last block. -/
def places : IVec S1x768 32 :=
  subi (broadcastInDim S1x768 ![1] bcast_S768_S1x768_1 (iotaInDim S768 32 0)) (broadcastInDim S1x768 ![] bcast_S_S1x768 (constantI S_ 32 512#32))

/-- A row's number less a place's. -/
def less (x : IVec S256x1 32) (y : IVec S1x768 32) : IVec S256x768 32 :=
  subi (broadcastInDim S256x768 ![0, 1] bcast_S256x1_S256x768_0_1 x) (broadcastInDim S256x768 ![0, 1] bcast_S1x768_S256x768_0_1 y)

/-- The chunks of the rows. -/
def rowChunks (x : IVec S256x1 32) : IVec S256x1 32 :=
  select (andi (cmpi .ne (signi x) (broadcastInDim S256x1 ![] bcast_S_S256x1 (signi (id (constantI S_ 32 64#32)))))
      (cmpi .ne (Host.remsi x (broadcastInDim S256x1 ![] bcast_S_S256x1 (id (constantI S_ 32 64#32))))
        (broadcastInDim S256x1 ![] bcast_S_S256x1 (constantI S_ 32 0#32))))
    (subi (Host.divsi x (broadcastInDim S256x1 ![] bcast_S_S256x1 (id (constantI S_ 32 64#32))))
      (broadcastInDim S256x1 ![] bcast_S_S256x1 (constantI S_ 32 1#32)))
    (Host.divsi x (broadcastInDim S256x1 ![] bcast_S_S256x1 (id (constantI S_ 32 64#32))))

/-- The chunks of the places. -/
def placeChunks (x : IVec S1x768 32) : IVec S1x768 32 :=
  select (andi (cmpi .ne (signi x) (broadcastInDim S1x768 ![] bcast_S_S1x768 (signi (id (constantI S_ 32 64#32)))))
      (cmpi .ne (Host.remsi x (broadcastInDim S1x768 ![] bcast_S_S1x768 (id (constantI S_ 32 64#32))))
        (broadcastInDim S1x768 ![] bcast_S_S1x768 (constantI S_ 32 0#32))))
    (subi (Host.divsi x (broadcastInDim S1x768 ![] bcast_S_S1x768 (id (constantI S_ 32 64#32))))
      (broadcastInDim S1x768 ![] bcast_S_S1x768 (constantI S_ 32 1#32)))
    (Host.divsi x (broadcastInDim S1x768 ![] bcast_S_S1x768 (id (constantI S_ 32 64#32))))

/-- Which places a row sees. -/
def seen (d : IVec S256x768 32) : IVec S256x768 1 :=
  andi (cmpi .sge d (broadcastInDim S256x768 ![] bcast_S_S256x768 (constantI S_ 32 0#32)))
    (cmpi .sle d (broadcastInDim S256x768 ![] bcast_S_S256x768 (constantI S_ 32 8#32)))

/-- The distances, kept between -128 and 128, plus 128. -/
def dist (d : IVec S256x768 32) : IVec S256x768 32 :=
  addi (minsi (broadcastInDim S256x768 ![] bcast_S_S256x768 (id (constantI S_ 32 128#32)))
      (maxsi (broadcastInDim S256x768 ![] bcast_S_S256x768 (id (constantI S_ 32 4294967168#32))) d))
    (broadcastInDim S256x768 ![] bcast_S_S256x768 (constantI S_ 32 128#32))

/-- The columns of the table of biases. -/
def cols (d : IVec S256x768 32) : IVec S256x768 32 :=
  select (cmpi .slt d (broadcastInDim S256x768 ![] bcast_S_S256x768 (constantI S_ 32 0#32)))
    (addi d (broadcastInDim S256x768 ![] bcast_S_S256x768 (constantI S_ 32 257#32))) d

/-- The biases, minus infinity where a row does not see a place. -/
def masked (B : FVec Ideal S16x257 .f32) (w : IVec S256x768 1) (k : IVec S256x768 32) : FVec Ideal S16x256x768 .f32 :=
  select (broadcastInDim S16x256x768 ![0, 1, 2] bcast_S1x256x768_S16x256x768_0_1_2
      (broadcastInDim S1x256x768 ![1, 2] bcast_S256x768_S1x256x768_1_2 w))
    (Host.gather gather_S16x257_S256x768x1_S16x256x768_0_1_n_n_1_2_161 B
      (broadcastInDim S256x768x1 ![0, 1] bcast_S256x768_S256x768x1_0_1 k))
    (broadcastInDim S16x256x768 ![] bcast_S_S16x256x768 (id (constant S_ .f32 0xFF800000#32)))

/-- The biases cut into three slabs, with a fourth of minus infinity, a pair of heads to each grid row. -/
def slabs (x : FVec Ideal S16x256x768 .f32) : FVec Ideal S8x2x4x256x256 .f32 :=
  shapeCast S8x2x4x256x256 (concatenate S16x4x256x256 1
    [⟨S16x3x256x256, transpose S16x3x256x256 [0, 2, 1, 3] (shapeCast S16x256x3x256 x shapeCasts_S16x256x768_S16x256x3x256)
        transposes_S16x256x3x256_S16x3x256x256_0_2_1_3⟩,
      ⟨S16x1x256x256, broadcastInDim S16x1x256x256 ![] bcast_S_S16x1x256x256 (constant S_ .f32 0xFF800000#32)⟩]
    concatenates_S16x3x256x256_S16x1x256x256_S16x4x256x256_d1) shapeCasts_S16x4x256x256_S8x2x4x256x256

variable (m : (ℓ : Loc nD τ sig) → Buf (Elt Ideal) ℓ) (c : Dev nD)

/-- The host's last operations cut the biases into slabs. -/
theorem last_eq (W : Valuation τ sig (Elt Ideal)) :
    StableHlo.after (hostOps0_8 (F := Ideal)) W main_v35 = slabs (W main_v30) := by
  unfold hostOps0_8
  after_results_simp
  rfl

/-- The host's operations before compute the masked biases. -/
theorem before_eq : StableHlo.after (List.flatten [hostOps0 (F := Ideal), hostOps0_1, hostOps0_2, hostOps0_3, hostOps0_4, hostOps0_5, hostOps0_6, hostOps0_7])
      (fun b => m (c, b)) main_v30
    = masked (m ((c : Thread nD τ).loc main_arg1)) (seen (less (rowChunks rows) (placeChunks places))) (cols (dist (less rows places))) := by
  unfold hostOps0 hostOps0_1 hostOps0_2 hostOps0_3 hostOps0_4 hostOps0_5 hostOps0_6 hostOps0_7
  simp only [StableHlo.TRef.binary, StableHlo.TRef.nullary, StableHlo.TRef.ternary, StableHlo.TRef.unary, StableHlo.TRef.toBuf, StableHlo.TRef.ofBuf, cast_eq,
    List.flatten_cons, List.flatten_nil, List.append_nil, List.cons_append, List.nil_append]
  after_results_simp
  rfl

/-- The array the host hands the kernel, in these steps. -/
theorem bias_eq : V m c main_v35
    = slabs (masked (m ((c : Thread nD τ).loc main_arg1)) (seen (less (rowChunks rows) (placeChunks places))) (cols (dist (less rows places)))) := by
  have h : List.flatten [hostOps0 (F := Ideal), hostOps0_1, hostOps0_2, hostOps0_3, hostOps0_4, hostOps0_5, hostOps0_6, hostOps0_7, hostOps0_8]
      = List.flatten [hostOps0 (F := Ideal), hostOps0_1, hostOps0_2, hostOps0_3, hostOps0_4, hostOps0_5, hostOps0_6, hostOps0_7] ++ hostOps0_8 := by
    simp only [List.flatten_cons, List.flatten_nil, List.append_nil, List.append_assoc]
  unfold V
  rw [h, StableHlo.after_append, last_eq, before_eq]

/-- A difference. -/
theorem less_apply (x : IVec S256x1 32) (y : IVec S1x768 32) (r : Fin 256) (k : Fin 768) : less x y (ix2 r k) = x (ix2 r 0) - y (ix2 0 k) := by
  pointwise [less]
  rfl

/-- A row. -/
theorem rows_apply (r : Fin 256) : rows (ix2 r 0) = BitVec.ofNat 32 r.val := by
  pointwise [rows]

/-- A place. -/
theorem places_apply (k : Fin 768) : places (ix2 0 k) = BitVec.ofNat 32 k.val - 512#32 := by
  pointwise [places]
  rfl

/-- The chunk of a row. -/
theorem rowChunks_apply (x : IVec S256x1 32) (r : Fin 256) : rowChunks x (ix2 r 0) = ChunkIdx.chunk (x (ix2 r 0)) := rfl

/-- The chunk of a place. -/
theorem placeChunks_apply (x : IVec S1x768 32) (k : Fin 768) : placeChunks x (ix2 0 k) = ChunkIdx.chunk (x (ix2 0 k)) := rfl

/-- Whether a row sees a place. -/
theorem seen_apply (d : IVec S256x768 32) (r : Fin 256) (k : Fin 768) : seen d (ix2 r k) = ChunkIdx.near (d (ix2 r k)) := rfl

/-- The column of the table. -/
theorem cols_apply (d : IVec S256x768 32) (r : Fin 256) (k : Fin 768) : cols (dist d) (ix2 r k) = ChunkIdx.col (d (ix2 r k)) := rfl

/-- A word of the array of columns with a last axis of one. -/
theorem word_apply (x : IVec S256x768 32) (r : Fin 256) (k : Fin 768) :
    broadcastInDim S256x768x1 ![0, 1] bcast_S256x768_S256x768x1_0_1 x (ix3 r k 0) = x (ix2 r k) := by
  pointwise

/-- A masked bias. -/
theorem masked_apply (B : FVec Ideal S16x257 .f32) (w : IVec S256x768 1) (x : IVec S256x768 32) (a : Fin 16) (r : Fin 256) (k : Fin 768)
    (j : Fin 257) (hj : j.val = (x (ix2 r k)).toInt.toNat) :
    masked B w x (ix3 a r k) = Scalar.select (w (ix2 r k)) (B (ix2 a j)) (⊥ : EReal) := by
  have hg : Host.gather gather_S16x257_S256x768x1_S16x256x768_0_1_n_n_1_2_161 B
      (broadcastInDim S256x768x1 ![0, 1] bcast_S256x768_S256x768x1_0_1 x) (ix3 a r k) = B (ix2 a j) := by
    have hc := word_apply x r k
    generalize broadcastInDim S256x768x1 ![0, 1] bcast_S256x768_S256x768x1_0_1 x = y at hc
    have key := ChunkIdx.columns_apply (N := 257) (A := 256) (B := 768) (by decide)
      gather_S16x257_S256x768x1_S16x256x768_0_1_n_n_1_2_161_wf B y a r k
    refine Eq.trans ?_ (key.trans ?_)
    · rfl
    refine congrArg (fun j => B (ix2 a j)) (Fin.ext ?_)
    dsimp only
    rw [hc, ← hj]
    have := j.isLt
    omega
  have hn : Ideal.ofBits .f32 0xFF800000#32 = (⊥ : EReal) := by simp [Ideal.ofBits, Ideal.ieee]
  unfold masked
  generalize Host.gather gather_S16x257_S256x768x1_S16x256x768_0_1_n_n_1_2_161 B
      (broadcastInDim S256x768x1 ![0, 1] bcast_S256x768_S256x768x1_0_1 x) = g at hg
  rw [← hg, ← hn]
  pointwise
  rfl

/-- An element of one of the three slabs. -/
theorem slabs_apply (x : FVec Ideal S16x256x768 .f32) (p : Fin 8) (e : Fin 2) (l : Fin 4) (hl : l.val < 3) (r s : Fin 256) (a : Fin 16)
    (k : Fin 768) (ha : a.val = 2 * p.val + e.val) (hk : k.val = 256 * l.val + s.val) :
    slabs x (ix5 p e l r s) = x (ix3 a r k) := by
  unfold slabs
  refine (shapeCast_apply (s := S16x4x256x256) (t := S8x2x4x256x256) _ _ _ (ix4 a l r s) ?_).trans ?_
  · rw [Shape.rowMajor_val_four, Shape.rowMajor_val_five]
    show ((a.val * 4 + l.val) * 256 + r.val) * 256 + s.val = (((p.val * 2 + e.val) * 4 + l.val) * 256 + r.val) * 256 + s.val
    omega
  refine (concatenate_pair_apply_left (s₁ := S16x3x256x256) (s₂ := S16x1x256x256) (t := S16x4x256x256) 1 _ _ _ (ix4 a l r s) rfl
    (ix4 a ⟨l.val, hl⟩ r s) (fun b => by match b with | ⟨0, _⟩ => rfl | ⟨1, _⟩ => rfl | ⟨2, _⟩ => rfl | ⟨3, _⟩ => rfl)).trans ?_
  refine (transpose_apply [0, 2, 1, 3] (s := S16x256x3x256) (t := S16x3x256x256) _ _ (ix4 a ⟨l.val, hl⟩ r s) (ix4 a r ⟨l.val, hl⟩ s)
    (fun x => by match x with | ⟨0, _⟩ => rfl | ⟨1, _⟩ => rfl | ⟨2, _⟩ => rfl | ⟨3, _⟩ => rfl)).trans ?_
  refine shapeCast_apply (s := S16x256x768) (t := S16x256x3x256) _ _ _ (ix3 a r k) ?_
  rw [Shape.rowMajor_val_three, Shape.rowMajor_val_four]
  show (a.val * 256 + r.val) * 768 + k.val = ((a.val * 256 + r.val) * 3 + l.val) * 256 + s.val
  omega

/-- An element of the fourth slab. -/
theorem slabs_last (x : FVec Ideal S16x256x768 .f32) (p : Fin 8) (e : Fin 2) (r s : Fin 256) : slabs x (ix5 p e 3 r s) = (⊥ : EReal) := by
  unfold slabs
  refine (shapeCast_apply (s := S16x4x256x256) (t := S8x2x4x256x256) _ _ _ (ix4 ⟨2 * p.val + e.val, by omega⟩ 3 r s) ?_).trans ?_
  · rw [Shape.rowMajor_val_four, Shape.rowMajor_val_five]
    show (((2 * p.val + e.val) * 4 + 3) * 256 + r.val) * 256 + s.val = (((p.val * 2 + e.val) * 4 + 3) * 256 + r.val) * 256 + s.val
    omega
  have hn : Ideal.ofBits .f32 0xFF800000#32 = (⊥ : EReal) := by simp [Ideal.ofBits, Ideal.ieee]
  refine (concatenate_pair_apply_right (s₁ := S16x3x256x256) (s₂ := S16x1x256x256) (t := S16x4x256x256) 1 _ _ _
    (ix4 ⟨2 * p.val + e.val, by omega⟩ 3 r s) rfl rfl (ix4 ⟨2 * p.val + e.val, by omega⟩ 0 r s)
    (fun b hb => by match b with | ⟨0, _⟩ => rfl | ⟨1, _⟩ => exact absurd rfl hb | ⟨2, _⟩ => rfl | ⟨3, _⟩ => rfl) rfl).trans ?_
  exact hn

end Cert.ChunkIdeal.Bias

end
-- ==== Proof.ChunkArray.lean ====
module

public import proofs.«01_k».proof.Proof.ChunkBlock
public import proofs.«01_k».proof.Proof.ChunkBias
public import proofs.«01_k».proof.Proof.Spec
public import proofs.«01_k».proof.Proof.RefValue
public import proofs.«01_k».proof.Proof.Gen.ChunkIdeal.Value
public import Idealize.ShloMosaic.Lib.Pipeline.ValueKit.Tiles

@[expose] public section

set_option synthInstance.maxSize 4096
set_option maxRecDepth 16384

/-!
The result array of the kernel of the chunked attention, over real arguments: every element is the formula of the chunked attention.
-/

noncomputable section

namespace Cert.ChunkIdeal.Array

open Idealize.ShloMosaic Idealize.ShloMosaic.TcCoe Idealize.SL.Sem Cert.ChunkIdeal.Gen Cert.ChunkIdeal.Value
  Cert.ChunkIdeal.Words Cert.ChunkIdeal.Block Cert.ChunkIdeal.Bias

/-! ## A row of a block -/

/-- A score over real queries and keys, the queries' lanes outside head `e` cleared. -/
theorem sc_real (X K : FVec Ideal S256x128 .bf16) (b : FVec Ideal S1x1x1x256x256 .f32) (r j : Fin 256) (e : ℕ) (he : e < 2) (q k : ℕ → ℝ)
    (hX : ∀ d : Fin 128, X (ix2 r d) = if d.val / 64 = e then ((q d.val : ℝ) : EReal) else 0)
    (hK : ∀ d : Fin 128, K (ix2 j d) = ((k d.val : ℝ) : EReal)) :
    sc X K b r j = ((∑ d : Fin 64, q (64 * e + d.val) * k (64 * e + d.val) : ℝ) : EReal) + b (ix5 0 0 0 r j) := by
  unfold sc
  congr 1
  rw [← Cert.Fox.sum_lanes (fun d => q d * k d) e he, ← Cert.ReferenceIdeal.Fox.coe_sum_fin]
  refine Finset.sum_congr rfl fun d _ => ?_
  rw [hX, hK]
  by_cases hd : d.val / 64 = e
  · rw [if_pos hd, if_pos hd, EReal.coe_mul]
  · rw [if_neg hd, if_neg hd, zero_mul, EReal.coe_zero]

/-- Only the values of the positions seen count. -/
theorem mean_congr (P : ℕ → Prop) [DecidablePred P] (x v w : ℕ → ℝ) (n : ℕ) (h : ∀ k, P k → v k = w k) :
    ChunkSpec.mean P x v n = ChunkSpec.mean P x w n := by
  unfold ChunkSpec.mean ChunkSpec.over
  congr 1
  refine Finset.sum_congr rfl fun k _ => ?_
  split
  · rename_i hk; dsimp only; rw [h k hk]
  · rfl

/-- The positions the row `t` of block `i` sees, among the places of the three blocks. -/
def Near (i t k : ℕ) : Prop := 512 ≤ 256 * i + k ∧ ChunkSpec.Seen t (256 * i + k - 512)

instance (i t : ℕ) : DecidablePred (Near i t) := fun _ => inferInstanceAs (Decidable (_ ∧ _))

/-- A row of a block: over real queries, keys, values and biases it is the formula. -/
theorem soft_value (h f : ℕ → ℕ → ℝ) (b p i e c : ℕ) (he : e < 2) (hi : i < 32) (r : Fin 256)
    (X K0 K1 K2 : FVec Ideal S256x128 .bf16) (B0 B1 B2 : FVec Ideal S1x1x1x256x256 .f32) (w0 w1 w2 : Fin 256 → EReal)
    (hX : ∀ d : Fin 128, X (ix2 r d) = if d.val / 64 = e then ((h (8192 * b + (256 * i + r.val)) (128 * p + d.val) : ℝ) : EReal) else 0)
    (k0 : ∀ (j : Fin 256) (d : Fin 128), K0 (ix2 j d) = ((h (8192 * b + (256 * (i + 0 - 2) + j.val)) (1024 + 128 * p + d.val) : ℝ) : EReal))
    (k1 : ∀ (j : Fin 256) (d : Fin 128), K1 (ix2 j d) = ((h (8192 * b + (256 * (i + 1 - 2) + j.val)) (1024 + 128 * p + d.val) : ℝ) : EReal))
    (k2 : ∀ (j : Fin 256) (d : Fin 128), K2 (ix2 j d) = ((h (8192 * b + (256 * (i + 2 - 2) + j.val)) (1024 + 128 * p + d.val) : ℝ) : EReal))
    (v0 : ∀ j : Fin 256, w0 j = ((h (8192 * b + (256 * (i + 0 - 2) + j.val)) (2048 + c) : ℝ) : EReal))
    (v1 : ∀ j : Fin 256, w1 j = ((h (8192 * b + (256 * (i + 1 - 2) + j.val)) (2048 + c) : ℝ) : EReal))
    (v2 : ∀ j : Fin 256, w2 j = ((h (8192 * b + (256 * (i + 2 - 2) + j.val)) (2048 + c) : ℝ) : EReal))
    (b0 : ∀ j : Fin 256, B0 (ix5 0 0 0 r j) = if Near i (256 * i + r.val) (0 + j.val)
      then ((f (2 * p + e) (ChunkSpec.column (256 * i + r.val) (256 * i + (0 + j.val) - 512)) : ℝ) : EReal) else ⊥)
    (b1 : ∀ j : Fin 256, B1 (ix5 0 0 0 r j) = if Near i (256 * i + r.val) (256 + j.val)
      then ((f (2 * p + e) (ChunkSpec.column (256 * i + r.val) (256 * i + (256 + j.val) - 512)) : ℝ) : EReal) else ⊥)
    (b2 : ∀ j : Fin 256, B2 (ix5 0 0 0 r j) = if Near i (256 * i + r.val) (256 + 256 + j.val)
      then ((f (2 * p + e) (ChunkSpec.column (256 * i + r.val) (256 * i + (256 + 256 + j.val) - 512)) : ℝ) : EReal) else ⊥) :
    soft (sc X K0 B0 r) (sc X K1 B1 r) (sc X K2 B2 r) w0 w1 w2
      = ((ChunkSpec.mean (ChunkSpec.Seen (256 * i + r.val)) (ChunkSpec.score h f b (2 * p + e) (256 * i + r.val)) (fun s => h (8192 * b + s) (2048 + c)) 8192 : ℝ) : EReal) := by
  have hr := r.isLt
  have key : ∀ (o l : ℕ) (_ : o = 256 * l) (K : FVec Ideal S256x128 .bf16) (B : FVec Ideal S1x1x1x256x256 .f32)
      (_ : ∀ (j : Fin 256) (d : Fin 128), K (ix2 j d) = ((h (8192 * b + (256 * (i + l - 2) + j.val)) (1024 + 128 * p + d.val) : ℝ) : EReal))
      (_ : ∀ j : Fin 256, B (ix5 0 0 0 r j) = if Near i (256 * i + r.val) (o + j.val)
        then ((f (2 * p + e) (ChunkSpec.column (256 * i + r.val) (256 * i + (o + j.val) - 512)) : ℝ) : EReal) else ⊥) (j : Fin 256),
      sc X K B r j = if Near i (256 * i + r.val) (o + j.val)
        then ((ChunkSpec.score h f b (2 * p + e) (256 * i + r.val) (256 * i + (o + j.val) - 512) : ℝ) : EReal) else ⊥ := by
    intro o l ho K B hK hB j
    have hj := j.isLt
    rw [sc_real X K B r j e he (fun d => h (8192 * b + (256 * i + r.val)) (128 * p + d))
      (fun d => h (8192 * b + (256 * (i + l - 2) + j.val)) (1024 + 128 * p + d)) hX (hK j), hB]
    by_cases hn : Near i (256 * i + r.val) (o + j.val)
    · rw [if_pos hn, if_pos hn, ← EReal.coe_add]
      congr 1
      unfold ChunkSpec.score
      have e1 : 256 * (i + l - 2) + j.val = 256 * i + (o + j.val) - 512 := by have := hn.1; omega
      rw [e1]
      refine congrArg₂ (· + ·) (Finset.sum_congr rfl fun d _ => ?_) rfl
      rw [show 128 * p + (64 * e + d.val) = 64 * (2 * p + e) + d.val by omega,
        show 1024 + 128 * p + (64 * e + d.val) = 1024 + 64 * (2 * p + e) + d.val by omega]
    · rw [if_neg hn, if_neg hn, EReal.add_bot]
  have keyv : ∀ (o l : ℕ) (_ : o = 256 * l) (j : Fin 256),
      h (8192 * b + (256 * (i + l - 2) + j.val)) (2048 + c)
        = (fun k => h (8192 * b + (256 * (i + k / 256 - 2) + k % 256)) (2048 + c)) (o + j.val) := by
    intro o l ho j
    have hj := j.isLt
    dsimp only
    rw [show (o + j.val) / 256 = l by omega, show (o + j.val) % 256 = j.val by omega]
  unfold soft
  refine (ChunkSpec.three_blocks (Near i (256 * i + r.val)) (fun k => ChunkSpec.score h f b (2 * p + e) (256 * i + r.val) (256 * i + k - 512))
    (fun k => h (8192 * b + (256 * (i + k / 256 - 2) + k % 256)) (2048 + c)) _ _ _ _ _ _
    (key 0 0 rfl K0 B0 k0 b0) (key 256 1 rfl K1 B1 k1 b1) (key (256 + 256) 2 rfl K2 B2 k2 b2)
    (fun j => (v0 j).trans (congrArg _ (keyv 0 0 rfl j))) (fun j => (v1 j).trans (congrArg _ (keyv 256 1 rfl j)))
    (fun j => (v2 j).trans (congrArg _ (keyv (256 + 256) 2 rfl j))) r ?_ _ rfl).trans ?_
  · refine ⟨by omega, ?_⟩
    rw [show 256 * i + (256 + 256 + r.val) - 512 = 256 * i + r.val by omega]
    exact ⟨le_rfl, Nat.le_add_right _ _⟩
  · congr 1
    refine (mean_congr _ _ _ (fun k => h (8192 * b + (256 * i + k - 512)) (2048 + c)) _ fun k hk => ?_).trans
      (ChunkSpec.mean_near (256 * i + r.val) i (by omega) (by omega) _ (fun s => h (8192 * b + s) (2048 + c)))
    have := hk.1
    congr 1
    have hm := Nat.div_add_mod k 256
    omega

/-! ## The biases a point reads -/

/-- The slab of biases the kernel takes for a block of keys, as words. -/
theorem slab_word : ∀ (j : Fin 3) (q : Fin 32), (Scalar.select (Scalar.cmpi .sge (Scalar.addi (BitVec.ofNat 32 q.val) (k0_off1_at j).1) 2#32)
    (k0_off1_at j).2 3#32).toNat = if 2 ≤ q.val + j.val then j.val else 3 := by decide +kernel

/-- The slab of biases the kernel takes for a block of keys. -/
def slab (q : ℕ) (j : Fin 3) : Fin 4 := if 2 ≤ q + j.val then j.castSucc else 3

/-- The slab's number. -/
theorem slab_val (q : ℕ) (j : Fin 3) : (slab q j).val = if 2 ≤ q + j.val then j.val else 3 := by
  unfold slab
  split <;> rfl

/-- The first head's bias. -/
theorem bias0_apply (i : grid0.Coords) (x7 : Vec Ideal S1x2x4x256x256 .f32) (j : Fin 3) (r s : Fin 256) :
    bias0 i x7 j (ix5 0 0 0 r s) = x7 (ix5 0 0 (slab (i 2).val j) r s) := by
  unfold bias0
  refine View.ld_unit_apply_of (S := S1x2x4x256x256) x7 _ _ _ _ _ fun a => ?_
  match a with
  | ⟨0, _⟩ => rfl
  | ⟨1, _⟩ => rfl
  | ⟨2, _⟩ =>
    show (slab (i 2).val j).val = (Scalar.select (Scalar.cmpi .sge (Scalar.addi (BitVec.ofNat 32 (i 2).val) (k0_off1_at j).1) 2#32)
      (k0_off1_at j).2 3#32).toNat + 0
    rw [slab_word j (i 2), slab_val, Nat.add_zero]
  | ⟨3, _⟩ => show r.val = 0 + r.val; omega
  | ⟨4, _⟩ => show s.val = 0 + s.val; omega

/-- The second head's bias. -/
theorem bias1_apply (i : grid0.Coords) (x7 : Vec Ideal S1x2x4x256x256 .f32) (j : Fin 3) (r s : Fin 256) :
    bias1 i x7 j (ix5 0 0 0 r s) = x7 (ix5 0 1 (slab (i 2).val j) r s) := by
  unfold bias1
  refine View.ld_unit_apply_of (S := S1x2x4x256x256) x7 _ _ _ _ _ fun a => ?_
  match a with
  | ⟨0, _⟩ => rfl
  | ⟨1, _⟩ => rfl
  | ⟨2, _⟩ =>
    show (slab (i 2).val j).val = (Scalar.select (Scalar.cmpi .sge (Scalar.addi (BitVec.ofNat 32 (i 2).val) (k0_off1_at j).1) 2#32)
      (k0_off1_at j).2 3#32).toNat + 0
    rw [slab_word j (i 2), slab_val, Nat.add_zero]
  | ⟨3, _⟩ => show r.val = 0 + r.val; omega
  | ⟨4, _⟩ => show s.val = 0 + s.val; omega

variable (m : (ℓ : Loc nD τ sig) → Buf (Elt Ideal) ℓ) (c : Dev nD)

/-- The array of biases, at the slab taken for the block `l` of keys by a row of block `i`. -/
theorem bias_apply (f : ℕ → ℕ → ℝ)
    (hf : ∀ (a : Fin 16) (x : Fin 257), (m ((c : Thread nD τ).loc main_arg1) : Vec Ideal S16x257 .f32) (ix2 a x) = ((f a.val x.val : ℝ) : EReal))
    (p : Fin 8) (e : Fin 2) (i : ℕ) (hi : i < 32) (l : Fin 3) (r s : Fin 256) (k : ℕ) (hk : k = 256 * l.val + s.val) :
    (V m c main_v35 : Vec Ideal S8x2x4x256x256 .f32) (ix5 p e (slab i l) r s)
      = if Near i (256 * i + r.val) k then ((f (2 * p.val + e.val) (ChunkSpec.column (256 * i + r.val) (256 * i + k - 512)) : ℝ) : EReal) else ⊥ := by
  have hl := l.isLt
  have hr := r.isLt
  have hs := s.isLt
  have hp := p.isLt
  have he := e.isLt
  rw [bias_eq]
  by_cases h2 : 2 ≤ i + l.val
  · have hik : 512 ≤ 256 * i + k := by omega
    have hsl : (slab i l).val = l.val := by rw [slab_val, if_pos h2]
    have hc : ChunkSpec.column (256 * i + r.val) (256 * i + k - 512) < 257 := by unfold ChunkSpec.column; omega
    rw [slabs_apply _ p e (slab i l) (by omega) r s ⟨2 * p.val + e.val, by omega⟩ ⟨k, by omega⟩ rfl (by dsimp only; omega)]
    rw [masked_apply _ _ _ _ _ _ ⟨ChunkSpec.column (256 * i + r.val) (256 * i + k - 512), hc⟩ (by
      rw [cols_apply, less_apply, rows_apply, places_apply, ChunkIdx.col_back i r.val k hr (by omega) hik])]
    rw [seen_apply, less_apply, rowChunks_apply, placeChunks_apply, rows_apply, places_apply, hf]
    by_cases hn : ChunkSpec.Seen (256 * i + r.val) (256 * i + k - 512)
    · rw [if_pos ⟨hik, hn⟩]
      exact if_pos ((ChunkIdx.near_back i r.val k hr (by omega) hik).2 hn)
    · rw [if_neg fun hc => hn hc.2]
      exact if_neg fun hc => hn ((ChunkIdx.near_back i r.val k hr (by omega) hik).1 hc)
  · have hsl : slab i l = 3 := by unfold slab; rw [if_neg h2]
    rw [hsl, slabs_last, if_neg]
    intro hc
    have := hc.1
    omega

/-! ## Where the windows' blocks lie -/

/-- Where the block of queries lies. -/
theorem idx0 : ∀ t : Fin grid0.N, win0_0.index t 0 = (grid0.coords t 0).val * 32 + (grid0.coords t 2).val
    ∧ win0_0.index t 1 = (grid0.coords t 1).val := by decide +kernel

/-- Where the first block of keys lies. -/
theorem idx1 : ∀ t : Fin grid0.N, win0_1.index t 0 = (grid0.coords t 0).val * 32 + ((grid0.coords t 2).val + 0 - 2)
    ∧ win0_1.index t 1 = (8 + (grid0.coords t 1).val) := by decide +kernel

/-- Where the second block of keys lies. -/
theorem idx2 : ∀ t : Fin grid0.N, win0_2.index t 0 = (grid0.coords t 0).val * 32 + ((grid0.coords t 2).val + 1 - 2)
    ∧ win0_2.index t 1 = (8 + (grid0.coords t 1).val) := by decide +kernel

/-- Where the third block of keys lies. -/
theorem idx3 : ∀ t : Fin grid0.N, win0_3.index t 0 = (grid0.coords t 0).val * 32 + ((grid0.coords t 2).val + 2 - 2)
    ∧ win0_3.index t 1 = (8 + (grid0.coords t 1).val) := by decide +kernel

/-- Where the first block of values lies. -/
theorem idx4 : ∀ t : Fin grid0.N, win0_4.index t 0 = (grid0.coords t 0).val * 32 + ((grid0.coords t 2).val + 0 - 2)
    ∧ win0_4.index t 1 = (16 + (grid0.coords t 1).val) := by decide +kernel

/-- Where the second block of values lies. -/
theorem idx5 : ∀ t : Fin grid0.N, win0_5.index t 0 = (grid0.coords t 0).val * 32 + ((grid0.coords t 2).val + 1 - 2)
    ∧ win0_5.index t 1 = (16 + (grid0.coords t 1).val) := by decide +kernel

/-- Where the third block of values lies. -/
theorem idx6 : ∀ t : Fin grid0.N, win0_6.index t 0 = (grid0.coords t 0).val * 32 + ((grid0.coords t 2).val + 2 - 2)
    ∧ win0_6.index t 1 = (16 + (grid0.coords t 1).val) := by decide +kernel

/-- Where the block of biases lies. -/
theorem idx7 : ∀ t : Fin grid0.N, win0_7.index t 0 = (grid0.coords t 1).val ∧ win0_7.index t 1 = 0 ∧ win0_7.index t 2 = 0
    ∧ win0_7.index t 3 = 0 ∧ win0_7.index t 4 = 0 := by decide +kernel
/-- Where the block of results lies. -/
theorem idx8 : ∀ t : Fin grid0.N, win0_8.index t 0 = (grid0.coords t 0).val * 32 + (grid0.coords t 2).val
    ∧ win0_8.index t 1 = (grid0.coords t 1).val := by decide +kernel
/-- The block of results is written back at every point of the grid. -/
theorem flush8 : ∀ t : Fin grid0.N, (cfg0.win 8).flush t = true := by decide +kernel

/-- Every triple of coordinates is a point's. -/
theorem point_of : ∀ (b p : Fin 8) (q : Fin 32), ∃ t : Fin grid0.N, (grid0.coords t 0).val = b.val
    ∧ (grid0.coords t 1).val = p.val ∧ (grid0.coords t 2).val = q.val := by
  have h : ∀ (b p : Fin 8) (q : Fin 32), (grid0.coords ⟨b.val * 256 + p.val * 32 + q.val, by
      show _ < 2048; omega⟩ 0).val = b.val
      ∧ (grid0.coords ⟨b.val * 256 + p.val * 32 + q.val, by show _ < 2048; omega⟩ 1).val = p.val
      ∧ (grid0.coords ⟨b.val * 256 + p.val * 32 + q.val, by show _ < 2048; omega⟩ 2).val = q.val := by decide +kernel
  exact fun b p q => ⟨_, h b p q⟩

/-- The arguments are the real arrays `h` (its first 3072 columns) and `f`. -/
def ArgsReal (h f : ℕ → ℕ → ℝ) : Prop :=
  (∀ (n : Fin 65536) (e : Fin 4096), e.val < 3072 →
      (m ((c : Thread nD τ).loc main_arg0) : Vec Ideal S65536x4096 .bf16) (ix2 n e) = ((h n.val e.val : ℝ) : EReal))
    ∧ ∀ (a : Fin 16) (x : Fin 257),
      (m ((c : Thread nD τ).loc main_arg1) : Vec Ideal S16x257 .f32) (ix2 a x) = ((f a.val x.val : ℝ) : EReal)

/-- The result: at each row and column the formula. -/
def result (h f : ℕ → ℕ → ℝ) : Buf (Elt Ideal) ((c : Thread nD τ).loc main_v36) :=
  fun j : S65536x1024.Idx => ((ChunkSpec.value h f ((j 0).val / 8192) ((j 0).val % 8192) (j 1).val : ℝ) : EReal)

variable (h f : ℕ → ℕ → ℝ) (H : ArgsReal m c h f)
include H

/-- An entry of the block of queries. -/
theorem q_apply (t : Fin grid0.N) (r : Fin 256) (d : Fin 128) :
    (iblk m c 0 t : Vec Ideal S256x128 .bf16) (ix2 r d)
      = ((h (8192 * (grid0.coords t 0).val + (256 * (grid0.coords t 2).val + r.val)) (128 * (grid0.coords t 1).val + d.val) : ℝ) : EReal) := by
  have hb : (grid0.coords t 0).val < 8 := (grid0.coords t 0).isLt
  have hp : (grid0.coords t 1).val < 8 := (grid0.coords t 1).isLt
  have hq : (grid0.coords t 2).val < 32 := (grid0.coords t 2).isLt
  have hr := r.isLt
  have hd := d.isLt
  refine Eq.trans ?_ (H.1 ⟨8192 * (grid0.coords t 0).val + (256 * (grid0.coords t 2).val + r.val), by omega⟩ ⟨128 * (grid0.coords t 1).val + d.val, by omega⟩ (by dsimp only; omega))
  unfold iblk
  rw [View.read_apply]
  show V m c main_arg0 _ = _
  rw [V_main_arg0]
  congr 1
  funext a
  apply Fin.ext
  match a with
  | ⟨0, _⟩ => show win0_0.index t 0 * 256 + 1 * r.val = 8192 * (grid0.coords t 0).val + (256 * (grid0.coords t 2).val + r.val); rw [(idx0 t).1]; omega
  | ⟨1, _⟩ => show win0_0.index t 1 * 128 + 1 * d.val = 128 * (grid0.coords t 1).val + d.val; rw [(idx0 t).2]; omega

/-- An entry of the first block of keys. -/
theorem k0_apply (t : Fin grid0.N) (r : Fin 256) (d : Fin 128) :
    (iblk m c 1 t : Vec Ideal S256x128 .bf16) (ix2 r d)
      = ((h (8192 * (grid0.coords t 0).val + (256 * ((grid0.coords t 2).val + 0 - 2) + r.val)) (1024 + 128 * (grid0.coords t 1).val + d.val) : ℝ) : EReal) := by
  have hb : (grid0.coords t 0).val < 8 := (grid0.coords t 0).isLt
  have hp : (grid0.coords t 1).val < 8 := (grid0.coords t 1).isLt
  have hq : (grid0.coords t 2).val < 32 := (grid0.coords t 2).isLt
  have hr := r.isLt
  have hd := d.isLt
  refine Eq.trans ?_ (H.1 ⟨8192 * (grid0.coords t 0).val + (256 * ((grid0.coords t 2).val + 0 - 2) + r.val), by omega⟩ ⟨1024 + 128 * (grid0.coords t 1).val + d.val, by omega⟩ (by dsimp only; omega))
  unfold iblk
  rw [View.read_apply]
  show V m c main_arg0 _ = _
  rw [V_main_arg0]
  congr 1
  funext a
  apply Fin.ext
  match a with
  | ⟨0, _⟩ => show win0_1.index t 0 * 256 + 1 * r.val = 8192 * (grid0.coords t 0).val + (256 * ((grid0.coords t 2).val + 0 - 2) + r.val); rw [(idx1 t).1]; omega
  | ⟨1, _⟩ => show win0_1.index t 1 * 128 + 1 * d.val = 1024 + 128 * (grid0.coords t 1).val + d.val; rw [(idx1 t).2]; omega

/-- An entry of the second block of keys. -/
theorem k1_apply (t : Fin grid0.N) (r : Fin 256) (d : Fin 128) :
    (iblk m c 2 t : Vec Ideal S256x128 .bf16) (ix2 r d)
      = ((h (8192 * (grid0.coords t 0).val + (256 * ((grid0.coords t 2).val + 1 - 2) + r.val)) (1024 + 128 * (grid0.coords t 1).val + d.val) : ℝ) : EReal) := by
  have hb : (grid0.coords t 0).val < 8 := (grid0.coords t 0).isLt
  have hp : (grid0.coords t 1).val < 8 := (grid0.coords t 1).isLt
  have hq : (grid0.coords t 2).val < 32 := (grid0.coords t 2).isLt
  have hr := r.isLt
  have hd := d.isLt
  refine Eq.trans ?_ (H.1 ⟨8192 * (grid0.coords t 0).val + (256 * ((grid0.coords t 2).val + 1 - 2) + r.val), by omega⟩ ⟨1024 + 128 * (grid0.coords t 1).val + d.val, by omega⟩ (by dsimp only; omega))
  unfold iblk
  rw [View.read_apply]
  show V m c main_arg0 _ = _
  rw [V_main_arg0]
  congr 1
  funext a
  apply Fin.ext
  match a with
  | ⟨0, _⟩ => show win0_2.index t 0 * 256 + 1 * r.val = 8192 * (grid0.coords t 0).val + (256 * ((grid0.coords t 2).val + 1 - 2) + r.val); rw [(idx2 t).1]; omega
  | ⟨1, _⟩ => show win0_2.index t 1 * 128 + 1 * d.val = 1024 + 128 * (grid0.coords t 1).val + d.val; rw [(idx2 t).2]; omega

/-- An entry of the third block of keys. -/
theorem k2_apply (t : Fin grid0.N) (r : Fin 256) (d : Fin 128) :
    (iblk m c 3 t : Vec Ideal S256x128 .bf16) (ix2 r d)
      = ((h (8192 * (grid0.coords t 0).val + (256 * ((grid0.coords t 2).val + 2 - 2) + r.val)) (1024 + 128 * (grid0.coords t 1).val + d.val) : ℝ) : EReal) := by
  have hb : (grid0.coords t 0).val < 8 := (grid0.coords t 0).isLt
  have hp : (grid0.coords t 1).val < 8 := (grid0.coords t 1).isLt
  have hq : (grid0.coords t 2).val < 32 := (grid0.coords t 2).isLt
  have hr := r.isLt
  have hd := d.isLt
  refine Eq.trans ?_ (H.1 ⟨8192 * (grid0.coords t 0).val + (256 * ((grid0.coords t 2).val + 2 - 2) + r.val), by omega⟩ ⟨1024 + 128 * (grid0.coords t 1).val + d.val, by omega⟩ (by dsimp only; omega))
  unfold iblk
  rw [View.read_apply]
  show V m c main_arg0 _ = _
  rw [V_main_arg0]
  congr 1
  funext a
  apply Fin.ext
  match a with
  | ⟨0, _⟩ => show win0_3.index t 0 * 256 + 1 * r.val = 8192 * (grid0.coords t 0).val + (256 * ((grid0.coords t 2).val + 2 - 2) + r.val); rw [(idx3 t).1]; omega
  | ⟨1, _⟩ => show win0_3.index t 1 * 128 + 1 * d.val = 1024 + 128 * (grid0.coords t 1).val + d.val; rw [(idx3 t).2]; omega

/-- An entry of the first block of values. -/
theorem v0_apply (t : Fin grid0.N) (r : Fin 256) (d : Fin 128) :
    (iblk m c 4 t : Vec Ideal S256x128 .bf16) (ix2 r d)
      = ((h (8192 * (grid0.coords t 0).val + (256 * ((grid0.coords t 2).val + 0 - 2) + r.val)) (2048 + (128 * (grid0.coords t 1).val + d.val)) : ℝ) : EReal) := by
  have hb : (grid0.coords t 0).val < 8 := (grid0.coords t 0).isLt
  have hp : (grid0.coords t 1).val < 8 := (grid0.coords t 1).isLt
  have hq : (grid0.coords t 2).val < 32 := (grid0.coords t 2).isLt
  have hr := r.isLt
  have hd := d.isLt
  refine Eq.trans ?_ (H.1 ⟨8192 * (grid0.coords t 0).val + (256 * ((grid0.coords t 2).val + 0 - 2) + r.val), by omega⟩ ⟨2048 + (128 * (grid0.coords t 1).val + d.val), by omega⟩ (by dsimp only; omega))
  unfold iblk
  rw [View.read_apply]
  show V m c main_arg0 _ = _
  rw [V_main_arg0]
  congr 1
  funext a
  apply Fin.ext
  match a with
  | ⟨0, _⟩ => show win0_4.index t 0 * 256 + 1 * r.val = 8192 * (grid0.coords t 0).val + (256 * ((grid0.coords t 2).val + 0 - 2) + r.val); rw [(idx4 t).1]; omega
  | ⟨1, _⟩ => show win0_4.index t 1 * 128 + 1 * d.val = 2048 + (128 * (grid0.coords t 1).val + d.val); rw [(idx4 t).2]; omega

/-- An entry of the second block of values. -/
theorem v1_apply (t : Fin grid0.N) (r : Fin 256) (d : Fin 128) :
    (iblk m c 5 t : Vec Ideal S256x128 .bf16) (ix2 r d)
      = ((h (8192 * (grid0.coords t 0).val + (256 * ((grid0.coords t 2).val + 1 - 2) + r.val)) (2048 + (128 * (grid0.coords t 1).val + d.val)) : ℝ) : EReal) := by
  have hb : (grid0.coords t 0).val < 8 := (grid0.coords t 0).isLt
  have hp : (grid0.coords t 1).val < 8 := (grid0.coords t 1).isLt
  have hq : (grid0.coords t 2).val < 32 := (grid0.coords t 2).isLt
  have hr := r.isLt
  have hd := d.isLt
  refine Eq.trans ?_ (H.1 ⟨8192 * (grid0.coords t 0).val + (256 * ((grid0.coords t 2).val + 1 - 2) + r.val), by omega⟩ ⟨2048 + (128 * (grid0.coords t 1).val + d.val), by omega⟩ (by dsimp only; omega))
  unfold iblk
  rw [View.read_apply]
  show V m c main_arg0 _ = _
  rw [V_main_arg0]
  congr 1
  funext a
  apply Fin.ext
  match a with
  | ⟨0, _⟩ => show win0_5.index t 0 * 256 + 1 * r.val = 8192 * (grid0.coords t 0).val + (256 * ((grid0.coords t 2).val + 1 - 2) + r.val); rw [(idx5 t).1]; omega
  | ⟨1, _⟩ => show win0_5.index t 1 * 128 + 1 * d.val = 2048 + (128 * (grid0.coords t 1).val + d.val); rw [(idx5 t).2]; omega

/-- An entry of the third block of values. -/
theorem v2_apply (t : Fin grid0.N) (r : Fin 256) (d : Fin 128) :
    (iblk m c 6 t : Vec Ideal S256x128 .bf16) (ix2 r d)
      = ((h (8192 * (grid0.coords t 0).val + (256 * ((grid0.coords t 2).val + 2 - 2) + r.val)) (2048 + (128 * (grid0.coords t 1).val + d.val)) : ℝ) : EReal) := by
  have hb : (grid0.coords t 0).val < 8 := (grid0.coords t 0).isLt
  have hp : (grid0.coords t 1).val < 8 := (grid0.coords t 1).isLt
  have hq : (grid0.coords t 2).val < 32 := (grid0.coords t 2).isLt
  have hr := r.isLt
  have hd := d.isLt
  refine Eq.trans ?_ (H.1 ⟨8192 * (grid0.coords t 0).val + (256 * ((grid0.coords t 2).val + 2 - 2) + r.val), by omega⟩ ⟨2048 + (128 * (grid0.coords t 1).val + d.val), by omega⟩ (by dsimp only; omega))
  unfold iblk
  rw [View.read_apply]
  show V m c main_arg0 _ = _
  rw [V_main_arg0]
  congr 1
  funext a
  apply Fin.ext
  match a with
  | ⟨0, _⟩ => show win0_6.index t 0 * 256 + 1 * r.val = 8192 * (grid0.coords t 0).val + (256 * ((grid0.coords t 2).val + 2 - 2) + r.val); rw [(idx6 t).1]; omega
  | ⟨1, _⟩ => show win0_6.index t 1 * 128 + 1 * d.val = 2048 + (128 * (grid0.coords t 1).val + d.val); rw [(idx6 t).2]; omega

omit H in
/-- An entry of the block of biases. -/
theorem b_apply (t : Fin grid0.N) (hp : (grid0.coords t 1).val < 8) (e : Fin 2) (l : Fin 4) (r s : Fin 256) :
    (iblk m c 7 t : Vec Ideal S1x2x4x256x256 .f32) (ix5 0 e l r s)
      = (V m c main_v35 : Vec Ideal S8x2x4x256x256 .f32) (ix5 ⟨(grid0.coords t 1).val, hp⟩ e l r s) := by
  unfold iblk
  rw [View.read_apply]
  show V m c main_v35 _ = _
  congr 1
  funext a
  apply Fin.ext
  match a with
  | ⟨0, _⟩ => show win0_7.index t 0 * 1 + 1 * 0 = (grid0.coords t 1).val; rw [(idx7 t).1]; omega
  | ⟨1, _⟩ => show win0_7.index t 1 * 2 + 1 * e.val = e.val; rw [(idx7 t).2.1]; omega
  | ⟨2, _⟩ => show win0_7.index t 2 * 4 + 1 * l.val = l.val; rw [(idx7 t).2.2.1]; omega
  | ⟨3, _⟩ => show win0_7.index t 3 * 256 + 1 * r.val = r.val; rw [(idx7 t).2.2.2.1]; omega
  | ⟨4, _⟩ => show win0_7.index t 4 * 256 + 1 * s.val = s.val; rw [(idx7 t).2.2.2.2]; omega

/-- The bias of the first head for a block of keys. -/
theorem b0_apply (t : Fin grid0.N) (l : Fin 3) (r s : Fin 256) (k : ℕ) (hk : k = 256 * l.val + s.val) :
    bias0 (grid0.coords t) (iblk m c 7 t) l (ix5 0 0 0 r s)
      = if Near (grid0.coords t 2).val (256 * (grid0.coords t 2).val + r.val) k
        then ((f (2 * (grid0.coords t 1).val + 0) (ChunkSpec.column (256 * (grid0.coords t 2).val + r.val) (256 * (grid0.coords t 2).val + k - 512)) : ℝ) : EReal)
        else ⊥ := by
  have hp : (grid0.coords t 1).val < 8 := (grid0.coords t 1).isLt
  have hq : (grid0.coords t 2).val < 32 := (grid0.coords t 2).isLt
  rw [bias0_apply, b_apply m c t hp]
  exact bias_apply m c f H.2 ⟨(grid0.coords t 1).val, hp⟩ 0 _ hq l r s k hk

/-- The bias of the second head for a block of keys. -/
theorem b1_apply (t : Fin grid0.N) (l : Fin 3) (r s : Fin 256) (k : ℕ) (hk : k = 256 * l.val + s.val) :
    bias1 (grid0.coords t) (iblk m c 7 t) l (ix5 0 0 0 r s)
      = if Near (grid0.coords t 2).val (256 * (grid0.coords t 2).val + r.val) k
        then ((f (2 * (grid0.coords t 1).val + 1) (ChunkSpec.column (256 * (grid0.coords t 2).val + r.val) (256 * (grid0.coords t 2).val + k - 512)) : ℝ) : EReal)
        else ⊥ := by
  have hp : (grid0.coords t 1).val < 8 := (grid0.coords t 1).isLt
  have hq : (grid0.coords t 2).val < 32 := (grid0.coords t 2).isLt
  rw [bias1_apply, b_apply m c t hp]
  exact bias_apply m c f H.2 ⟨(grid0.coords t 1).val, hp⟩ 1 _ hq l r s k hk

/-! ## The array -/

/-- WHAT A POINT WRITES BACK is its block of the result. -/
theorem flushed_eq (t : Fin cfg0.N) (_ : (cfg0.win 8).flush t = true) :
    (dats m 0 c).flushed 8 t = ((cfg0.win 8).blk t).view.read (Elt Ideal) (result c h f) := by
  have hb : (grid0.coords t 0).val < 8 := (grid0.coords t 0).isLt
  have hp : (grid0.coords t 1).val < 8 := (grid0.coords t 1).isLt
  have hq : (grid0.coords t 2).val < 32 := (grid0.coords t 2).isLt
  refine (flushed8_A m c t).trans ?_
  rw [out_eq]
  refine funext fun (j : S256x128.Idx) => ?_
  rw [View.read_apply]
  obtain ⟨r, d, rfl⟩ : ∃ (r : Fin 256) (d : Fin 128), j = ix2 r d := ⟨j 0, j 1, by
    funext a; match a with | ⟨0, _⟩ => rfl | ⟨1, _⟩ => rfl⟩
  have hr := r.isLt
  have hd := d.isLt
  have e0 : ((((cfg0.win 8).blk t).view.emb (ix2 r d) : S65536x1024.Idx) 0).val
      = 8192 * (grid0.coords t 0).val + (256 * (grid0.coords t 2).val + r.val) := by
    show win0_8.index t 0 * 256 + 1 * r.val = _; rw [(idx8 t).1]; omega
  have e1 : ((((cfg0.win 8).blk t).view.emb (ix2 r d) : S65536x1024.Idx) 1).val = 128 * (grid0.coords t 1).val + d.val := by
    show win0_8.index t 1 * 128 + 1 * d.val = _; rw [(idx8 t).2]; omega
  refine (both_apply (iblk m c 0 t) (iblk m c 1 t) (iblk m c 2 t) (iblk m c 3 t) (iblk m c 4 t) (iblk m c 5 t) (iblk m c 6 t) _ _ _ _ r d).trans ?_
  show _ = ((ChunkSpec.value h f (((((cfg0.win 8).blk t).view.emb (ix2 r d) : S65536x1024.Idx) 0).val / 8192)
    (((((cfg0.win 8).blk t).view.emb (ix2 r d) : S65536x1024.Idx) 0).val % 8192)
    ((((cfg0.win 8).blk t).view.emb (ix2 r d) : S65536x1024.Idx) 1).val : ℝ) : EReal)
  rw [e0, e1, show (8192 * (grid0.coords t 0).val + (256 * (grid0.coords t 2).val + r.val)) / 8192 = (grid0.coords t 0).val by omega,
    show (8192 * (grid0.coords t 0).val + (256 * (grid0.coords t 2).val + r.val)) % 8192 = 256 * (grid0.coords t 2).val + r.val by omega]
  unfold ChunkSpec.value
  by_cases h1 : 64 ≤ d.val
  · rw [if_pos h1, show (128 * (grid0.coords t 1).val + d.val) / 64 = 2 * (grid0.coords t 1).val + 1 by omega]
    refine soft_value h f _ (grid0.coords t 1).val (grid0.coords t 2).val 1 _ (by omega) hq r _ _ _ _ _ _ _ _ _ _ ?_
      (k0_apply m c h f H t) (k1_apply m c h f H t) (k2_apply m c h f H t)
      (fun j => v0_apply m c h f H t j d) (fun j => v1_apply m c h f H t j d) (fun j => v2_apply m c h f H t j d)
      (fun s => b1_apply m c h f H t 0 r s _ (by show _ = 256 * 0 + s.val; omega)) (fun s => b1_apply m c h f H t 1 r s _ rfl)
      (fun s => b1_apply m c h f H t 2 r s _ (by show _ = 256 * 2 + s.val; omega))
    intro x
    have hx := x.isLt
    rw [high_apply]
    by_cases hxx : 64 ≤ x.val
    · rw [if_pos hxx, if_pos (by omega), q_apply m c h f H]
    · rw [if_neg hxx, if_neg (by omega)]
  · rw [if_neg h1, show (128 * (grid0.coords t 1).val + d.val) / 64 = 2 * (grid0.coords t 1).val + 0 by omega]
    refine (first_apply (iblk m c 0 t) (iblk m c 1 t) (iblk m c 2 t) (iblk m c 3 t) (iblk m c 4 t) (iblk m c 5 t) (iblk m c 6 t) _ _ _ r d).trans ?_
    refine soft_value h f _ (grid0.coords t 1).val (grid0.coords t 2).val 0 _ (by omega) hq r _ _ _ _ _ _ _ _ _ _ ?_
      (k0_apply m c h f H t) (k1_apply m c h f H t) (k2_apply m c h f H t)
      (fun j => v0_apply m c h f H t j d) (fun j => v1_apply m c h f H t j d) (fun j => v2_apply m c h f H t j d)
      (fun s => b0_apply m c h f H t 0 r s _ (by show _ = 256 * 0 + s.val; omega)) (fun s => b0_apply m c h f H t 1 r s _ rfl)
      (fun s => b0_apply m c h f H t 2 r s _ (by show _ = 256 * 2 + s.val; omega))
    intro x
    have hx := x.isLt
    rw [low_apply]
    by_cases hxx : x.val < 64
    · rw [if_pos hxx, if_pos (by omega), q_apply m c h f H]
    · rw [if_neg hxx, if_neg (by omega)]

/-- THE RESULT ARRAY ends holding the formula. -/
theorem final : (dats m 0 c).arrAt 8 cfg0.N = result c h f :=
  (dats m 0 c).arrAt_eq_of_cover 8 (result c h f) (flushed_eq m c h f H) fun i => by
    have h0 : (i 0 : ℕ) < 65536 := (i 0).isLt
    have h1 : (i 1 : ℕ) < 1024 := (i 1).isLt
    obtain ⟨t, hb, hp, hq⟩ := point_of ⟨(i 0 : ℕ) / 8192, by omega⟩ ⟨(i 1 : ℕ) / 128, by omega⟩ ⟨(i 0 : ℕ) % 8192 / 256, by omega⟩
    dsimp only at hb hp hq
    refine ⟨t, flush8 t, ?_⟩
    show i ∈ ((View.whole main_v36).slice (win0_8.rect t)).set
    rw [View.set_slice_whole, Rect.mem_set_unit]
    intro a
    match a with
    | ⟨0, _⟩ =>
      show win0_8.index t 0 * 256 ≤ (i 0 : ℕ) ∧ (i 0 : ℕ) < win0_8.index t 0 * 256 + 256
      rw [(idx8 t).1]; omega
    | ⟨1, _⟩ =>
      show win0_8.index t 1 * 128 ≤ (i 1 : ℕ) ∧ (i 1 : ℕ) < win0_8.index t 1 * 128 + 128
      rw [(idx8 t).2]; omega

end Cert.ChunkIdeal.Array

end
-- ==== Proof.ChunkRef.lean ====
module

public import proofs.«01_k».proof.Proof.ChunkIdx
public import proofs.«01_k».proof.Proof.RefExpo
public import proofs.«01_k».proof.Proof.RefValue
public import proofs.«01_k».proof.Proof.Gen.ChunkRefIdeal.Run

@[expose] public section

set_option synthInstance.maxSize 4096
set_option maxRecDepth 16384

/-!
What the array of the chunked attention's reference holds, over real arguments: every element is the formula of the chunked attention.
-/

noncomputable section

namespace Cert.ChunkRefIdeal.Chain

open Idealize.ShloMosaic Idealize.ShloMosaic.TcCoe Idealize.SL.Sem Cert.ChunkRefIdeal.Gen Cert.ChunkRefIdeal.Value
  Cert.ReferenceIdeal.Fox

/-- The chunks of the positions. -/
def chunks : IVec S8192 32 :=
  select (andi (cmpi .ne (signi (iotaInDim S8192 32 0)) (broadcastInDim S8192 ![] bcast_S_S8192 (signi (id (constantI S_ 32 64#32)))))
      (cmpi .ne (Host.remsi (iotaInDim S8192 32 0) (broadcastInDim S8192 ![] bcast_S_S8192 (id (constantI S_ 32 64#32))))
        (broadcastInDim S8192 ![] bcast_S_S8192 (constantI S_ 32 0#32))))
    (subi (Host.divsi (iotaInDim S8192 32 0) (broadcastInDim S8192 ![] bcast_S_S8192 (id (constantI S_ 32 64#32))))
      (broadcastInDim S8192 ![] bcast_S_S8192 (constantI S_ 32 1#32)))
    (Host.divsi (iotaInDim S8192 32 0) (broadcastInDim S8192 ![] bcast_S_S8192 (id (constantI S_ 32 64#32))))

/-- A row's number less a column's. -/
def less (x : IVec S8192 32) : IVec S8192x8192 32 :=
  subi (broadcastInDim S8192x8192 ![0, 1] bcast_S8192x1_S8192x8192_0_1 (broadcastInDim S8192x1 ![0] bcast_S8192_S8192x1_0 x))
    (broadcastInDim S8192x8192 ![0, 1] bcast_S1x8192_S8192x8192_0_1 (broadcastInDim S1x8192 ![1] bcast_S8192_S1x8192_1 x))

/-- Which columns a row sees. -/
def seen : IVec S8192x8192 1 :=
  andi (cmpi .sge (less chunks) (broadcastInDim S8192x8192 ![] bcast_S_S8192x8192 (constantI S_ 32 0#32)))
    (cmpi .sle (less chunks) (broadcastInDim S8192x8192 ![] bcast_S_S8192x8192 (constantI S_ 32 8#32)))

/-- The distances, kept between -128 and 128, plus 128. -/
def dist : IVec S8192x8192 32 :=
  addi (minsi (broadcastInDim S8192x8192 ![] bcast_S_S8192x8192 (id (constantI S_ 32 128#32)))
      (maxsi (broadcastInDim S8192x8192 ![] bcast_S_S8192x8192 (id (constantI S_ 32 4294967168#32))) (less (iotaInDim S8192 32 0))))
    (broadcastInDim S8192x8192 ![] bcast_S_S8192x8192 (constantI S_ 32 128#32))

/-- The columns of the table of biases. -/
def cols : IVec S8192x8192 32 :=
  select (cmpi .slt dist (broadcastInDim S8192x8192 ![] bcast_S_S8192x8192 (constantI S_ 32 0#32)))
    (addi dist (broadcastInDim S8192x8192 ![] bcast_S_S8192x8192 (constantI S_ 32 257#32))) dist

/-- The biases. -/
def biases (B : FVec Ideal S16x257 .f32) : FVec Ideal S16x8192x8192 .f32 :=
  Host.gather gather_S16x257_S8192x8192x1_S16x8192x8192_0_1_n_n_1_2_161 B
    (broadcastInDim S8192x8192x1 ![0, 1] bcast_S8192x8192_S8192x8192x1_0_1 cols)

/-- The masked logits. -/
def scores (q k : FVec Ideal S8x16x8192x64 .f32) (g : FVec Ideal S16x8192x8192 .f32) : FVec Ideal S8x16x8192x8192 .f32 :=
  select (broadcastInDim S8x16x8192x8192 ![2, 3] bcast_S8192x8192_S8x16x8192x8192_2_3 seen)
    (addf (Host.dotGeneral dot_S8x16x8192x64_S8x16x8192x64_S8x16x8192x8192_3_3_2_2_01_01 none q k)
      (broadcastInDim S8x16x8192x8192 ![0, 1, 2, 3] bcast_S1x16x8192x8192_S8x16x8192x8192_0_1_2_3
        (broadcastInDim S1x16x8192x8192 ![1, 2, 3] bcast_S16x8192x8192_S1x16x8192x8192_1_2_3 g)))
    (broadcastInDim S8x16x8192x8192 ![] bcast_S_S8x16x8192x8192 (id (constant S_ .f32 0xFF800000#32)))

/-- The reference's result, in these steps. -/
theorem res_eq (m : (ℓ : Loc nD τ sig) → Buf (Elt Ideal) ℓ) (c : Dev nD) : res_out0 m c
    = merged (weighted (expo (scores
        (heads (m ((c.tc : Thread nD τ).loc main_arg0)) 0 slices_S8x8192x4096_S8x8192x1024_0_0_0)
        (heads (m ((c.tc : Thread nD τ).loc main_arg0)) 1024 slices_S8x8192x4096_S8x8192x1024_0_0_1024)
        (biases (m ((c.tc : Thread nD τ).loc main_arg1)))))
      (heads (m ((c.tc : Thread nD τ).loc main_arg0)) 2048 slices_S8x8192x4096_S8x8192x1024_0_0_2048)) := by
  unfold res_out0 res_main_v59
  rfl

/-- The chunk of a position. -/
theorem chunks_apply (t : Fin 8192) : chunks (ix1 t) = ChunkIdx.chunk (BitVec.ofNat 32 t.val) := rfl

/-- A difference of numbers. -/
theorem less_apply (x : IVec S8192 32) (t s : Fin 8192) : less x (ix2 t s) = x (ix1 t) - x (ix1 s) := by
  pointwise [less]
  rfl

/-- Whether a row sees a column. -/
theorem seen_apply (t s : Fin 8192) : seen (ix2 t s) = ChunkIdx.near (ChunkIdx.chunk (BitVec.ofNat 32 t.val) - ChunkIdx.chunk (BitVec.ofNat 32 s.val)) := by
  have h : seen (ix2 t s) = ChunkIdx.near (less chunks (ix2 t s)) := by
    pointwise [seen]
    rfl
  rw [h, less_apply, chunks_apply, chunks_apply]

/-- The column of the table for a row and a column. -/
theorem cols_apply (t s : Fin 8192) : cols (ix2 t s) = ChunkIdx.col (BitVec.ofNat 32 t.val - BitVec.ofNat 32 s.val) := by
  have h : cols (ix2 t s) = ChunkIdx.col (less (iotaInDim S8192 32 0) (ix2 t s)) := by
    pointwise [cols, dist]
    rfl
  rw [h, less_apply]
  rfl

/-- A word of the array of columns with a last axis of one. -/
theorem word_apply (x : IVec S8192x8192 32) (t s : Fin 8192) :
    broadcastInDim S8192x8192x1 ![0, 1] bcast_S8192x8192_S8192x8192x1_0_1 x (ix3 t s 0) = x (ix2 t s) := by
  pointwise

/-- A bias. -/
theorem biases_apply (B : FVec Ideal S16x257 .f32) (a : Fin 16) (t s : Fin 8192) (k : Fin 257) (hk : k.val = ChunkSpec.column t.val s.val) :
    biases B (ix3 a t s) = B (ix2 a k) := by
  have hc : broadcastInDim S8192x8192x1 ![0, 1] bcast_S8192x8192_S8192x8192x1_0_1 cols (ix3 t s 0) = cols (ix2 t s) :=
    word_apply cols t s
  unfold biases
  generalize hx : broadcastInDim S8192x8192x1 ![0, 1] bcast_S8192x8192_S8192x8192x1_0_1 cols = x at hc
  have key := ChunkIdx.columns_apply (N := 257) (A := 8192) (B := 8192) (by decide)
    gather_S16x257_S8192x8192x1_S16x8192x8192_0_1_n_n_1_2_161_wf B x a t s
  refine Eq.trans ?_ (key.trans ?_)
  · rfl
  refine congrArg (fun j => B (ix2 a j)) (Fin.ext ?_)
  dsimp only
  rw [hc, cols_apply, ChunkIdx.col_pos _ _ t.isLt s.isLt, ← hk]
  have := k.isLt
  omega

/-- A logit: the product of a query and a key plus the bias, minus infinity where the row does not see the column. -/
theorem scores_apply (q k : FVec Ideal S8x16x8192x64 .f32) (g : FVec Ideal S16x8192x8192 .f32) (b : Fin 8) (a : Fin 16) (t s : Fin 8192) :
    scores q k g (ix4 b a t s)
      = if ChunkSpec.Seen t.val s.val then (∑ d : Fin 64, q (ix4 b a t d) * k (ix4 b a s d)) + g (ix3 a t s) else ⊥ := by
  have h : scores q k g (ix4 b a t s) = Scalar.select (seen (ix2 t s))
      ((∑ d : Fin 64, q (ix4 b a t d) * k (ix4 b a s d)) + g (ix3 a t s)) (Ideal.ofBits .f32 0xFF800000#32) := by
    pointwise [scores]
    rfl
  rw [h, seen_apply, neg_inf]
  by_cases hs : ChunkSpec.Seen t.val s.val
  · rw [(ChunkIdx.near_pos _ _ t.isLt s.isLt).2 hs, if_pos hs]; rfl
  · rw [if_neg hs]
    exact if_neg fun hc => hs ((ChunkIdx.near_pos _ _ t.isLt s.isLt).1 hc)

/-- With real arguments (the columns read by the attention being `h`, the table `r`) an element of the reference's result is the formula of the
    chunked attention. -/
theorem chain_apply (A : FVec Ideal S65536x4096 .bf16) (B : FVec Ideal S16x257 .f32) (h r : ℕ → ℕ → ℝ)
    (hA : ∀ (n : Fin 65536) (e : Fin 4096), e.val < 3072 → A (ix2 n e) = ((h n.val e.val : ℝ) : EReal))
    (hB : ∀ (a : Fin 16) (x : Fin 257), B (ix2 a x) = ((r a.val x.val : ℝ) : EReal)) (n : Fin 65536) (e : Fin 1024) :
    merged (weighted (expo (scores (heads A 0 slices_S8x8192x4096_S8x8192x1024_0_0_0)
        (heads A 1024 slices_S8x8192x4096_S8x8192x1024_0_0_1024) (biases B)))
      (heads A 2048 slices_S8x8192x4096_S8x8192x1024_0_0_2048)) (ix2 n e)
      = ((ChunkSpec.value h r (n.val / 8192) (n.val % 8192) e.val : ℝ) : EReal) := by
  have hn := n.isLt
  have he := e.isLt
  obtain ⟨b, hb⟩ : ∃ b : Fin 8, b.val = n.val / 8192 := ⟨⟨n.val / 8192, by omega⟩, rfl⟩
  obtain ⟨t, ht⟩ : ∃ t : Fin 8192, t.val = n.val % 8192 := ⟨⟨n.val % 8192, by omega⟩, rfl⟩
  obtain ⟨a, ha⟩ : ∃ a : Fin 16, a.val = e.val / 64 := ⟨⟨e.val / 64, by omega⟩, rfl⟩
  obtain ⟨d, hd⟩ : ∃ d : Fin 64, d.val = e.val % 64 := ⟨⟨e.val % 64, by omega⟩, rfl⟩
  have hQ : ∀ (o : ℕ) (ho : S8x8192x4096.Slices ![0, 0, o] S8x8192x1024) (_ : o ≤ 2048) (s : Fin 8192) (x : Fin 64),
      heads A o ho (ix4 b a s x) = ((h (8192 * b.val + s.val) (o + 64 * a.val + x.val) : ℝ) : EReal) := by
    intro o ho hle s x
    have hbl := b.isLt
    have hsl := s.isLt
    have hal := a.isLt
    have hxl := x.isLt
    rw [heads_apply A o ho b a s x ⟨8192 * b.val + s.val, by omega⟩ ⟨o + 64 * a.val + x.val, by omega⟩ rfl rfl]
    exact hA _ _ (by show o + 64 * a.val + x.val < 3072; omega)
  rw [merged_apply _ n e b a t d (by omega) (by omega), weighted_apply]
  simp only [expo_apply]
  rw [← hb, ← ht]
  unfold ChunkSpec.value
  refine ChunkSpec.whole_row (N := 8192) (ChunkSpec.Seen t.val) _ _ _ _ ?_ ?_ t ⟨le_rfl, Nat.le_add_right _ _⟩
  · intro s
    have hc : ChunkSpec.column t.val s.val < 257 := by unfold ChunkSpec.column; omega
    rw [scores_apply, biases_apply B a t s ⟨_, hc⟩ rfl, hB]
    by_cases hst : ChunkSpec.Seen t.val s.val
    · rw [if_pos hst, if_pos hst]
      simp only [hQ 0 _ (by omega), hQ 1024 _ (by omega), ← EReal.coe_mul]
      rw [coe_sum_fin, ← EReal.coe_add]
      congr 1
      unfold ChunkSpec.score
      rw [← ha]
      simp only [Nat.zero_add]
    · rw [if_neg hst, if_neg hst]
  · intro s
    rw [hQ 2048 _ (by omega)]
    congr 2
    omega

end Cert.ChunkRefIdeal.Chain

end
-- ==== Proof.ChunkFinite.lean ====
module

public import proofs.«01_k».proof.Proof.Finite
public import proofs.«01_k».proof.Proof.Gen.Pre_finite_chunk

@[expose] public section

set_option synthInstance.maxSize 4096
set_option maxRecDepth 16384

/-!
What the precondition of the chunked attention says: the columns it reads, and the table of biases, are real numbers.
-/

noncomputable section

namespace Cert.ChunkIdeal.Finite

open Idealize.ShloMosaic Idealize.ShloMosaic.TcCoe Idealize.SL.Sem Cert.KernelIdeal.Finite

/-- The precondition's two arrays of truth values being all true, the first 3072 columns of the first argument and the whole
    second argument hold real numbers. -/
theorem reals (A : FVec Ideal Cert.Pre_finite_chunk.S65536x4096 .bf16) (B : FVec Ideal Cert.Pre_finite_chunk.S16x257 .f32)
    (hp : (Cert.Pre_finite_chunk.fn (F := Ideal) A B).1 = (fun _ => 1#1) ∧ (Cert.Pre_finite_chunk.fn (F := Ideal) A B).2 = (fun _ => 1#1)) :
    (∀ (n : Fin 65536) (e : Fin 4096), e.val < 3072 → A (ix2 n e) = ((nums A n.val e.val : ℝ) : EReal))
      ∧ ∀ (a : Fin 16) (x : Fin 257), B (ix2 a x) = ((nums B a.val x.val : ℝ) : EReal) := by
  constructor
  · intro n e he
    rw [nums_apply]
    refine real_of_abs _ _ inf_bf16 ?_
    have h := congrFun hp.1 (ix2 n ⟨e.val, he⟩)
    have hx : extractStridedSlice Cert.Pre_finite_chunk.S65536x3072 ![0, 0] A Cert.Pre_finite_chunk.Facts.slices_S65536x4096_S65536x3072_0_0
        (ix2 n ⟨e.val, he⟩) = A (ix2 n e) := by
      unfold extractStridedSlice
      congr 1
      funext x
      apply Fin.ext
      match x with
      | ⟨0, _⟩ => show 0 + n.val = n.val; omega
      | ⟨1, _⟩ => show 0 + e.val = e.val; omega
    rw [← hx]
    exact h
  · intro a x
    rw [nums_apply]
    exact real_of_abs _ _ inf_f32 (congrFun hp.2 (ix2 a x))

end Cert.ChunkIdeal.Finite

end
-- ==== Proof.lean ====
/- The claim of this certificate and its proof: for each of the calls, the frames of its three programs, the rewrites that lead from
   the kernel to its idealization, and the kernel's equality with the reference over the extended reals. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormIdeal.Value
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import proofs.«01_k».proof.Proof.Gen.Gate
public import proofs.«01_k».proof.Proof.Gen.Gate.Frame
public import proofs.«01_k».proof.Proof.Gen.GateIdeal
public import proofs.«01_k».proof.Proof.Gen.GateIdeal.Frame
public import proofs.«01_k».proof.Proof.Gen.GateIdeal.Value
public import proofs.«01_k».proof.Proof.Gen.GateRefIdeal
public import proofs.«01_k».proof.Proof.Gen.GateRefIdeal.Run
public import proofs.«01_k».proof.Proof.Gen.Pre_finite_gates
public import proofs.«01_k».proof.Proof.Gen.Chunk
public import proofs.«01_k».proof.Proof.Gen.Chunk.Frame
public import proofs.«01_k».proof.Proof.Gen.ChunkIdeal
public import proofs.«01_k».proof.Proof.Gen.ChunkIdeal.Frame
public import proofs.«01_k».proof.Proof.Gen.ChunkIdeal.Value
public import proofs.«01_k».proof.Proof.Gen.ChunkRefIdeal
public import proofs.«01_k».proof.Proof.Gen.ChunkRefIdeal.Run
public import proofs.«01_k».proof.Proof.Gen.Pre_finite_chunk
public import proofs.«01_k».proof.Proof.Gen.NormRefIdeal
public import proofs.«01_k».proof.Proof.Gen.NormRefIdeal.Run
public import proofs.«01_k».proof.Proof.Gen.ProjRefIdeal
public import proofs.«01_k».proof.Proof.Gen.ProjRefIdeal.Run
public import proofs.«01_k».proof.Proof.Finite
public import proofs.«01_k».proof.Proof.RefValue
public import proofs.«01_k».proof.Proof.NormArray
public import proofs.«01_k».proof.Proof.NormRef
public import proofs.«01_k».proof.Proof.ProjArray
public import proofs.«01_k».proof.Proof.ProjRef
public import proofs.«01_k».proof.Proof.GateArray
public import proofs.«01_k».proof.Proof.GateRef
public import proofs.«01_k».proof.Proof.ChunkArray
public import proofs.«01_k».proof.Proof.ChunkRef
public import proofs.«01_k».proof.Proof.ChunkFinite
public import Idealize.ShloMosaic.Adequacy
public import Idealize.ShloMosaic.Init

@[expose] public section

noncomputable section

namespace Cert.Proof

open Idealize.ShloMosaic Idealize.ShloMosaic.TcCoe Idealize.SL.Sem

/-- The attention kernel runs, leaves its arguments as they were, and ends with every counter at zero. -/
theorem frame_kernel : Cert.quiescent_Kernel := fun m ρ _ => Cert.Kernel.Gen.frame m ρ

/-- So does its idealization. -/
theorem frame_ideal : Cert.quiescent_KernelIdeal := fun m ρ _ => Cert.KernelIdeal.Gen.frame m ρ

/-- So does its idealization from arguments that meet the precondition. -/
theorem frame_ideal_finite : Cert.quiescent_KernelIdeal_pre_finite := fun m ρ _ => Cert.KernelIdeal.Gen.frame m ρ

/-- The reference runs, leaves its arguments as they were, and ends with every counter at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- So does the reference from arguments that meet the precondition. -/
theorem frame_reference_finite : Cert.quiescent_ReferenceIdeal_pre_finite := fun m ρ _ => frame_reference m ρ trivial

/-- The idealization differs from the kernel in the mask's constant, which is minus infinity. -/
theorem preserves : Cert.preserves_Kernel_KernelIdeal :=
  IdealRules.named_const.statement Cert.KernelIdeal.κ "mask" .f32 0xF149F2CA#32 ⊥ rfl

/-- The reference's result from the kernel's arguments: at each row and column the attention's formula. -/
theorem reference_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h f : ℕ → ℕ → ℝ) (H : Cert.KernelIdeal.Array.ArgsReal m c h f) :
    Cert.ReferenceIdeal.Value.res_out0 m' c = Cert.KernelIdeal.Array.result c h f := by
  rw [Cert.ReferenceIdeal.Fox.res_eq, h0, h1]
  funext j
  obtain ⟨n, e, rfl⟩ : ∃ (n : Fin 65536) (e : Fin 1024), j = ix2 n e := ⟨j 0, j 1, by
    funext x
    match x with
    | ⟨0, _⟩ => rfl
    | ⟨1, _⟩ => rfl⟩
  exact Cert.ReferenceIdeal.Fox.chain_apply _ _ h f H.1 H.2 n e

/-- Over the extended reals the kernel's result is the reference's, element by element. -/
theorem algebraic : Cert.algebraic_KernelIdeal_ReferenceIdeal_pre_finite := by
  intro m ρ m' ρ' hpre hag
  obtain ⟨h, f, H⟩ : ∃ h f : Dev Cert.KernelIdeal.nD → ℕ → ℕ → ℝ, ∀ c, Cert.KernelIdeal.Array.ArgsReal m c (h c) (f c) :=
    ⟨_, _, fun c => Cert.KernelIdeal.Finite.reals _ _ (hpre c)⟩
  refine ⟨fun c => Cert.KernelIdeal.Array.result c (h c) (f c), ?_, ?_⟩
  · exact (θ_run Cert.KernelIdeal.defs _ _).mono
      (fun r k c => ⟨(k c).1.trans (Cert.KernelIdeal.Array.final m c (h c) (f c) (H c)), (k c).2⟩)
      (Cert.KernelIdeal.Value.run_blocks (F := Ideal) m ρ)
  · exact (θ_run Cert.ReferenceIdeal.defs _ _).mono
      (fun r k c => ⟨(k c).1.trans (reference_result m m' c (hag c).1 (hag c).2 (h c) (f c) (H c)), (k c).2⟩)
      (Cert.ReferenceIdeal.Value.run (F := Ideal) m' ρ')

/-- The output projection's kernel runs, leaves its arguments as they were, and ends with every counter at zero. -/
theorem frame_norm : Cert.quiescent_Norm := fun m ρ _ => Cert.Norm.Gen.frame m ρ

/-- So does its idealization. -/
theorem frame_norm_ideal : Cert.quiescent_NormIdeal := fun m ρ _ => Cert.NormIdeal.Gen.frame m ρ

/-- So does its reference. -/
theorem frame_norm_reference : Cert.quiescent_NormRefIdeal := fun m ρ _ =>
  (θ_run Cert.NormRefIdeal.defs _ _).mono (fun r h => ⟨fun c => (h c).2, sem_eq_zero_of_no_sems (by decide) r.2⟩)
    (Cert.NormRefIdeal.Value.run (F := Ideal) m ρ)

/-- The output projection's reference, from the kernel's arguments. -/
theorem norm_result (m : (ℓ : Loc Cert.NormIdeal.nD Cert.NormIdeal.τ Cert.NormIdeal.sig) → Buf (Elt Ideal) ℓ)
    (m' : (ℓ : Loc Cert.NormRefIdeal.nD Cert.NormRefIdeal.τ Cert.NormRefIdeal.sig) → Buf (Elt Ideal) ℓ)
    (c : Dev Cert.NormIdeal.nD)
    (h0 : m' ((c.tc : Thread Cert.NormRefIdeal.nD Cert.NormRefIdeal.τ).loc Cert.NormRefIdeal.main_arg0)
      = m ((c.tc : Thread Cert.NormIdeal.nD Cert.NormIdeal.τ).loc Cert.NormIdeal.main_arg0))
    (h1 : m' ((c.tc : Thread Cert.NormRefIdeal.nD Cert.NormRefIdeal.τ).loc Cert.NormRefIdeal.main_arg1)
      = m ((c.tc : Thread Cert.NormIdeal.nD Cert.NormIdeal.τ).loc Cert.NormIdeal.main_arg1))
    (h2 : m' ((c.tc : Thread Cert.NormRefIdeal.nD Cert.NormRefIdeal.τ).loc Cert.NormRefIdeal.main_arg2)
      = m ((c.tc : Thread Cert.NormIdeal.nD Cert.NormIdeal.τ).loc Cert.NormIdeal.main_arg2))
    (h3 : m' ((c.tc : Thread Cert.NormRefIdeal.nD Cert.NormRefIdeal.τ).loc Cert.NormRefIdeal.main_arg3)
      = m ((c.tc : Thread Cert.NormIdeal.nD Cert.NormIdeal.τ).loc Cert.NormIdeal.main_arg3))
    (h4 : m' ((c.tc : Thread Cert.NormRefIdeal.nD Cert.NormRefIdeal.τ).loc Cert.NormRefIdeal.main_arg4)
      = m ((c.tc : Thread Cert.NormIdeal.nD Cert.NormIdeal.τ).loc Cert.NormIdeal.main_arg4))
    (h5 : m' ((c.tc : Thread Cert.NormRefIdeal.nD Cert.NormRefIdeal.τ).loc Cert.NormRefIdeal.main_arg5)
      = m ((c.tc : Thread Cert.NormIdeal.nD Cert.NormIdeal.τ).loc Cert.NormIdeal.main_arg5)) :
    Cert.NormRefIdeal.Value.res_main_v35 m' c = Cert.NormIdeal.Array.result m c := by
  funext j
  obtain ⟨n, e, rfl⟩ : ∃ (n : Fin 65536) (e : Fin 1024), j = ix2 n e := ⟨j 0, j 1, by
    funext x
    match x with
    | ⟨0, _⟩ => rfl
    | ⟨1, _⟩ => rfl⟩
  refine (Cert.NormRefIdeal.Steps.res_apply m' c n e).trans ?_
  rw [h0, h1, h2, h3, h4, h5]
  rfl

/-- Over the extended reals the output projection's kernel and reference have the same result, element by element. -/
theorem algebraic_norm : Cert.algebraic_NormIdeal_NormRefIdeal := by
  intro m ρ m' ρ' _ hag
  refine ⟨fun c => Cert.NormIdeal.Array.result m c, ?_, ?_⟩
  · exact (θ_run Cert.NormIdeal.defs _ _).mono
      (fun r k c => ⟨(k c).1.trans (Cert.NormIdeal.Array.final m c), (k c).2⟩)
      (Cert.NormIdeal.Value.run_blocks (F := Ideal) m ρ)
  · exact (θ_run Cert.NormRefIdeal.defs _ _).mono
      (fun r k c => ⟨(k c).1.trans (norm_result m m' c (hag c).1 (hag c).2.1 (hag c).2.2.1 (hag c).2.2.2.1 (hag c).2.2.2.2.1 (hag c).2.2.2.2.2), (k c).2⟩)
      (Cert.NormRefIdeal.Value.run (F := Ideal) m' ρ')

/-- The projection's kernel runs, leaves its arguments as they were, and ends with every counter at zero. -/
theorem frame_proj : Cert.quiescent_Proj := fun m ρ _ => Cert.Proj.Gen.frame m ρ

/-- So does its idealization. -/
theorem frame_proj_ideal : Cert.quiescent_ProjIdeal := fun m ρ _ => Cert.ProjIdeal.Gen.frame m ρ

/-- So does its reference. -/
theorem frame_proj_reference : Cert.quiescent_ProjRefIdeal := fun m ρ _ =>
  (θ_run Cert.ProjRefIdeal.defs _ _).mono (fun r h => ⟨fun c => (h c).2, sem_eq_zero_of_no_sems (by decide) r.2⟩)
    (Cert.ProjRefIdeal.Value.run (F := Ideal) m ρ)

/-- The projection's reference, from the arguments. -/
theorem proj_result (m : (ℓ : Loc Cert.ProjIdeal.nD Cert.ProjIdeal.τ Cert.ProjIdeal.sig) → Buf (Elt Ideal) ℓ) (c : Dev Cert.ProjIdeal.nD)
    (x : FVec Ideal Cert.ProjRefIdeal.S65536x1024 .f32) (w : FVec Ideal Cert.ProjRefIdeal.S1024x4096 .f32)
    (h0 : x = m ((c.tc : Thread Cert.ProjIdeal.nD Cert.ProjIdeal.τ).loc Cert.ProjIdeal.main_arg0))
    (h1 : w = m ((c.tc : Thread Cert.ProjIdeal.nD Cert.ProjIdeal.τ).loc Cert.ProjIdeal.main_arg1)) :
    (truncf .bf16 (Cert.ProjRefIdeal.Steps.joined (Cert.ProjRefIdeal.Steps.product x w)) Cert.ProjRefIdeal.Gen.bitsLt_bf16_f32
      : FVec Ideal Cert.ProjRefIdeal.S65536x4096 .bf16) = Cert.ProjIdeal.Array.result m c := by
  subst h0 h1
  funext j
  obtain ⟨n, e, rfl⟩ : ∃ (n : Fin 65536) (e : Fin 4096), j = ix2 n e := ⟨j 0, j 1, by
    funext x
    match x with
    | ⟨0, _⟩ => rfl
    | ⟨1, _⟩ => rfl⟩
  exact Cert.ProjRefIdeal.Steps.res_apply _ _ n e

/-- Over the extended reals the projection's kernel and reference have the same result, element by element. -/
theorem algebraic_proj : Cert.algebraic_ProjIdeal_ProjRefIdeal := by
  intro m ρ m' ρ' _ hag
  refine ⟨fun c => Cert.ProjIdeal.Array.result m c, ?_, ?_⟩
  · exact (θ_run Cert.ProjIdeal.defs _ _).mono
      (fun r k c => ⟨(k c).1.trans (Cert.ProjIdeal.Array.final m c), (k c).2⟩)
      (Cert.ProjIdeal.Value.run_blocks (F := Ideal) m ρ)
  · exact (θ_run Cert.ProjRefIdeal.defs _ _).mono
      (fun r k c => ⟨(k c).1.trans (proj_result m c _ _ (hag c).1 (hag c).2), (k c).2⟩)
      (Cert.ProjRefIdeal.Value.run (F := Ideal) m' ρ')

/-- The gates' kernel runs, leaves its arguments as they were, and ends with every counter at zero. -/
theorem frame_gate : Cert.quiescent_Gate := fun m ρ _ => Cert.Gate.Gen.frame m ρ

/-- So does its idealization. -/
theorem frame_gate_ideal : Cert.quiescent_GateIdeal := fun m ρ _ => Cert.GateIdeal.Gen.frame m ρ

/-- So does its idealization from arguments that meet the precondition. -/
theorem frame_gate_ideal_finite : Cert.quiescent_GateIdeal_pre_finite_gates := fun m ρ _ => Cert.GateIdeal.Gen.frame m ρ

/-- So does its reference. -/
theorem frame_gate_reference : Cert.quiescent_GateRefIdeal := fun m ρ _ =>
  (θ_run Cert.GateRefIdeal.defs _ _).mono (fun r h => ⟨fun c => (h c).2.2, sem_eq_zero_of_no_sems (by decide) r.2⟩)
    (Cert.GateRefIdeal.Value.run (F := Ideal) m ρ)

/-- So does its reference from arguments that meet the precondition. -/
theorem frame_gate_reference_finite : Cert.quiescent_GateRefIdeal_pre_finite_gates := fun m ρ _ => frame_gate_reference m ρ trivial

/-- The precondition's arrays of truth values being all true, the activations and the gates' weights are real numbers. -/
theorem gate_reals (m : (ℓ : Loc Cert.GateIdeal.nD Cert.GateIdeal.τ Cert.GateIdeal.sig) → Buf (Elt Ideal) ℓ) (hpre : Cert.Pre_GateIdeal_finite_gates m)
    (c : Dev Cert.GateIdeal.nD) : ∃ (x w : ℕ → ℕ → ℝ) (b : ℕ → EReal), Cert.GateIdeal.Array.ArgsReal m c x w b := by
  obtain ⟨h0, h1⟩ := hpre c
  refine ⟨Cert.KernelIdeal.Finite.nums (m ((c.tc : Thread Cert.GateIdeal.nD Cert.GateIdeal.τ).loc Cert.GateIdeal.main_arg0) : FVec Ideal Cert.GateIdeal.S65536x1024 .f32),
    Cert.KernelIdeal.Finite.nums (m ((c.tc : Thread Cert.GateIdeal.nD Cert.GateIdeal.τ).loc Cert.GateIdeal.main_arg2) : FVec Ideal Cert.GateIdeal.S1024x16 .f32),
    fun h => if hh : h < 16 then ((m ((c.tc : Thread Cert.GateIdeal.nD Cert.GateIdeal.τ).loc Cert.GateIdeal.main_arg3) : FVec Ideal Cert.GateIdeal.S16 .f32) (ix1 ⟨h, hh⟩)) else 0,
    fun n k => ?_, fun k h => ?_, fun h => ?_⟩
  · rw [Cert.KernelIdeal.Finite.nums_apply]
    exact Cert.KernelIdeal.Finite.real_of_abs _ _ Cert.KernelIdeal.Finite.inf_f32 (congrFun h0 (ix2 n k))
  · rw [Cert.KernelIdeal.Finite.nums_apply]
    exact Cert.KernelIdeal.Finite.real_of_abs _ _ Cert.KernelIdeal.Finite.inf_f32 (congrFun h1 (ix2 k h))
  · show _ = (if hh : h.val < 16 then
      (m ((c.tc : Thread Cert.GateIdeal.nD Cert.GateIdeal.τ).loc Cert.GateIdeal.main_arg3) : FVec Ideal Cert.GateIdeal.S16 .f32) (ix1 ⟨h.val, hh⟩) else (0 : EReal))
    rw [dif_pos h.isLt]

/-- The reference's projection, from the kernel's arguments. -/
theorem gate_result (m : (ℓ : Loc Cert.GateIdeal.nD Cert.GateIdeal.τ Cert.GateIdeal.sig) → Buf (Elt Ideal) ℓ) (c : Dev Cert.GateIdeal.nD)
    (x : FVec Ideal Cert.GateRefIdeal.S65536x1024 .f32) (w : FVec Ideal Cert.GateRefIdeal.S1024x4096 .f32)
    (h0 : x = m ((c.tc : Thread Cert.GateIdeal.nD Cert.GateIdeal.τ).loc Cert.GateIdeal.main_arg0))
    (h1 : w = m ((c.tc : Thread Cert.GateIdeal.nD Cert.GateIdeal.τ).loc Cert.GateIdeal.main_arg1)) :
    (truncf .bf16 (Cert.GateRefIdeal.Steps.joined (Cert.GateRefIdeal.Steps.product x w)) Cert.GateRefIdeal.Gen.bitsLt_bf16_f32
      : FVec Ideal Cert.GateRefIdeal.S65536x4096 .bf16) = Cert.GateIdeal.Array.result m c := by
  subst h0 h1
  funext j
  obtain ⟨n, e, rfl⟩ : ∃ (n : Fin 65536) (e : Fin 4096), j = ix2 n e := ⟨j 0, j 1, by
    funext x
    match x with
    | ⟨0, _⟩ => rfl
    | ⟨1, _⟩ => rfl⟩
  exact Cert.GateRefIdeal.Steps.res_apply _ _ n e

/-- The reference's running sums, from the kernel's arguments. -/
theorem gate_sums (m : (ℓ : Loc Cert.GateIdeal.nD Cert.GateIdeal.τ Cert.GateIdeal.sig) → Buf (Elt Ideal) ℓ) (c : Dev Cert.GateIdeal.nD)
    (X : FVec Ideal Cert.GateRefIdeal.S65536x1024 .f32) (W : FVec Ideal Cert.GateRefIdeal.S1024x16 .f32) (B : FVec Ideal Cert.GateRefIdeal.S16 .f32)
    (h0 : X = m ((c.tc : Thread Cert.GateIdeal.nD Cert.GateIdeal.τ).loc Cert.GateIdeal.main_arg0))
    (h2 : W = m ((c.tc : Thread Cert.GateIdeal.nD Cert.GateIdeal.τ).loc Cert.GateIdeal.main_arg2))
    (h3 : B = m ((c.tc : Thread Cert.GateIdeal.nD Cert.GateIdeal.τ).loc Cert.GateIdeal.main_arg3))
    (x w : ℕ → ℕ → ℝ) (b : ℕ → EReal) (H : Cert.GateIdeal.Array.ArgsReal m c x w b) :
    Cert.GateRefIdeal.Steps.summed (Cert.GateRefIdeal.Steps.logs (Cert.GateRefIdeal.Steps.gates X W B)) = Cert.GateIdeal.Array.running c x w b := by
  subst h0 h2 h3
  funext j
  obtain ⟨n, h, rfl⟩ : ∃ (n : Fin 65536) (h : Fin 16), j = ix2 n h := ⟨j 0, j 1, by
    funext x
    match x with
    | ⟨0, _⟩ => rfl
    | ⟨1, _⟩ => rfl⟩
  exact Cert.GateRefIdeal.Steps.sums_apply _ _ _ x w b H.1 H.2.1 H.2.2 n h

/-- Over the extended reals the gates' kernel and reference have the same two results, element by element. -/
theorem algebraic_gate : Cert.algebraic_GateIdeal_GateRefIdeal_pre_finite_gates := by
  intro m ρ m' ρ' hpre hag
  obtain ⟨x, w, b, H⟩ : ∃ (x w : Dev Cert.GateIdeal.nD → ℕ → ℕ → ℝ) (b : Dev Cert.GateIdeal.nD → ℕ → EReal),
      ∀ c, Cert.GateIdeal.Array.ArgsReal m c (x c) (w c) (b c) := by
    choose x w b H using gate_reals m hpre
    exact ⟨x, w, b, H⟩
  refine ⟨fun c => Cert.GateIdeal.Array.result m c, fun c => Cert.GateIdeal.Array.running c (x c) (w c) (b c), ?_, ?_⟩
  · exact (θ_run Cert.GateIdeal.defs _ _).mono
      (fun r k c => ⟨(k c).1.trans (Cert.GateIdeal.Array.final5 m c), (k c).2.1.trans (Cert.GateIdeal.Array.final6 m c (x c) (w c) (b c) (H c)), (k c).2.2⟩)
      (Cert.GateIdeal.Value.run_blocks (F := Ideal) m ρ)
  · exact (θ_run Cert.GateRefIdeal.defs _ _).mono
      (fun r k c => ⟨(k c).1.trans (gate_result m c _ _ (hag c).1 (hag c).2.1),
        (k c).2.1.trans (gate_sums m c _ _ _ (hag c).1 (hag c).2.2.1 (hag c).2.2.2 (x c) (w c) (b c) (H c)), (k c).2.2⟩)
      (Cert.GateRefIdeal.Value.run (F := Ideal) m' ρ')

/-- The chunked attention's kernel runs, leaves its arguments as they were, and ends with every counter at zero. -/
theorem frame_chunk : Cert.quiescent_Chunk := fun m ρ _ => Cert.Chunk.Gen.frame m ρ

/-- So does its idealization. -/
theorem frame_chunk_ideal : Cert.quiescent_ChunkIdeal := fun m ρ _ => Cert.ChunkIdeal.Gen.frame m ρ

/-- So does its idealization from arguments that meet the precondition. -/
theorem frame_chunk_ideal_finite : Cert.quiescent_ChunkIdeal_pre_finite_chunk := fun m ρ _ => Cert.ChunkIdeal.Gen.frame m ρ

/-- So does its reference. -/
theorem frame_chunk_reference : Cert.quiescent_ChunkRefIdeal := fun m ρ _ =>
  (θ_run Cert.ChunkRefIdeal.defs _ _).mono (fun r h => ⟨fun c => (h c).2, sem_eq_zero_of_no_sems (by decide) r.2⟩)
    (Cert.ChunkRefIdeal.Value.run (F := Ideal) m ρ)

/-- So does its reference from arguments that meet the precondition. -/
theorem frame_chunk_reference_finite : Cert.quiescent_ChunkRefIdeal_pre_finite_chunk := fun m ρ _ => frame_chunk_reference m ρ trivial

/-- The chunked attention's reference, from the kernel's arguments: at each row and column the formula. -/
theorem chunk_result (m : (ℓ : Loc Cert.ChunkIdeal.nD Cert.ChunkIdeal.τ Cert.ChunkIdeal.sig) → Buf (Elt Ideal) ℓ)
    (m' : (ℓ : Loc Cert.ChunkRefIdeal.nD Cert.ChunkRefIdeal.τ Cert.ChunkRefIdeal.sig) → Buf (Elt Ideal) ℓ)
    (c : Dev Cert.ChunkIdeal.nD)
    (h0 : m' ((c.tc : Thread Cert.ChunkRefIdeal.nD Cert.ChunkRefIdeal.τ).loc Cert.ChunkRefIdeal.main_arg0)
      = m ((c.tc : Thread Cert.ChunkIdeal.nD Cert.ChunkIdeal.τ).loc Cert.ChunkIdeal.main_arg0))
    (h1 : m' ((c.tc : Thread Cert.ChunkRefIdeal.nD Cert.ChunkRefIdeal.τ).loc Cert.ChunkRefIdeal.main_arg1)
      = m ((c.tc : Thread Cert.ChunkIdeal.nD Cert.ChunkIdeal.τ).loc Cert.ChunkIdeal.main_arg1))
    (h f : ℕ → ℕ → ℝ) (H : Cert.ChunkIdeal.Array.ArgsReal m c h f) :
    Cert.ChunkRefIdeal.Value.res_out0 m' c = Cert.ChunkIdeal.Array.result c h f := by
  rw [Cert.ChunkRefIdeal.Chain.res_eq, h0, h1]
  funext j
  obtain ⟨n, e, rfl⟩ : ∃ (n : Fin 65536) (e : Fin 1024), j = ix2 n e := ⟨j 0, j 1, by
    funext x
    match x with
    | ⟨0, _⟩ => rfl
    | ⟨1, _⟩ => rfl⟩
  exact Cert.ChunkRefIdeal.Chain.chain_apply _ _ h f H.1 H.2 n e

/-- Over the extended reals the chunked attention's kernel and reference have the same result, element by element. -/
theorem algebraic_chunk : Cert.algebraic_ChunkIdeal_ChunkRefIdeal_pre_finite_chunk := by
  intro m ρ m' ρ' hpre hag
  obtain ⟨h, f, H⟩ : ∃ h f : Dev Cert.ChunkIdeal.nD → ℕ → ℕ → ℝ, ∀ c, Cert.ChunkIdeal.Array.ArgsReal m c (h c) (f c) :=
    ⟨_, _, fun c => Cert.ChunkIdeal.Finite.reals _ _ (hpre c)⟩
  refine ⟨fun c => Cert.ChunkIdeal.Array.result c (h c) (f c), ?_, ?_⟩
  · exact (θ_run Cert.ChunkIdeal.defs _ _).mono
      (fun r k c => ⟨(k c).1.trans (Cert.ChunkIdeal.Array.final m c (h c) (f c) (H c)), (k c).2⟩)
      (Cert.ChunkIdeal.Value.run_blocks (F := Ideal) m ρ)
  · exact (θ_run Cert.ChunkRefIdeal.defs _ _).mono
      (fun r k c => ⟨(k c).1.trans (chunk_result m m' c (hag c).1 (hag c).2 (h c) (f c) (H c)), (k c).2⟩)
      (Cert.ChunkRefIdeal.Value.run (F := Ideal) m' ρ')

/-- Everything the certificate claims. -/
theorem claim : Cert.Claim := ⟨Cert.Kernel.Gen.facts, Cert.KernelIdeal.Gen.facts, Cert.ReferenceIdeal.Gen.facts,
  Cert.Norm.Gen.facts, Cert.NormIdeal.Gen.facts, Cert.NormRefIdeal.Gen.facts,
  Cert.Proj.Gen.facts, Cert.ProjIdeal.Gen.facts, Cert.ProjRefIdeal.Gen.facts,
  Cert.Gate.Gen.facts, Cert.GateIdeal.Gen.facts, Cert.GateRefIdeal.Gen.facts,
  Cert.Chunk.Gen.facts, Cert.ChunkIdeal.Gen.facts, Cert.ChunkRefIdeal.Gen.facts,
  Cert.Pre_finite.Gen.facts, Cert.Pre_finite_gates.Gen.facts, Cert.Pre_finite_chunk.Gen.facts,
  frame_kernel, frame_ideal, frame_ideal_finite, frame_reference, frame_reference_finite,
  frame_norm, frame_norm_ideal, frame_norm_reference, frame_proj, frame_proj_ideal, frame_proj_reference,
  frame_gate, frame_gate_ideal, frame_gate_ideal_finite, frame_gate_reference, frame_gate_reference_finite,
  frame_chunk, frame_chunk_ideal, frame_chunk_ideal_finite, frame_chunk_reference, frame_chunk_reference_finite,
  preserves, algebraic, trivial, algebraic_norm, trivial, algebraic_proj, trivial, algebraic_gate, trivial, algebraic_chunk⟩

end Cert.Proof

end
